-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_unit_affine [hPre_finite_unit_affine : Cert.Pre_finite_unit_affine.Facts] (m : (ℓ : Loc Cert.KernelIdeal.nD Cert.KernelIdeal.τ Cert.KernelIdeal.sig) → Buf (Elt Ideal) ℓ) : Prop :=
  ∀ c : Dev Cert.KernelIdeal.nD,
    (Cert.Pre_finite_unit_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_unit_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_unit_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_unit_affine.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_unit_affine [hPre_finite_unit_affine : Cert.Pre_finite_unit_affine.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_unit_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_unit_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_unit_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_unit_affine.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_unit_affine [hKernelIdeal : Cert.KernelIdeal.Facts] [hPre_finite_unit_affine : Cert.Pre_finite_unit_affine.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_unit_affine m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_unit_affine [hReferenceIdeal : Cert.ReferenceIdeal.Facts] [hPre_finite_unit_affine : Cert.Pre_finite_unit_affine.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_unit_affine m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_unit_affine [hKernelIdeal : Cert.KernelIdeal.Facts] [hReferenceIdeal : Cert.ReferenceIdeal.Facts] [hPre_finite_unit_affine : Cert.Pre_finite_unit_affine.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_unit_affine m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v921) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_unit_affine : Cert.Pre_finite_unit_affine.Facts),
    quiescent_Kernel (hKernel := hKernel)
    ∧ quiescent_KernelIdeal (hKernelIdeal := hKernelIdeal)
    ∧ quiescent_KernelIdeal_pre_finite_unit_affine (hKernelIdeal := hKernelIdeal) (hPre_finite_unit_affine := hPre_finite_unit_affine)
    ∧ quiescent_ReferenceIdeal (hReferenceIdeal := hReferenceIdeal)
    ∧ quiescent_ReferenceIdeal_pre_finite_unit_affine (hReferenceIdeal := hReferenceIdeal) (hPre_finite_unit_affine := hPre_finite_unit_affine)
    ∧ preserves_Kernel_KernelIdeal
    ∧ algebraic_KernelIdeal_ReferenceIdeal_pre_finite_unit_affine (hKernelIdeal := hKernelIdeal) (hReferenceIdeal := hReferenceIdeal) (hPre_finite_unit_affine := hPre_finite_unit_affine)
-- ==== Pre_finite_unit_affine.lean ====
abbrev S4096x9x128 : Shape := ⟨3, ![4096, 9, 128]⟩
abbrev S9x9x128x128 : Shape := ⟨4, ![9, 9, 128, 128]⟩
abbrev S9x128 : Shape := ⟨2, ![9, 128]⟩
abbrev S_ : Shape := ⟨0, ![]⟩

class Facts : Prop where
  bcast_S_S4096x9x128 : S_.BroadcastsInDim S4096x9x128 (![] : Fin 0 → Fin S4096x9x128.rank)
  bcast_S_S9x9x128x128 : S_.BroadcastsInDim S9x9x128x128 (![] : Fin 0 → Fin S9x9x128x128.rank)
  bcast_S_S9x128 : S_.BroadcastsInDim S9x128 (![] : Fin 0 → Fin S9x128.rank)

variable [Facts]

def fn {F : FTy → Type} [FloatOps F] (main_arg0 : FVec F S4096x9x128 .f32) (main_arg1 : FVec F S9x9x128x128 .f32) (main_arg2 : FVec F S9x128 .f32) (main_arg3 : FVec F S9x128 .f32) : IVec S4096x9x128 1 × IVec S9x9x128x128 1 × IVec S9x128 1 × IVec S9x128 1 :=
  let main_v0 : FVec F S4096x9x128 .f32 := Host.absf main_arg0
  let main_cst : FVec F S_ .f32 := constant S_ .f32 0x7F800000#32
  let main_v1 : FVec F S4096x9x128 .f32 := broadcastInDim S4096x9x128 ![] bcast_S_S4096x9x128 main_cst
  let main_v2 : IVec S4096x9x128 1 := cmpf .olt main_v0 main_v1
  let main_v3 : FVec F S9x9x128x128 .f32 := Host.absf main_arg1
  let main_cst_0 : FVec F S_ .f32 := constant S_ .f32 0x7F800000#32
  let main_v4 : FVec F S9x9x128x128 .f32 := broadcastInDim S9x9x128x128 ![] bcast_S_S9x9x128x128 main_cst_0
  let main_v5 : IVec S9x9x128x128 1 := cmpf .olt main_v3 main_v4
  let main_cst_1 : FVec F S_ .f32 := constant S_ .f32 0x3F800000#32
  let main_v6 : FVec F S9x128 .f32 := broadcastInDim S9x128 ![] bcast_S_S9x128 main_cst_1
  let main_v7 : IVec S9x128 1 := cmpf .oeq main_arg2 main_v6
  let main_cst_2 : FVec F S_ .f32 := constant S_ .f32 0x00000000#32
  let main_v8 : FVec F S9x128 .f32 := broadcastInDim S9x128 ![] bcast_S_S9x128 main_cst_2
  let main_v9 : IVec S9x128 1 := cmpf .oeq main_arg3 main_v8
  (main_v2, main_v5, main_v7, main_v9)
-- ==== Kernel.lean ====
abbrev S4096x9x128 : Shape := ⟨3, ![4096, 9, 128]⟩
abbrev S9x9x128x128 : Shape := ⟨4, ![9, 9, 128, 128]⟩
abbrev S9x128 : Shape := ⟨2, ![9, 128]⟩
abbrev S4096x1x128 : Shape := ⟨3, ![4096, 1, 128]⟩
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S4096x9 : Shape := ⟨2, ![4096, 9]⟩
abbrev S9x1152x128 : Shape := ⟨3, ![9, 1152, 128]⟩
abbrev S4096x1152 : Shape := ⟨2, ![4096, 1152]⟩
abbrev S512x9 : Shape := ⟨2, ![512, 9]⟩
abbrev S512x128 : Shape := ⟨2, ![512, 128]⟩
abbrev S512x1152 : Shape := ⟨2, ![512, 1152]⟩
abbrev S512x1 : Shape := ⟨2, ![512, 1]⟩
abbrev S1x1152x128 : Shape := ⟨3, ![1, 1152, 128]⟩
abbrev S1152x128 : Shape := ⟨2, ![1152, 128]⟩
abbrev S512 : Shape := ⟨1, ![512]⟩

abbrev nBuf : Space → Nat
  | .hbm => 200
  | .vmem => 23
  | .smem => 0
  | _ => 0

abbrev hbmTy0_0 (i : Nat) : BufTy := match i % 128 with
  | 0 => ⟨S4096x9x128, .f32⟩
  | 1 => ⟨S9x9x128x128, .f32⟩
  | 2 => ⟨S9x128, .f32⟩
  | 3 => ⟨S9x128, .f32⟩
  | 4 => ⟨S4096x1x128, .f32⟩
  | 5 => ⟨S4096x128, .f32⟩
  | 6 => ⟨S_, .f32⟩
  | 7 => ⟨S4096, .f32⟩
  | 8 => ⟨S4096, .f32⟩
  | 9 => ⟨S_, .f32⟩
  | 10 => ⟨S_, .f32⟩
  | 11 => ⟨S4096, .f32⟩
  | 12 => ⟨S4096, .f32⟩
  | 13 => ⟨S4096, .i32⟩
  | 14 => ⟨S_, .i32⟩
  | 15 => ⟨S4096, .i32⟩
  | 16 => ⟨S4096, .i1⟩
  | 17 => ⟨S_, .i32⟩
  | 18 => ⟨S_, .i32⟩
  | 19 => ⟨S4096, .i32⟩
  | 20 => ⟨S4096, .i32⟩
  | 21 => ⟨S_, .i32⟩
  | 22 => ⟨S4096, .i32⟩
  | 23 => ⟨S4096, .i32⟩
  | 24 => ⟨S4096x1x128, .f32⟩
  | 25 => ⟨S4096x128, .f32⟩
  | 26 => ⟨S_, .f32⟩
  | 27 => ⟨S4096, .f32⟩
  | 28 => ⟨S4096, .f32⟩
  | 29 => ⟨S_, .f32⟩
  | 30 => ⟨S_, .f32⟩
  | 31 => ⟨S4096, .f32⟩
  | 32 => ⟨S4096, .f32⟩
  | 33 => ⟨S4096, .i32⟩
  | 34 => ⟨S_, .i32⟩
  | 35 => ⟨S4096, .i32⟩
  | 36 => ⟨S4096, .i1⟩
  | 37 => ⟨S_, .i32⟩
  | 38 => ⟨S_, .i32⟩
  | 39 => ⟨S4096, .i32⟩
  | 40 => ⟨S4096, .i32⟩
  | 41 => ⟨S_, .i32⟩
  | 42 => ⟨S4096, .i32⟩
  | 43 => ⟨S4096, .i32⟩
  | 44 => ⟨S4096x1x128, .f32⟩
  | 45 => ⟨S4096x128, .f32⟩
  | 46 => ⟨S_, .f32⟩
  | 47 => ⟨S4096, .f32⟩
  | 48 => ⟨S4096, .f32⟩
  | 49 => ⟨S_, .f32⟩
  | 50 => ⟨S_, .f32⟩
  | 51 => ⟨S4096, .f32⟩
  | 52 => ⟨S4096, .f32⟩
  | 53 => ⟨S4096, .i32⟩
  | 54 => ⟨S_, .i32⟩
  | 55 => ⟨S4096, .i32⟩
  | 56 => ⟨S4096, .i1⟩
  | 57 => ⟨S_, .i32⟩
  | 58 => ⟨S_, .i32⟩
  | 59 => ⟨S4096, .i32⟩
  | 60 => ⟨S4096, .i32⟩
  | 61 => ⟨S_, .i32⟩
  | 62 => ⟨S4096, .i32⟩
  | 63 => ⟨S4096, .i32⟩
  | 64 => ⟨S4096x1x128, .f32⟩
  | 65 => ⟨S4096x128, .f32⟩
  | 66 => ⟨S_, .f32⟩
  | 67 => ⟨S4096, .f32⟩
  | 68 => ⟨S4096, .f32⟩
  | 69 => ⟨S_, .f32⟩
  | 70 => ⟨S_, .f32⟩
  | 71 => ⟨S4096, .f32⟩
  | 72 => ⟨S4096, .f32⟩
  | 73 => ⟨S4096, .i32⟩
  | 74 => ⟨S_, .i32⟩
  | 75 => ⟨S4096, .i32⟩
  | 76 => ⟨S4096, .i1⟩
  | 77 => ⟨S_, .i32⟩
  | 78 => ⟨S_, .i32⟩
  | 79 => ⟨S4096, .i32⟩
  | 80 => ⟨S4096, .i32⟩
  | 81 => ⟨S_, .i32⟩
  | 82 => ⟨S4096, .i32⟩
  | 83 => ⟨S4096, .i32⟩
  | 84 => ⟨S4096x1x128, .f32⟩
  | 85 => ⟨S4096x128, .f32⟩
  | 86 => ⟨S_, .f32⟩
  | 87 => ⟨S4096, .f32⟩
  | 88 => ⟨S4096, .f32⟩
  | 89 => ⟨S_, .f32⟩
  | 90 => ⟨S_, .f32⟩
  | 91 => ⟨S4096, .f32⟩
  | 92 => ⟨S4096, .f32⟩
  | 93 => ⟨S4096, .i32⟩
  | 94 => ⟨S_, .i32⟩
  | 95 => ⟨S4096, .i32⟩
  | 96 => ⟨S4096, .i1⟩
  | 97 => ⟨S_, .i32⟩
  | 98 => ⟨S_, .i32⟩
  | 99 => ⟨S4096, .i32⟩
  | 100 => ⟨S4096, .i32⟩
  | 101 => ⟨S_, .i32⟩
  | 102 => ⟨S4096, .i32⟩
  | 103 => ⟨S4096, .i32⟩
  | 104 => ⟨S4096x1x128, .f32⟩
  | 105 => ⟨S4096x128, .f32⟩
  | 106 => ⟨S_, .f32⟩
  | 107 => ⟨S4096, .f32⟩
  | 108 => ⟨S4096, .f32⟩
  | 109 => ⟨S_, .f32⟩
  | 110 => ⟨S_, .f32⟩
  | 111 => ⟨S4096, .f32⟩
  | 112 => ⟨S4096, .f32⟩
  | 113 => ⟨S4096, .i32⟩
  | 114 => ⟨S_, .i32⟩
  | 115 => ⟨S4096, .i32⟩
  | 116 => ⟨S4096, .i1⟩
  | 117 => ⟨S_, .i32⟩
  | 118 => ⟨S_, .i32⟩
  | 119 => ⟨S4096, .i32⟩
  | 120 => ⟨S4096, .i32⟩
  | 121 => ⟨S_, .i32⟩
  | 122 => ⟨S4096, .i32⟩
  | 123 => ⟨S4096, .i32⟩
  | 124 => ⟨S4096x1x128, .f32⟩
  | 125 => ⟨S4096x128, .f32⟩
  | 126 => ⟨S_, .f32⟩
  | 127 => ⟨S4096, .f32⟩
  | _ => ⟨S4096x9x128, .f32⟩

abbrev hbmTy0_1 (i : Nat) : BufTy := match i % 128 with
  | 0 => ⟨S4096, .f32⟩
  | 1 => ⟨S_, .f32⟩
  | 2 => ⟨S_, .f32⟩
  | 3 => ⟨S4096, .f32⟩
  | 4 => ⟨S4096, .f32⟩
  | 5 => ⟨S4096, .i32⟩
  | 6 => ⟨S_, .i32⟩
  | 7 => ⟨S4096, .i32⟩
  | 8 => ⟨S4096, .i1⟩
  | 9 => ⟨S_, .i32⟩
  | 10 => ⟨S_, .i32⟩
  | 11 => ⟨S4096, .i32⟩
  | 12 => ⟨S4096, .i32⟩
  | 13 => ⟨S_, .i32⟩
  | 14 => ⟨S4096, .i32⟩
  | 15 => ⟨S4096, .i32⟩
  | 16 => ⟨S4096x1x128, .f32⟩
  | 17 => ⟨S4096x128, .f32⟩
  | 18 => ⟨S_, .f32⟩
  | 19 => ⟨S4096, .f32⟩
  | 20 => ⟨S4096, .f32⟩
  | 21 => ⟨S_, .f32⟩
  | 22 => ⟨S_, .f32⟩
  | 23 => ⟨S4096, .f32⟩
  | 24 => ⟨S4096, .f32⟩
  | 25 => ⟨S4096, .i32⟩
  | 26 => ⟨S_, .i32⟩
  | 27 => ⟨S4096, .i32⟩
  | 28 => ⟨S4096, .i1⟩
  | 29 => ⟨S_, .i32⟩
  | 30 => ⟨S_, .i32⟩
  | 31 => ⟨S4096, .i32⟩
  | 32 => ⟨S4096, .i32⟩
  | 33 => ⟨S_, .i32⟩
  | 34 => ⟨S4096, .i32⟩
  | 35 => ⟨S4096, .i32⟩
  | 36 => ⟨S4096x1x128, .f32⟩
  | 37 => ⟨S4096x128, .f32⟩
  | 38 => ⟨S_, .f32⟩
  | 39 => ⟨S4096, .f32⟩
  | 40 => ⟨S4096, .f32⟩
  | 41 => ⟨S_, .f32⟩
  | 42 => ⟨S_, .f32⟩
  | 43 => ⟨S4096, .f32⟩
  | 44 => ⟨S4096, .f32⟩
  | 45 => ⟨S4096, .i32⟩
  | 46 => ⟨S_, .i32⟩
  | 47 => ⟨S4096, .i32⟩
  | 48 => ⟨S4096, .i1⟩
  | 49 => ⟨S_, .i32⟩
  | 50 => ⟨S_, .i32⟩
  | 51 => ⟨S4096, .i32⟩
  | 52 => ⟨S4096, .i32⟩
  | 53 => ⟨S_, .i32⟩
  | 54 => ⟨S4096, .i32⟩
  | 55 => ⟨S4096, .i32⟩
  | 56 => ⟨S4096x1, .i32⟩
  | 57 => ⟨S4096x1, .i32⟩
  | 58 => ⟨S4096x1, .i32⟩
  | 59 => ⟨S4096x1, .i32⟩
  | 60 => ⟨S4096x1, .i32⟩
  | 61 => ⟨S4096x1, .i32⟩
  | 62 => ⟨S4096x1, .i32⟩
  | 63 => ⟨S4096x1, .i32⟩
  | 64 => ⟨S4096x1, .i32⟩
  | 65 => ⟨S4096x9, .i32⟩
  | 66 => ⟨S4096x9, .bf16⟩
  | 67 => ⟨S9x9x128x128, .bf16⟩
  | 68 => ⟨S9x1152x128, .bf16⟩
  | 69 => ⟨S4096x1152, .f32⟩
  | 70 => ⟨S4096x1152, .f32⟩
  | 71 => ⟨S4096x9x128, .f32⟩
  | _ => ⟨S4096x9x128, .f32⟩

abbrev hbmTy (i : Nat) : BufTy := match i / 128 with
  | 0 => hbmTy0_0 i
  | 1 => hbmTy0_1 i
  | _ => ⟨S4096x9x128, .f32⟩

abbrev bufTy : (tb : Table) → Fin (tcTables nBuf tb) → BufTy
  | .hbm, ⟨i, _⟩ => hbmTy i
  | .local _ .vmem, ⟨0, _⟩ => ⟨S512x9, .bf16⟩
  | .local _ .vmem, ⟨1, _⟩ => ⟨S512x9, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S9x1152x128, .bf16⟩
  | .local _ .vmem, ⟨21, _⟩ => ⟨S512x1152, .f32⟩
  | .local _ .vmem, ⟨22, _⟩ => ⟨S512x1152, .f32⟩
  | _, _ => ⟨S4096x9x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_call1_v0 : Ref sig .tc := ⟨.hbm, 18, rfl⟩
abbrev main_call1_v1 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_call2_v0 : Ref sig .tc := ⟨.hbm, 30, rfl⟩
abbrev main_call2_v1 : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_c_6 : Ref sig .tc := ⟨.hbm, 37, rfl⟩
abbrev main_call3_v0 : Ref sig .tc := ⟨.hbm, 38, rfl⟩
abbrev main_call3_v1 : Ref sig .tc := ⟨.hbm, 39, rfl⟩
abbrev main_v19 : Ref sig .tc := ⟨.hbm, 40, rfl⟩
abbrev main_c_7 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_8 : Ref sig .tc := ⟨.hbm, 46, rfl⟩
abbrev main_v24 : Ref sig .tc := ⟨.hbm, 47, rfl⟩
abbrev main_v25 : Ref sig .tc := ⟨.hbm, 48, rfl⟩
abbrev main_cst_9 : Ref sig .tc := ⟨.hbm, 49, rfl⟩
abbrev main_call4_v0 : Ref sig .tc := ⟨.hbm, 50, rfl⟩
abbrev main_call4_v1 : Ref sig .tc := ⟨.hbm, 51, rfl⟩
abbrev main_v26 : Ref sig .tc := ⟨.hbm, 52, rfl⟩
abbrev main_v27 : Ref sig .tc := ⟨.hbm, 53, rfl⟩
abbrev main_c_10 : Ref sig .tc := ⟨.hbm, 54, rfl⟩
abbrev main_v28 : Ref sig .tc := ⟨.hbm, 55, rfl⟩
abbrev main_v29 : Ref sig .tc := ⟨.hbm, 56, rfl⟩
abbrev main_c_11 : Ref sig .tc := ⟨.hbm, 57, rfl⟩
abbrev main_call5_v0 : Ref sig .tc := ⟨.hbm, 58, rfl⟩
abbrev main_call5_v1 : Ref sig .tc := ⟨.hbm, 59, rfl⟩
abbrev main_v30 : Ref sig .tc := ⟨.hbm, 60, rfl⟩
abbrev main_c_12 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_13 : Ref sig .tc := ⟨.hbm, 66, rfl⟩
abbrev main_v35 : Ref sig .tc := ⟨.hbm, 67, rfl⟩
abbrev main_v36 : Ref sig .tc := ⟨.hbm, 68, rfl⟩
abbrev main_cst_14 : Ref sig .tc := ⟨.hbm, 69, rfl⟩
abbrev main_call6_v0 : Ref sig .tc := ⟨.hbm, 70, rfl⟩
abbrev main_call6_v1 : Ref sig .tc := ⟨.hbm, 71, rfl⟩
abbrev main_v37 : Ref sig .tc := ⟨.hbm, 72, rfl⟩
abbrev main_v38 : Ref sig .tc := ⟨.hbm, 73, rfl⟩
abbrev main_c_15 : Ref sig .tc := ⟨.hbm, 74, rfl⟩
abbrev main_v39 : Ref sig .tc := ⟨.hbm, 75, rfl⟩
abbrev main_v40 : Ref sig .tc := ⟨.hbm, 76, rfl⟩
abbrev main_c_16 : Ref sig .tc := ⟨.hbm, 77, rfl⟩
abbrev main_call7_v0 : Ref sig .tc := ⟨.hbm, 78, rfl⟩
abbrev main_call7_v1 : Ref sig .tc := ⟨.hbm, 79, rfl⟩
abbrev main_v41 : Ref sig .tc := ⟨.hbm, 80, rfl⟩
abbrev main_c_17 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_18 : Ref sig .tc := ⟨.hbm, 86, rfl⟩
abbrev main_v46 : Ref sig .tc := ⟨.hbm, 87, rfl⟩
abbrev main_v47 : Ref sig .tc := ⟨.hbm, 88, rfl⟩
abbrev main_cst_19 : Ref sig .tc := ⟨.hbm, 89, rfl⟩
abbrev main_call8_v0 : Ref sig .tc := ⟨.hbm, 90, rfl⟩
abbrev main_call8_v1 : Ref sig .tc := ⟨.hbm, 91, rfl⟩
abbrev main_v48 : Ref sig .tc := ⟨.hbm, 92, rfl⟩
abbrev main_v49 : Ref sig .tc := ⟨.hbm, 93, rfl⟩
abbrev main_c_20 : Ref sig .tc := ⟨.hbm, 94, rfl⟩
abbrev main_v50 : Ref sig .tc := ⟨.hbm, 95, rfl⟩
abbrev main_v51 : Ref sig .tc := ⟨.hbm, 96, rfl⟩
abbrev main_c_21 : Ref sig .tc := ⟨.hbm, 97, rfl⟩
abbrev main_call9_v0 : Ref sig .tc := ⟨.hbm, 98, rfl⟩
abbrev main_call9_v1 : Ref sig .tc := ⟨.hbm, 99, rfl⟩
abbrev main_v52 : Ref sig .tc := ⟨.hbm, 100, rfl⟩
abbrev main_c_22 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_cst_23 : Ref sig .tc := ⟨.hbm, 106, rfl⟩
abbrev main_v57 : Ref sig .tc := ⟨.hbm, 107, rfl⟩
abbrev main_v58 : Ref sig .tc := ⟨.hbm, 108, rfl⟩
abbrev main_cst_24 : Ref sig .tc := ⟨.hbm, 109, rfl⟩
abbrev main_call10_v0 : Ref sig .tc := ⟨.hbm, 110, rfl⟩
abbrev main_call10_v1 : Ref sig .tc := ⟨.hbm, 111, rfl⟩
abbrev main_v59 : Ref sig .tc := ⟨.hbm, 112, rfl⟩
abbrev main_v60 : Ref sig .tc := ⟨.hbm, 113, rfl⟩
abbrev main_c_25 : Ref sig .tc := ⟨.hbm, 114, rfl⟩
abbrev main_v61 : Ref sig .tc := ⟨.hbm, 115, rfl⟩
abbrev main_v62 : Ref sig .tc := ⟨.hbm, 116, rfl⟩
abbrev main_c_26 : Ref sig .tc := ⟨.hbm, 117, rfl⟩
abbrev main_call11_v0 : Ref sig .tc := ⟨.hbm, 118, rfl⟩
abbrev main_call11_v1 : Ref sig .tc := ⟨.hbm, 119, rfl⟩
abbrev main_v63 : Ref sig .tc := ⟨.hbm, 120, rfl⟩
abbrev main_c_27 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_cst_28 : Ref sig .tc := ⟨.hbm, 126, rfl⟩
abbrev main_v68 : Ref sig .tc := ⟨.hbm, 127, rfl⟩
abbrev main_v69 : Ref sig .tc := ⟨.hbm, 128, rfl⟩
abbrev main_cst_29 : Ref sig .tc := ⟨.hbm, 129, rfl⟩
abbrev main_call12_v0 : Ref sig .tc := ⟨.hbm, 130, rfl⟩
abbrev main_call12_v1 : Ref sig .tc := ⟨.hbm, 131, rfl⟩
abbrev main_v70 : Ref sig .tc := ⟨.hbm, 132, rfl⟩
abbrev main_v71 : Ref sig .tc := ⟨.hbm, 133, rfl⟩
abbrev main_c_30 : Ref sig .tc := ⟨.hbm, 134, rfl⟩
abbrev main_v72 : Ref sig .tc := ⟨.hbm, 135, rfl⟩
abbrev main_v73 : Ref sig .tc := ⟨.hbm, 136, rfl⟩
abbrev main_c_31 : Ref sig .tc := ⟨.hbm, 137, rfl⟩
abbrev main_call13_v0 : Ref sig .tc := ⟨.hbm, 138, rfl⟩
abbrev main_call13_v1 : Ref sig .tc := ⟨.hbm, 139, rfl⟩
abbrev main_v74 : Ref sig .tc := ⟨.hbm, 140, rfl⟩
abbrev main_c_32 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_cst_33 : Ref sig .tc := ⟨.hbm, 146, rfl⟩
abbrev main_v79 : Ref sig .tc := ⟨.hbm, 147, rfl⟩
abbrev main_v80 : Ref sig .tc := ⟨.hbm, 148, rfl⟩
abbrev main_cst_34 : Ref sig .tc := ⟨.hbm, 149, rfl⟩
abbrev main_call14_v0 : Ref sig .tc := ⟨.hbm, 150, rfl⟩
abbrev main_call14_v1 : Ref sig .tc := ⟨.hbm, 151, rfl⟩
abbrev main_v81 : Ref sig .tc := ⟨.hbm, 152, rfl⟩
abbrev main_v82 : Ref sig .tc := ⟨.hbm, 153, rfl⟩
abbrev main_c_35 : Ref sig .tc := ⟨.hbm, 154, rfl⟩
abbrev main_v83 : Ref sig .tc := ⟨.hbm, 155, rfl⟩
abbrev main_v84 : Ref sig .tc := ⟨.hbm, 156, rfl⟩
abbrev main_c_36 : Ref sig .tc := ⟨.hbm, 157, rfl⟩
abbrev main_call15_v0 : Ref sig .tc := ⟨.hbm, 158, rfl⟩
abbrev main_call15_v1 : Ref sig .tc := ⟨.hbm, 159, rfl⟩
abbrev main_v85 : Ref sig .tc := ⟨.hbm, 160, rfl⟩
abbrev main_c_37 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_cst_38 : Ref sig .tc := ⟨.hbm, 166, rfl⟩
abbrev main_v90 : Ref sig .tc := ⟨.hbm, 167, rfl⟩
abbrev main_v91 : Ref sig .tc := ⟨.hbm, 168, rfl⟩
abbrev main_cst_39 : Ref sig .tc := ⟨.hbm, 169, rfl⟩
abbrev main_call16_v0 : Ref sig .tc := ⟨.hbm, 170, rfl⟩
abbrev main_call16_v1 : Ref sig .tc := ⟨.hbm, 171, rfl⟩
abbrev main_v92 : Ref sig .tc := ⟨.hbm, 172, rfl⟩
abbrev main_v93 : Ref sig .tc := ⟨.hbm, 173, rfl⟩
abbrev main_c_40 : Ref sig .tc := ⟨.hbm, 174, rfl⟩
abbrev main_v94 : Ref sig .tc := ⟨.hbm, 175, rfl⟩
abbrev main_v95 : Ref sig .tc := ⟨.hbm, 176, rfl⟩
abbrev main_c_41 : Ref sig .tc := ⟨.hbm, 177, rfl⟩
abbrev main_call17_v0 : Ref sig .tc := ⟨.hbm, 178, rfl⟩
abbrev main_call17_v1 : Ref sig .tc := ⟨.hbm, 179, rfl⟩
abbrev main_v96 : Ref sig .tc := ⟨.hbm, 180, rfl⟩
abbrev main_c_42 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_8 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_9 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x9 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S9x1152x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1152 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S4096x9x128 : Shape := ⟨3, ![4096, 9, 128]⟩
abbrev S9x9x128x128 : Shape := ⟨4, ![9, 9, 128, 128]⟩
abbrev S9x128 : Shape := ⟨2, ![9, 128]⟩
abbrev S4096x1x128 : Shape := ⟨3, ![4096, 1, 128]⟩
abbrev S4096x128 : Shape := ⟨2, ![4096, 128]⟩
abbrev S_ : Shape := ⟨0, ![]⟩
abbrev S4096 : Shape := ⟨1, ![4096]⟩
abbrev S1x9x128x128 : Shape := ⟨4, ![1, 9, 128, 128]⟩
abbrev S9x128x128 : Shape := ⟨3, ![9, 128, 128]⟩
abbrev S4096x1 : Shape := ⟨2, ![4096, 1]⟩
abbrev S1 : Shape := ⟨1, ![1]⟩
abbrev S1x1 : Shape := ⟨2, ![1, 1]⟩
abbrev S4096x128x128 : Shape := ⟨3, ![4096, 128, 128]⟩
abbrev S1x128 : Shape := ⟨2, ![1, 128]⟩
abbrev S128 : Shape := ⟨1, ![128]⟩

abbrev nBuf : Space → Nat
  | .hbm => 2198
  | .vmem => 0
  | .smem => 0
  | _ => 0

abbrev hbmTy0_0 (i : Nat) : BufTy := match i % 128 with
  | 0 => ⟨S4096x9x128, .f32⟩
  | 1 => ⟨S9x9x128x128, .f32⟩
  | 2 => ⟨S9x128, .f32⟩
  | 3 => ⟨S9x128, .f32⟩
  | 4 => ⟨S4096x1x128, .f32⟩
  | 5 => ⟨S4096x128, .f32⟩
  | 6 => ⟨S_, .f32⟩
  | 7 => ⟨S4096, .f32⟩
  | 8 => ⟨S4096, .f32⟩
  | 9 => ⟨S_, .f32⟩
  | 10 => ⟨S_, .f32⟩
  | 11 => ⟨S4096, .f32⟩
  | 12 => ⟨S4096, .f32⟩
  | 13 => ⟨S4096, .i32⟩
  | 14 => ⟨S_, .i32⟩
  | 15 => ⟨S4096, .i32⟩
  | 16 => ⟨S4096, .i1⟩
  | 17 => ⟨S_, .i32⟩
  | 18 => ⟨S_, .i32⟩
  | 19 => ⟨S4096, .i32⟩
  | 20 => ⟨S4096, .i32⟩
  | 21 => ⟨S_, .i32⟩
  | 22 => ⟨S4096, .i32⟩
  | 23 => ⟨S4096, .i32⟩
  | 24 => ⟨S1x9x128x128, .f32⟩
  | 25 => ⟨S9x128x128, .f32⟩
  | 26 => ⟨S_, .i32⟩
  | 27 => ⟨S4096, .i32⟩
  | 28 => ⟨S4096, .i1⟩
  | 29 => ⟨S_, .i32⟩
  | 30 => ⟨S4096, .i32⟩
  | 31 => ⟨S4096, .i32⟩
  | 32 => ⟨S4096, .i32⟩
  | 33 => ⟨S4096x1, .i32⟩
  | 34 => ⟨S1, .i32⟩
  | 35 => ⟨S_, .i32⟩
  | 36 => ⟨S4096x1, .i32⟩
  | 37 => ⟨S4096x1, .i1⟩
  | 38 => ⟨S1x1, .i32⟩
  | 39 => ⟨S4096x1, .i32⟩
  | 40 => ⟨S4096x1, .i1⟩
  | 41 => ⟨S4096x1, .i1⟩
  | 42 => ⟨S_, .i1⟩
  | 43 => ⟨S4096, .i1⟩
  | 44 => ⟨S4096x128x128, .f32⟩
  | 45 => ⟨S4096x128x128, .i1⟩
  | 46 => ⟨S_, .f32⟩
  | 47 => ⟨S4096x128x128, .f32⟩
  | 48 => ⟨S4096x128x128, .f32⟩
  | 49 => ⟨S4096x128, .f32⟩
  | 50 => ⟨S4096x1x128, .f32⟩
  | 51 => ⟨S4096x128, .f32⟩
  | 52 => ⟨S_, .f32⟩
  | 53 => ⟨S4096, .f32⟩
  | 54 => ⟨S4096, .f32⟩
  | 55 => ⟨S_, .f32⟩
  | 56 => ⟨S_, .f32⟩
  | 57 => ⟨S4096, .f32⟩
  | 58 => ⟨S4096, .f32⟩
  | 59 => ⟨S4096, .i32⟩
  | 60 => ⟨S_, .i32⟩
  | 61 => ⟨S4096, .i32⟩
  | 62 => ⟨S4096, .i1⟩
  | 63 => ⟨S_, .i32⟩
  | 64 => ⟨S_, .i32⟩
  | 65 => ⟨S4096, .i32⟩
  | 66 => ⟨S4096, .i32⟩
  | 67 => ⟨S_, .i32⟩
  | 68 => ⟨S4096, .i32⟩
  | 69 => ⟨S4096, .i32⟩
  | 70 => ⟨S1x9x128x128, .f32⟩
  | 71 => ⟨S9x128x128, .f32⟩
  | 72 => ⟨S_, .i32⟩
  | 73 => ⟨S4096, .i32⟩
  | 74 => ⟨S4096, .i1⟩
  | 75 => ⟨S_, .i32⟩
  | 76 => ⟨S4096, .i32⟩
  | 77 => ⟨S4096, .i32⟩
  | 78 => ⟨S4096, .i32⟩
  | 79 => ⟨S4096x1, .i32⟩
  | 80 => ⟨S1, .i32⟩
  | 81 => ⟨S_, .i32⟩
  | 82 => ⟨S4096x1, .i32⟩
  | 83 => ⟨S4096x1, .i1⟩
  | 84 => ⟨S1x1, .i32⟩
  | 85 => ⟨S4096x1, .i32⟩
  | 86 => ⟨S4096x1, .i1⟩
  | 87 => ⟨S4096x1, .i1⟩
  | 88 => ⟨S_, .i1⟩
  | 89 => ⟨S4096, .i1⟩
  | 90 => ⟨S4096x128x128, .f32⟩
  | 91 => ⟨S4096x128x128, .i1⟩
  | 92 => ⟨S_, .f32⟩
  | 93 => ⟨S4096x128x128, .f32⟩
  | 94 => ⟨S4096x128x128, .f32⟩
  | 95 => ⟨S4096x128, .f32⟩
  | 96 => ⟨S4096x128, .f32⟩
  | 97 => ⟨S4096x1x128, .f32⟩
  | 98 => ⟨S4096x128, .f32⟩
  | 99 => ⟨S_, .f32⟩
  | 100 => ⟨S4096, .f32⟩
  | 101 => ⟨S4096, .f32⟩
  | 102 => ⟨S_, .f32⟩
  | 103 => ⟨S_, .f32⟩
  | 104 => ⟨S4096, .f32⟩
  | 105 => ⟨S4096, .f32⟩
  | 106 => ⟨S4096, .i32⟩
  | 107 => ⟨S_, .i32⟩
  | 108 => ⟨S4096, .i32⟩
  | 109 => ⟨S4096, .i1⟩
  | 110 => ⟨S_, .i32⟩
  | 111 => ⟨S_, .i32⟩
  | 112 => ⟨S4096, .i32⟩
  | 113 => ⟨S4096, .i32⟩
  | 114 => ⟨S_, .i32⟩
  | 115 => ⟨S4096, .i32⟩
  | 116 => ⟨S4096, .i32⟩
  | 117 => ⟨S1x9x128x128, .f32⟩
  | 118 => ⟨S9x128x128, .f32⟩
  | 119 => ⟨S_, .i32⟩
  | 120 => ⟨S4096, .i32⟩
  | 121 => ⟨S4096, .i1⟩
  | 122 => ⟨S_, .i32⟩
  | 123 => ⟨S4096, .i32⟩
  | 124 => ⟨S4096, .i32⟩
  | 125 => ⟨S4096, .i32⟩
  | 126 => ⟨S4096x1, .i32⟩
  | 127 => ⟨S1, .i32⟩
  | _ => ⟨S4096x9x128, .f32⟩

abbrev hbmTy0_1 (i : Nat) : BufTy := match i % 128 with
  | 0 => ⟨S_, .i32⟩
  | 1 => ⟨S4096x1, .i32⟩
  | 2 => ⟨S4096x1, .i1⟩
  | 3 => ⟨S1x1, .i32⟩
  | 4 => ⟨S4096x1, .i32⟩
  | 5 => ⟨S4096x1, .i1⟩
  | 6 => ⟨S4096x1, .i1⟩
  | 7 => ⟨S_, .i1⟩
  | 8 => ⟨S4096, .i1⟩
  | 9 => ⟨S4096x128x128, .f32⟩
  | 10 => ⟨S4096x128x128, .i1⟩
  | 11 => ⟨S_, .f32⟩
  | 12 => ⟨S4096x128x128, .f32⟩
  | 13 => ⟨S4096x128x128, .f32⟩
  | 14 => ⟨S4096x128, .f32⟩
  | 15 => ⟨S4096x128, .f32⟩
  | 16 => ⟨S4096x1x128, .f32⟩
  | 17 => ⟨S4096x128, .f32⟩
  | 18 => ⟨S_, .f32⟩
  | 19 => ⟨S4096, .f32⟩
  | 20 => ⟨S4096, .f32⟩
  | 21 => ⟨S_, .f32⟩
  | 22 => ⟨S_, .f32⟩
  | 23 => ⟨S4096, .f32⟩
  | 24 => ⟨S4096, .f32⟩
  | 25 => ⟨S4096, .i32⟩
  | 26 => ⟨S_, .i32⟩
  | 27 => ⟨S4096, .i32⟩
  | 28 => ⟨S4096, .i1⟩
  | 29 => ⟨S_, .i32⟩
  | 30 => ⟨S_, .i32⟩
  | 31 => ⟨S4096, .i32⟩
  | 32 => ⟨S4096, .i32⟩
  | 33 => ⟨S_, .i32⟩
  | 34 => ⟨S4096, .i32⟩
  | 35 => ⟨S4096, .i32⟩
  | 36 => ⟨S1x9x128x128, .f32⟩
  | 37 => ⟨S9x128x128, .f32⟩
  | 38 => ⟨S_, .i32⟩
  | 39 => ⟨S4096, .i32⟩
  | 40 => ⟨S4096, .i1⟩
  | 41 => ⟨S_, .i32⟩
  | 42 => ⟨S4096, .i32⟩
  | 43 => ⟨S4096, .i32⟩
  | 44 => ⟨S4096, .i32⟩
  | 45 => ⟨S4096x1, .i32⟩
  | 46 => ⟨S1, .i32⟩
  | 47 => ⟨S_, .i32⟩
  | 48 => ⟨S4096x1, .i32⟩
  | 49 => ⟨S4096x1, .i1⟩
  | 50 => ⟨S1x1, .i32⟩
  | 51 => ⟨S4096x1, .i32⟩
  | 52 => ⟨S4096x1, .i1⟩
  | 53 => ⟨S4096x1, .i1⟩
  | 54 => ⟨S_, .i1⟩
  | 55 => ⟨S4096, .i1⟩
  | 56 => ⟨S4096x128x128, .f32⟩
  | 57 => ⟨S4096x128x128, .i1⟩
  | 58 => ⟨S_, .f32⟩
  | 59 => ⟨S4096x128x128, .f32⟩
  | 60 => ⟨S4096x128x128, .f32⟩
  | 61 => ⟨S4096x128, .f32⟩
  | 62 => ⟨S4096x128, .f32⟩
  | 63 => ⟨S1x128, .f32⟩
  | 64 => ⟨S128, .f32⟩
  | 65 => ⟨S1x128, .f32⟩
  | 66 => ⟨S128, .f32⟩
  | 67 => ⟨S_, .f32⟩
  | 68 => ⟨S4096, .f32⟩
  | 69 => ⟨S4096x1, .f32⟩
  | 70 => ⟨S_, .f32⟩
  | 71 => ⟨S4096x1, .f32⟩
  | 72 => ⟨S4096x1, .f32⟩
  | 73 => ⟨S4096x128, .f32⟩
  | 74 => ⟨S4096x128, .f32⟩
  | 75 => ⟨S4096x128, .f32⟩
  | 76 => ⟨S_, .f32⟩
  | 77 => ⟨S4096, .f32⟩
  | 78 => ⟨S4096x1, .f32⟩
  | 79 => ⟨S_, .f32⟩
  | 80 => ⟨S4096x1, .f32⟩
  | 81 => ⟨S4096x1, .f32⟩
  | 82 => ⟨S4096x128, .f32⟩
  | 83 => ⟨S4096x128, .f32⟩
  | 84 => ⟨S_, .f32⟩
  | 85 => ⟨S4096x1, .f32⟩
  | 86 => ⟨S4096x1, .f32⟩
  | 87 => ⟨S4096x1, .f32⟩
  | 88 => ⟨S4096x128, .f32⟩
  | 89 => ⟨S4096x128, .f32⟩
  | 90 => ⟨S1x128, .f32⟩
  | 91 => ⟨S4096x128, .f32⟩
  | 92 => ⟨S4096x128, .f32⟩
  | 93 => ⟨S1x128, .f32⟩
  | 94 => ⟨S4096x128, .f32⟩
  | 95 => ⟨S4096x128, .f32⟩
  | 96 => ⟨S_, .f32⟩
  | 97 => ⟨S4096x128, .f32⟩
  | 98 => ⟨S4096x128, .i1⟩
  | 99 => ⟨S_, .f32⟩
  | 100 => ⟨S4096x128, .f32⟩
  | 101 => ⟨S4096x128, .f32⟩
  | 102 => ⟨S4096x128, .f32⟩
  | 103 => ⟨S4096x1x128, .f32⟩
  | 104 => ⟨S4096x128, .f32⟩
  | 105 => ⟨S_, .f32⟩
  | 106 => ⟨S4096, .f32⟩
  | 107 => ⟨S4096, .f32⟩
  | 108 => ⟨S_, .f32⟩
  | 109 => ⟨S_, .f32⟩
  | 110 => ⟨S4096, .f32⟩
  | 111 => ⟨S4096, .f32⟩
  | 112 => ⟨S4096, .i32⟩
  | 113 => ⟨S_, .i32⟩
  | 114 => ⟨S4096, .i32⟩
  | 115 => ⟨S4096, .i1⟩
  | 116 => ⟨S_, .i32⟩
  | 117 => ⟨S_, .i32⟩
  | 118 => ⟨S4096, .i32⟩
  | 119 => ⟨S4096, .i32⟩
  | 120 => ⟨S_, .i32⟩
  | 121 => ⟨S4096, .i32⟩
  | 122 => ⟨S4096, .i32⟩
  | 123 => ⟨S1x9x128x128, .f32⟩
  | 124 => ⟨S9x128x128, .f32⟩
  | 125 => ⟨S_, .i32⟩
  | 126 => ⟨S4096, .i32⟩
  | 127 => ⟨S4096, .i1⟩
  | _ => ⟨S4096x9x128, .f32⟩

abbrev hbmTy0_2 (i : Nat) : BufTy := match i % 128 with
  | 0 => ⟨S_, .i32⟩
  | 1 => ⟨S4096, .i32⟩
  | 2 => ⟨S4096, .i32⟩
  | 3 => ⟨S4096, .i32⟩
  | 4 => ⟨S4096x1, .i32⟩
  | 5 => ⟨S1, .i32⟩
  | 6 => ⟨S_, .i32⟩
  | 7 => ⟨S4096x1, .i32⟩
  | 8 => ⟨S4096x1, .i1⟩
  | 9 => ⟨S1x1, .i32⟩
  | 10 => ⟨S4096x1, .i32⟩
  | 11 => ⟨S4096x1, .i1⟩
  | 12 => ⟨S4096x1, .i1⟩
  | 13 => ⟨S_, .i1⟩
  | 14 => ⟨S4096, .i1⟩
  | 15 => ⟨S4096x128x128, .f32⟩
  | 16 => ⟨S4096x128x128, .i1⟩
  | 17 => ⟨S_, .f32⟩
  | 18 => ⟨S4096x128x128, .f32⟩
  | 19 => ⟨S4096x128x128, .f32⟩
  | 20 => ⟨S4096x128, .f32⟩
  | 21 => ⟨S4096x1x128, .f32⟩
  | 22 => ⟨S4096x128, .f32⟩
  | 23 => ⟨S_, .f32⟩
  | 24 => ⟨S4096, .f32⟩
  | 25 => ⟨S4096, .f32⟩
  | 26 => ⟨S_, .f32⟩
  | 27 => ⟨S_, .f32⟩
  | 28 => ⟨S4096, .f32⟩
  | 29 => ⟨S4096, .f32⟩
  | 30 => ⟨S4096, .i32⟩
  | 31 => ⟨S_, .i32⟩
  | 32 => ⟨S4096, .i32⟩
  | 33 => ⟨S4096, .i1⟩
  | 34 => ⟨S_, .i32⟩
  | 35 => ⟨S_, .i32⟩
  | 36 => ⟨S4096, .i32⟩
  | 37 => ⟨S4096, .i32⟩
  | 38 => ⟨S_, .i32⟩
  | 39 => ⟨S4096, .i32⟩
  | 40 => ⟨S4096, .i32⟩
  | 41 => ⟨S1x9x128x128, .f32⟩
  | 42 => ⟨S9x128x128, .f32⟩
  | 43 => ⟨S_, .i32⟩
  | 44 => ⟨S4096, .i32⟩
  | 45 => ⟨S4096, .i1⟩
  | 46 => ⟨S_, .i32⟩
  | 47 => ⟨S4096, .i32⟩
  | 48 => ⟨S4096, .i32⟩
  | 49 => ⟨S4096, .i32⟩
  | 50 => ⟨S4096x1, .i32⟩
  | 51 => ⟨S1, .i32⟩
  | 52 => ⟨S_, .i32⟩
  | 53 => ⟨S4096x1, .i32⟩
  | 54 => ⟨S4096x1, .i1⟩
  | 55 => ⟨S1x1, .i32⟩
  | 56 => ⟨S4096x1, .i32⟩
  | 57 => ⟨S4096x1, .i1⟩
  | 58 => ⟨S4096x1, .i1⟩
  | 59 => ⟨S_, .i1⟩
  | 60 => ⟨S4096, .i1⟩
  | 61 => ⟨S4096x128x128, .f32⟩
  | 62 => ⟨S4096x128x128, .i1⟩
  | 63 => ⟨S_, .f32⟩
  | 64 => ⟨S4096x128x128, .f32⟩
  | 65 => ⟨S4096x128x128, .f32⟩
  | 66 => ⟨S4096x128, .f32⟩
  | 67 => ⟨S4096x128, .f32⟩
  | 68 => ⟨S4096x1x128, .f32⟩
  | 69 => ⟨S4096x128, .f32⟩
  | 70 => ⟨S_, .f32⟩
  | 71 => ⟨S4096, .f32⟩
  | 72 => ⟨S4096, .f32⟩
  | 73 => ⟨S_, .f32⟩
  | 74 => ⟨S_, .f32⟩
  | 75 => ⟨S4096, .f32⟩
  | 76 => ⟨S4096, .f32⟩
  | 77 => ⟨S4096, .i32⟩
  | 78 => ⟨S_, .i32⟩
  | 79 => ⟨S4096, .i32⟩
  | 80 => ⟨S4096, .i1⟩
  | 81 => ⟨S_, .i32⟩
  | 82 => ⟨S_, .i32⟩
  | 83 => ⟨S4096, .i32⟩
  | 84 => ⟨S4096, .i32⟩
  | 85 => ⟨S_, .i32⟩
  | 86 => ⟨S4096, .i32⟩
  | 87 => ⟨S4096, .i32⟩
  | 88 => ⟨S1x9x128x128, .f32⟩
  | 89 => ⟨S9x128x128, .f32⟩
  | 90 => ⟨S_, .i32⟩
  | 91 => ⟨S4096, .i32⟩
  | 92 => ⟨S4096, .i1⟩
  | 93 => ⟨S_, .i32⟩
  | 94 => ⟨S4096, .i32⟩
  | 95 => ⟨S4096, .i32⟩
  | 96 => ⟨S4096, .i32⟩
  | 97 => ⟨S4096x1, .i32⟩
  | 98 => ⟨S1, .i32⟩
  | 99 => ⟨S_, .i32⟩
  | 100 => ⟨S4096x1, .i32⟩
  | 101 => ⟨S4096x1, .i1⟩
  | 102 => ⟨S1x1, .i32⟩
  | 103 => ⟨S4096x1, .i32⟩
  | 104 => ⟨S4096x1, .i1⟩
  | 105 => ⟨S4096x1, .i1⟩
  | 106 => ⟨S_, .i1⟩
  | 107 => ⟨S4096, .i1⟩
  | 108 => ⟨S4096x128x128, .f32⟩
  | 109 => ⟨S4096x128x128, .i1⟩
  | 110 => ⟨S_, .f32⟩
  | 111 => ⟨S4096x128x128, .f32⟩
  | 112 => ⟨S4096x128x128, .f32⟩
  | 113 => ⟨S4096x128, .f32⟩
  | 114 => ⟨S4096x128, .f32⟩
  | 115 => ⟨S4096x1x128, .f32⟩
  | 116 => ⟨S4096x128, .f32⟩
  | 117 => ⟨S_, .f32⟩
  | 118 => ⟨S4096, .f32⟩
  | 119 => ⟨S4096, .f32⟩
  | 120 => ⟨S_, .f32⟩
  | 121 => ⟨S_, .f32⟩
  | 122 => ⟨S4096, .f32⟩
  | 123 => ⟨S4096, .f32⟩
  | 124 => ⟨S4096, .i32⟩
  | 125 => ⟨S_, .i32⟩
  | 126 => ⟨S4096, .i32⟩
  | 127 => ⟨S4096, .i1⟩
  | _ => ⟨S4096x9x128, .f32⟩

abbrev hbmTy0_3 (i : Nat) : BufTy := match i % 128 with
  | 0 => ⟨S_, .i32⟩
  | 1 => ⟨S_, .i32⟩
  | 2 => ⟨S4096, .i32⟩
  | 3 => ⟨S4096, .i32⟩
  | 4 => ⟨S_, .i32⟩
  | 5 => ⟨S4096, .i32⟩
  | 6 => ⟨S4096, .i32⟩
  | 7 => ⟨S1x9x128x128, .f32⟩
  | 8 => ⟨S9x128x128, .f32⟩
  | 9 => ⟨S_, .i32⟩
  | 10 => ⟨S4096, .i32⟩
  | 11 => ⟨S4096, .i1⟩
  | 12 => ⟨S_, .i32⟩
  | 13 => ⟨S4096, .i32⟩
  | 14 => ⟨S4096, .i32⟩
  | 15 => ⟨S4096, .i32⟩
  | 16 => ⟨S4096x1, .i32⟩
  | 17 => ⟨S1, .i32⟩
  | 18 => ⟨S_, .i32⟩
  | 19 => ⟨S4096x1, .i32⟩
  | 20 => ⟨S4096x1, .i1⟩
  | 21 => ⟨S1x1, .i32⟩
  | 22 => ⟨S4096x1, .i32⟩
  | 23 => ⟨S4096x1, .i1⟩
  | 24 => ⟨S4096x1, .i1⟩
  | 25 => ⟨S_, .i1⟩
  | 26 => ⟨S4096, .i1⟩
  | 27 => ⟨S4096x128x128, .f32⟩
  | 28 => ⟨S4096x128x128, .i1⟩
  | 29 => ⟨S_, .f32⟩
  | 30 => ⟨S4096x128x128, .f32⟩
  | 31 => ⟨S4096x128x128, .f32⟩
  | 32 => ⟨S4096x128, .f32⟩
  | 33 => ⟨S4096x128, .f32⟩
  | 34 => ⟨S1x128, .f32⟩
  | 35 => ⟨S128, .f32⟩
  | 36 => ⟨S1x128, .f32⟩
  | 37 => ⟨S128, .f32⟩
  | 38 => ⟨S_, .f32⟩
  | 39 => ⟨S4096, .f32⟩
  | 40 => ⟨S4096x1, .f32⟩
  | 41 => ⟨S_, .f32⟩
  | 42 => ⟨S4096x1, .f32⟩
  | 43 => ⟨S4096x1, .f32⟩
  | 44 => ⟨S4096x128, .f32⟩
  | 45 => ⟨S4096x128, .f32⟩
  | 46 => ⟨S4096x128, .f32⟩
  | 47 => ⟨S_, .f32⟩
  | 48 => ⟨S4096, .f32⟩
  | 49 => ⟨S4096x1, .f32⟩
  | 50 => ⟨S_, .f32⟩
  | 51 => ⟨S4096x1, .f32⟩
  | 52 => ⟨S4096x1, .f32⟩
  | 53 => ⟨S4096x128, .f32⟩
  | 54 => ⟨S4096x128, .f32⟩
  | 55 => ⟨S_, .f32⟩
  | 56 => ⟨S4096x1, .f32⟩
  | 57 => ⟨S4096x1, .f32⟩
  | 58 => ⟨S4096x1, .f32⟩
  | 59 => ⟨S4096x128, .f32⟩
  | 60 => ⟨S4096x128, .f32⟩
  | 61 => ⟨S1x128, .f32⟩
  | 62 => ⟨S4096x128, .f32⟩
  | 63 => ⟨S4096x128, .f32⟩
  | 64 => ⟨S1x128, .f32⟩
  | 65 => ⟨S4096x128, .f32⟩
  | 66 => ⟨S4096x128, .f32⟩
  | 67 => ⟨S_, .f32⟩
  | 68 => ⟨S4096x128, .f32⟩
  | 69 => ⟨S4096x128, .i1⟩
  | 70 => ⟨S_, .f32⟩
  | 71 => ⟨S4096x128, .f32⟩
  | 72 => ⟨S4096x128, .f32⟩
  | 73 => ⟨S4096x128, .f32⟩
  | 74 => ⟨S4096x1x128, .f32⟩
  | 75 => ⟨S4096x128, .f32⟩
  | 76 => ⟨S_, .f32⟩
  | 77 => ⟨S4096, .f32⟩
  | 78 => ⟨S4096, .f32⟩
  | 79 => ⟨S_, .f32⟩
  | 80 => ⟨S_, .f32⟩
  | 81 => ⟨S4096, .f32⟩
  | 82 => ⟨S4096, .f32⟩
  | 83 => ⟨S4096, .i32⟩
  | 84 => ⟨S_, .i32⟩
  | 85 => ⟨S4096, .i32⟩
  | 86 => ⟨S4096, .i1⟩
  | 87 => ⟨S_, .i32⟩
  | 88 => ⟨S_, .i32⟩
  | 89 => ⟨S4096, .i32⟩
  | 90 => ⟨S4096, .i32⟩
  | 91 => ⟨S_, .i32⟩
  | 92 => ⟨S4096, .i32⟩
  | 93 => ⟨S4096, .i32⟩
  | 94 => ⟨S1x9x128x128, .f32⟩
  | 95 => ⟨S9x128x128, .f32⟩
  | 96 => ⟨S_, .i32⟩
  | 97 => ⟨S4096, .i32⟩
  | 98 => ⟨S4096, .i1⟩
  | 99 => ⟨S_, .i32⟩
  | 100 => ⟨S4096, .i32⟩
  | 101 => ⟨S4096, .i32⟩
  | 102 => ⟨S4096, .i32⟩
  | 103 => ⟨S4096x1, .i32⟩
  | 104 => ⟨S1, .i32⟩
  | 105 => ⟨S_, .i32⟩
  | 106 => ⟨S4096x1, .i32⟩
  | 107 => ⟨S4096x1, .i1⟩
  | 108 => ⟨S1x1, .i32⟩
  | 109 => ⟨S4096x1, .i32⟩
  | 110 => ⟨S4096x1, .i1⟩
  | 111 => ⟨S4096x1, .i1⟩
  | 112 => ⟨S_, .i1⟩
  | 113 => ⟨S4096, .i1⟩
  | 114 => ⟨S4096x128x128, .f32⟩
  | 115 => ⟨S4096x128x128, .i1⟩
  | 116 => ⟨S_, .f32⟩
  | 117 => ⟨S4096x128x128, .f32⟩
  | 118 => ⟨S4096x128x128, .f32⟩
  | 119 => ⟨S4096x128, .f32⟩
  | 120 => ⟨S4096x1x128, .f32⟩
  | 121 => ⟨S4096x128, .f32⟩
  | 122 => ⟨S_, .f32⟩
  | 123 => ⟨S4096, .f32⟩
  | 124 => ⟨S4096, .f32⟩
  | 125 => ⟨S_, .f32⟩
  | 126 => ⟨S_, .f32⟩
  | 127 => ⟨S4096, .f32⟩
  | _ => ⟨S4096x9x128, .f32⟩

abbrev hbmTy0_4 (i : Nat) : BufTy := match i % 128 with
  | 0 => ⟨S4096, .f32⟩
  | 1 => ⟨S4096, .i32⟩
  | 2 => ⟨S_, .i32⟩
  | 3 => ⟨S4096, .i32⟩
  | 4 => ⟨S4096, .i1⟩
  | 5 => ⟨S_, .i32⟩
  | 6 => ⟨S_, .i32⟩
  | 7 => ⟨S4096, .i32⟩
  | 8 => ⟨S4096, .i32⟩
  | 9 => ⟨S_, .i32⟩
  | 10 => ⟨S4096, .i32⟩
  | 11 => ⟨S4096, .i32⟩
  | 12 => ⟨S1x9x128x128, .f32⟩
  | 13 => ⟨S9x128x128, .f32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S4096x1, .i32⟩
  | 22 => ⟨S1, .i32⟩
  | 23 => ⟨S_, .i32⟩
  | 24 => ⟨S4096x1, .i32⟩
  | 25 => ⟨S4096x1, .i1⟩
  | 26 => ⟨S1x1, .i32⟩
  | 27 => ⟨S4096x1, .i32⟩
  | 28 => ⟨S4096x1, .i1⟩
  | 29 => ⟨S4096x1, .i1⟩
  | 30 => ⟨S_, .i1⟩
  | 31 => ⟨S4096, .i1⟩
  | 32 => ⟨S4096x128x128, .f32⟩
  | 33 => ⟨S4096x128x128, .i1⟩
  | 34 => ⟨S_, .f32⟩
  | 35 => ⟨S4096x128x128, .f32⟩
  | 36 => ⟨S4096x128x128, .f32⟩
  | 37 => ⟨S4096x128, .f32⟩
  | 38 => ⟨S4096x128, .f32⟩
  | 39 => ⟨S4096x1x128, .f32⟩
  | 40 => ⟨S4096x128, .f32⟩
  | 41 => ⟨S_, .f32⟩
  | 42 => ⟨S4096, .f32⟩
  | 43 => ⟨S4096, .f32⟩
  | 44 => ⟨S_, .f32⟩
  | 45 => ⟨S_, .f32⟩
  | 46 => ⟨S4096, .f32⟩
  | 47 => ⟨S4096, .f32⟩
  | 48 => ⟨S4096, .i32⟩
  | 49 => ⟨S_, .i32⟩
  | 50 => ⟨S4096, .i32⟩
  | 51 => ⟨S4096, .i1⟩
  | 52 => ⟨S_, .i32⟩
  | 53 => ⟨S_, .i32⟩
  | 54 => ⟨S4096, .i32⟩
  | 55 => ⟨S4096, .i32⟩
  | 56 => ⟨S_, .i32⟩
  | 57 => ⟨S4096, .i32⟩
  | 58 => ⟨S4096, .i32⟩
  | 59 => ⟨S1x9x128x128, .f32⟩
  | 60 => ⟨S9x128x128, .f32⟩
  | 61 => ⟨S_, .i32⟩
  | 62 => ⟨S4096, .i32⟩
  | 63 => ⟨S4096, .i1⟩
  | 64 => ⟨S_, .i32⟩
  | 65 => ⟨S4096, .i32⟩
  | 66 => ⟨S4096, .i32⟩
  | 67 => ⟨S4096, .i32⟩
  | 68 => ⟨S4096x1, .i32⟩
  | 69 => ⟨S1, .i32⟩
  | 70 => ⟨S_, .i32⟩
  | 71 => ⟨S4096x1, .i32⟩
  | 72 => ⟨S4096x1, .i1⟩
  | 73 => ⟨S1x1, .i32⟩
  | 74 => ⟨S4096x1, .i32⟩
  | 75 => ⟨S4096x1, .i1⟩
  | 76 => ⟨S4096x1, .i1⟩
  | 77 => ⟨S_, .i1⟩
  | 78 => ⟨S4096, .i1⟩
  | 79 => ⟨S4096x128x128, .f32⟩
  | 80 => ⟨S4096x128x128, .i1⟩
  | 81 => ⟨S_, .f32⟩
  | 82 => ⟨S4096x128x128, .f32⟩
  | 83 => ⟨S4096x128x128, .f32⟩
  | 84 => ⟨S4096x128, .f32⟩
  | 85 => ⟨S4096x128, .f32⟩
  | 86 => ⟨S1x128, .f32⟩
  | 87 => ⟨S128, .f32⟩
  | 88 => ⟨S1x128, .f32⟩
  | 89 => ⟨S128, .f32⟩
  | 90 => ⟨S_, .f32⟩
  | 91 => ⟨S4096, .f32⟩
  | 92 => ⟨S4096x1, .f32⟩
  | 93 => ⟨S_, .f32⟩
  | 94 => ⟨S4096x1, .f32⟩
  | 95 => ⟨S4096x1, .f32⟩
  | 96 => ⟨S4096x128, .f32⟩
  | 97 => ⟨S4096x128, .f32⟩
  | 98 => ⟨S4096x128, .f32⟩
  | 99 => ⟨S_, .f32⟩
  | 100 => ⟨S4096, .f32⟩
  | 101 => ⟨S4096x1, .f32⟩
  | 102 => ⟨S_, .f32⟩
  | 103 => ⟨S4096x1, .f32⟩
  | 104 => ⟨S4096x1, .f32⟩
  | 105 => ⟨S4096x128, .f32⟩
  | 106 => ⟨S4096x128, .f32⟩
  | 107 => ⟨S_, .f32⟩
  | 108 => ⟨S4096x1, .f32⟩
  | 109 => ⟨S4096x1, .f32⟩
  | 110 => ⟨S4096x1, .f32⟩
  | 111 => ⟨S4096x128, .f32⟩
  | 112 => ⟨S4096x128, .f32⟩
  | 113 => ⟨S1x128, .f32⟩
  | 114 => ⟨S4096x128, .f32⟩
  | 115 => ⟨S4096x128, .f32⟩
  | 116 => ⟨S1x128, .f32⟩
  | 117 => ⟨S4096x128, .f32⟩
  | 118 => ⟨S4096x128, .f32⟩
  | 119 => ⟨S_, .f32⟩
  | 120 => ⟨S4096x128, .f32⟩
  | 121 => ⟨S4096x128, .i1⟩
  | 122 => ⟨S_, .f32⟩
  | 123 => ⟨S4096x128, .f32⟩
  | 124 => ⟨S4096x128, .f32⟩
  | 125 => ⟨S4096x128, .f32⟩
  | 126 => ⟨S4096x1x128, .f32⟩
  | 127 => ⟨S4096x128, .f32⟩
  | _ => ⟨S4096x9x128, .f32⟩

abbrev hbmTy0_5 (i : Nat) : BufTy := match i % 128 with
  | 0 => ⟨S_, .f32⟩
  | 1 => ⟨S4096, .f32⟩
  | 2 => ⟨S4096, .f32⟩
  | 3 => ⟨S_, .f32⟩
  | 4 => ⟨S_, .f32⟩
  | 5 => ⟨S4096, .f32⟩
  | 6 => ⟨S4096, .f32⟩
  | 7 => ⟨S4096, .i32⟩
  | 8 => ⟨S_, .i32⟩
  | 9 => ⟨S4096, .i32⟩
  | 10 => ⟨S4096, .i1⟩
  | 11 => ⟨S_, .i32⟩
  | 12 => ⟨S_, .i32⟩
  | 13 => ⟨S4096, .i32⟩
  | 14 => ⟨S4096, .i32⟩
  | 15 => ⟨S_, .i32⟩
  | 16 => ⟨S4096, .i32⟩
  | 17 => ⟨S4096, .i32⟩
  | 18 => ⟨S1x9x128x128, .f32⟩
  | 19 => ⟨S9x128x128, .f32⟩
  | 20 => ⟨S_, .i32⟩
  | 21 => ⟨S4096, .i32⟩
  | 22 => ⟨S4096, .i1⟩
  | 23 => ⟨S_, .i32⟩
  | 24 => ⟨S4096, .i32⟩
  | 25 => ⟨S4096, .i32⟩
  | 26 => ⟨S4096, .i32⟩
  | 27 => ⟨S4096x1, .i32⟩
  | 28 => ⟨S1, .i32⟩
  | 29 => ⟨S_, .i32⟩
  | 30 => ⟨S4096x1, .i32⟩
  | 31 => ⟨S4096x1, .i1⟩
  | 32 => ⟨S1x1, .i32⟩
  | 33 => ⟨S4096x1, .i32⟩
  | 34 => ⟨S4096x1, .i1⟩
  | 35 => ⟨S4096x1, .i1⟩
  | 36 => ⟨S_, .i1⟩
  | 37 => ⟨S4096, .i1⟩
  | 38 => ⟨S4096x128x128, .f32⟩
  | 39 => ⟨S4096x128x128, .i1⟩
  | 40 => ⟨S_, .f32⟩
  | 41 => ⟨S4096x128x128, .f32⟩
  | 42 => ⟨S4096x128x128, .f32⟩
  | 43 => ⟨S4096x128, .f32⟩
  | 44 => ⟨S4096x1x128, .f32⟩
  | 45 => ⟨S4096x128, .f32⟩
  | 46 => ⟨S_, .f32⟩
  | 47 => ⟨S4096, .f32⟩
  | 48 => ⟨S4096, .f32⟩
  | 49 => ⟨S_, .f32⟩
  | 50 => ⟨S_, .f32⟩
  | 51 => ⟨S4096, .f32⟩
  | 52 => ⟨S4096, .f32⟩
  | 53 => ⟨S4096, .i32⟩
  | 54 => ⟨S_, .i32⟩
  | 55 => ⟨S4096, .i32⟩
  | 56 => ⟨S4096, .i1⟩
  | 57 => ⟨S_, .i32⟩
  | 58 => ⟨S_, .i32⟩
  | 59 => ⟨S4096, .i32⟩
  | 60 => ⟨S4096, .i32⟩
  | 61 => ⟨S_, .i32⟩
  | 62 => ⟨S4096, .i32⟩
  | 63 => ⟨S4096, .i32⟩
  | 64 => ⟨S1x9x128x128, .f32⟩
  | 65 => ⟨S9x128x128, .f32⟩
  | 66 => ⟨S_, .i32⟩
  | 67 => ⟨S4096, .i32⟩
  | 68 => ⟨S4096, .i1⟩
  | 69 => ⟨S_, .i32⟩
  | 70 => ⟨S4096, .i32⟩
  | 71 => ⟨S4096, .i32⟩
  | 72 => ⟨S4096, .i32⟩
  | 73 => ⟨S4096x1, .i32⟩
  | 74 => ⟨S1, .i32⟩
  | 75 => ⟨S_, .i32⟩
  | 76 => ⟨S4096x1, .i32⟩
  | 77 => ⟨S4096x1, .i1⟩
  | 78 => ⟨S1x1, .i32⟩
  | 79 => ⟨S4096x1, .i32⟩
  | 80 => ⟨S4096x1, .i1⟩
  | 81 => ⟨S4096x1, .i1⟩
  | 82 => ⟨S_, .i1⟩
  | 83 => ⟨S4096, .i1⟩
  | 84 => ⟨S4096x128x128, .f32⟩
  | 85 => ⟨S4096x128x128, .i1⟩
  | 86 => ⟨S_, .f32⟩
  | 87 => ⟨S4096x128x128, .f32⟩
  | 88 => ⟨S4096x128x128, .f32⟩
  | 89 => ⟨S4096x128, .f32⟩
  | 90 => ⟨S4096x128, .f32⟩
  | 91 => ⟨S4096x1x128, .f32⟩
  | 92 => ⟨S4096x128, .f32⟩
  | 93 => ⟨S_, .f32⟩
  | 94 => ⟨S4096, .f32⟩
  | 95 => ⟨S4096, .f32⟩
  | 96 => ⟨S_, .f32⟩
  | 97 => ⟨S_, .f32⟩
  | 98 => ⟨S4096, .f32⟩
  | 99 => ⟨S4096, .f32⟩
  | 100 => ⟨S4096, .i32⟩
  | 101 => ⟨S_, .i32⟩
  | 102 => ⟨S4096, .i32⟩
  | 103 => ⟨S4096, .i1⟩
  | 104 => ⟨S_, .i32⟩
  | 105 => ⟨S_, .i32⟩
  | 106 => ⟨S4096, .i32⟩
  | 107 => ⟨S4096, .i32⟩
  | 108 => ⟨S_, .i32⟩
  | 109 => ⟨S4096, .i32⟩
  | 110 => ⟨S4096, .i32⟩
  | 111 => ⟨S1x9x128x128, .f32⟩
  | 112 => ⟨S9x128x128, .f32⟩
  | 113 => ⟨S_, .i32⟩
  | 114 => ⟨S4096, .i32⟩
  | 115 => ⟨S4096, .i1⟩
  | 116 => ⟨S_, .i32⟩
  | 117 => ⟨S4096, .i32⟩
  | 118 => ⟨S4096, .i32⟩
  | 119 => ⟨S4096, .i32⟩
  | 120 => ⟨S4096x1, .i32⟩
  | 121 => ⟨S1, .i32⟩
  | 122 => ⟨S_, .i32⟩
  | 123 => ⟨S4096x1, .i32⟩
  | 124 => ⟨S4096x1, .i1⟩
  | 125 => ⟨S1x1, .i32⟩
  | 126 => ⟨S4096x1, .i32⟩
  | 127 => ⟨S4096x1, .i1⟩
  | _ => ⟨S4096x9x128, .f32⟩

abbrev hbmTy0_6 (i : Nat) : BufTy := match i % 128 with
  | 0 => ⟨S4096x1, .i1⟩
  | 1 => ⟨S_, .i1⟩
  | 2 => ⟨S4096, .i1⟩
  | 3 => ⟨S4096x128x128, .f32⟩
  | 4 => ⟨S4096x128x128, .i1⟩
  | 5 => ⟨S_, .f32⟩
  | 6 => ⟨S4096x128x128, .f32⟩
  | 7 => ⟨S4096x128x128, .f32⟩
  | 8 => ⟨S4096x128, .f32⟩
  | 9 => ⟨S4096x128, .f32⟩
  | 10 => ⟨S4096x1x128, .f32⟩
  | 11 => ⟨S4096x128, .f32⟩
  | 12 => ⟨S_, .f32⟩
  | 13 => ⟨S4096, .f32⟩
  | 14 => ⟨S4096, .f32⟩
  | 15 => ⟨S_, .f32⟩
  | 16 => ⟨S_, .f32⟩
  | 17 => ⟨S4096, .f32⟩
  | 18 => ⟨S4096, .f32⟩
  | 19 => ⟨S4096, .i32⟩
  | 20 => ⟨S_, .i32⟩
  | 21 => ⟨S4096, .i32⟩
  | 22 => ⟨S4096, .i1⟩
  | 23 => ⟨S_, .i32⟩
  | 24 => ⟨S_, .i32⟩
  | 25 => ⟨S4096, .i32⟩
  | 26 => ⟨S4096, .i32⟩
  | 27 => ⟨S_, .i32⟩
  | 28 => ⟨S4096, .i32⟩
  | 29 => ⟨S4096, .i32⟩
  | 30 => ⟨S1x9x128x128, .f32⟩
  | 31 => ⟨S9x128x128, .f32⟩
  | 32 => ⟨S_, .i32⟩
  | 33 => ⟨S4096, .i32⟩
  | 34 => ⟨S4096, .i1⟩
  | 35 => ⟨S_, .i32⟩
  | 36 => ⟨S4096, .i32⟩
  | 37 => ⟨S4096, .i32⟩
  | 38 => ⟨S4096, .i32⟩
  | 39 => ⟨S4096x1, .i32⟩
  | 40 => ⟨S1, .i32⟩
  | 41 => ⟨S_, .i32⟩
  | 42 => ⟨S4096x1, .i32⟩
  | 43 => ⟨S4096x1, .i1⟩
  | 44 => ⟨S1x1, .i32⟩
  | 45 => ⟨S4096x1, .i32⟩
  | 46 => ⟨S4096x1, .i1⟩
  | 47 => ⟨S4096x1, .i1⟩
  | 48 => ⟨S_, .i1⟩
  | 49 => ⟨S4096, .i1⟩
  | 50 => ⟨S4096x128x128, .f32⟩
  | 51 => ⟨S4096x128x128, .i1⟩
  | 52 => ⟨S_, .f32⟩
  | 53 => ⟨S4096x128x128, .f32⟩
  | 54 => ⟨S4096x128x128, .f32⟩
  | 55 => ⟨S4096x128, .f32⟩
  | 56 => ⟨S4096x128, .f32⟩
  | 57 => ⟨S1x128, .f32⟩
  | 58 => ⟨S128, .f32⟩
  | 59 => ⟨S1x128, .f32⟩
  | 60 => ⟨S128, .f32⟩
  | 61 => ⟨S_, .f32⟩
  | 62 => ⟨S4096, .f32⟩
  | 63 => ⟨S4096x1, .f32⟩
  | 64 => ⟨S_, .f32⟩
  | 65 => ⟨S4096x1, .f32⟩
  | 66 => ⟨S4096x1, .f32⟩
  | 67 => ⟨S4096x128, .f32⟩
  | 68 => ⟨S4096x128, .f32⟩
  | 69 => ⟨S4096x128, .f32⟩
  | 70 => ⟨S_, .f32⟩
  | 71 => ⟨S4096, .f32⟩
  | 72 => ⟨S4096x1, .f32⟩
  | 73 => ⟨S_, .f32⟩
  | 74 => ⟨S4096x1, .f32⟩
  | 75 => ⟨S4096x1, .f32⟩
  | 76 => ⟨S4096x128, .f32⟩
  | 77 => ⟨S4096x128, .f32⟩
  | 78 => ⟨S_, .f32⟩
  | 79 => ⟨S4096x1, .f32⟩
  | 80 => ⟨S4096x1, .f32⟩
  | 81 => ⟨S4096x1, .f32⟩
  | 82 => ⟨S4096x128, .f32⟩
  | 83 => ⟨S4096x128, .f32⟩
  | 84 => ⟨S1x128, .f32⟩
  | 85 => ⟨S4096x128, .f32⟩
  | 86 => ⟨S4096x128, .f32⟩
  | 87 => ⟨S1x128, .f32⟩
  | 88 => ⟨S4096x128, .f32⟩
  | 89 => ⟨S4096x128, .f32⟩
  | 90 => ⟨S_, .f32⟩
  | 91 => ⟨S4096x128, .f32⟩
  | 92 => ⟨S4096x128, .i1⟩
  | 93 => ⟨S_, .f32⟩
  | 94 => ⟨S4096x128, .f32⟩
  | 95 => ⟨S4096x128, .f32⟩
  | 96 => ⟨S4096x128, .f32⟩
  | 97 => ⟨S4096x1x128, .f32⟩
  | 98 => ⟨S4096x128, .f32⟩
  | 99 => ⟨S_, .f32⟩
  | 100 => ⟨S4096, .f32⟩
  | 101 => ⟨S4096, .f32⟩
  | 102 => ⟨S_, .f32⟩
  | 103 => ⟨S_, .f32⟩
  | 104 => ⟨S4096, .f32⟩
  | 105 => ⟨S4096, .f32⟩
  | 106 => ⟨S4096, .i32⟩
  | 107 => ⟨S_, .i32⟩
  | 108 => ⟨S4096, .i32⟩
  | 109 => ⟨S4096, .i1⟩
  | 110 => ⟨S_, .i32⟩
  | 111 => ⟨S_, .i32⟩
  | 112 => ⟨S4096, .i32⟩
  | 113 => ⟨S4096, .i32⟩
  | 114 => ⟨S_, .i32⟩
  | 115 => ⟨S4096, .i32⟩
  | 116 => ⟨S4096, .i32⟩
  | 117 => ⟨S1x9x128x128, .f32⟩
  | 118 => ⟨S9x128x128, .f32⟩
  | 119 => ⟨S_, .i32⟩
  | 120 => ⟨S4096, .i32⟩
  | 121 => ⟨S4096, .i1⟩
  | 122 => ⟨S_, .i32⟩
  | 123 => ⟨S4096, .i32⟩
  | 124 => ⟨S4096, .i32⟩
  | 125 => ⟨S4096, .i32⟩
  | 126 => ⟨S4096x1, .i32⟩
  | 127 => ⟨S1, .i32⟩
  | _ => ⟨S4096x9x128, .f32⟩

abbrev hbmTy0_7 (i : Nat) : BufTy := match i % 128 with
  | 0 => ⟨S_, .i32⟩
  | 1 => ⟨S4096x1, .i32⟩
  | 2 => ⟨S4096x1, .i1⟩
  | 3 => ⟨S1x1, .i32⟩
  | 4 => ⟨S4096x1, .i32⟩
  | 5 => ⟨S4096x1, .i1⟩
  | 6 => ⟨S4096x1, .i1⟩
  | 7 => ⟨S_, .i1⟩
  | 8 => ⟨S4096, .i1⟩
  | 9 => ⟨S4096x128x128, .f32⟩
  | 10 => ⟨S4096x128x128, .i1⟩
  | 11 => ⟨S_, .f32⟩
  | 12 => ⟨S4096x128x128, .f32⟩
  | 13 => ⟨S4096x128x128, .f32⟩
  | 14 => ⟨S4096x128, .f32⟩
  | 15 => ⟨S4096x1x128, .f32⟩
  | 16 => ⟨S4096x128, .f32⟩
  | 17 => ⟨S_, .f32⟩
  | 18 => ⟨S4096, .f32⟩
  | 19 => ⟨S4096, .f32⟩
  | 20 => ⟨S_, .f32⟩
  | 21 => ⟨S_, .f32⟩
  | 22 => ⟨S4096, .f32⟩
  | 23 => ⟨S4096, .f32⟩
  | 24 => ⟨S4096, .i32⟩
  | 25 => ⟨S_, .i32⟩
  | 26 => ⟨S4096, .i32⟩
  | 27 => ⟨S4096, .i1⟩
  | 28 => ⟨S_, .i32⟩
  | 29 => ⟨S_, .i32⟩
  | 30 => ⟨S4096, .i32⟩
  | 31 => ⟨S4096, .i32⟩
  | 32 => ⟨S_, .i32⟩
  | 33 => ⟨S4096, .i32⟩
  | 34 => ⟨S4096, .i32⟩
  | 35 => ⟨S1x9x128x128, .f32⟩
  | 36 => ⟨S9x128x128, .f32⟩
  | 37 => ⟨S_, .i32⟩
  | 38 => ⟨S4096, .i32⟩
  | 39 => ⟨S4096, .i1⟩
  | 40 => ⟨S_, .i32⟩
  | 41 => ⟨S4096, .i32⟩
  | 42 => ⟨S4096, .i32⟩
  | 43 => ⟨S4096, .i32⟩
  | 44 => ⟨S4096x1, .i32⟩
  | 45 => ⟨S1, .i32⟩
  | 46 => ⟨S_, .i32⟩
  | 47 => ⟨S4096x1, .i32⟩
  | 48 => ⟨S4096x1, .i1⟩
  | 49 => ⟨S1x1, .i32⟩
  | 50 => ⟨S4096x1, .i32⟩
  | 51 => ⟨S4096x1, .i1⟩
  | 52 => ⟨S4096x1, .i1⟩
  | 53 => ⟨S_, .i1⟩
  | 54 => ⟨S4096, .i1⟩
  | 55 => ⟨S4096x128x128, .f32⟩
  | 56 => ⟨S4096x128x128, .i1⟩
  | 57 => ⟨S_, .f32⟩
  | 58 => ⟨S4096x128x128, .f32⟩
  | 59 => ⟨S4096x128x128, .f32⟩
  | 60 => ⟨S4096x128, .f32⟩
  | 61 => ⟨S4096x128, .f32⟩
  | 62 => ⟨S4096x1x128, .f32⟩
  | 63 => ⟨S4096x128, .f32⟩
  | 64 => ⟨S_, .f32⟩
  | 65 => ⟨S4096, .f32⟩
  | 66 => ⟨S4096, .f32⟩
  | 67 => ⟨S_, .f32⟩
  | 68 => ⟨S_, .f32⟩
  | 69 => ⟨S4096, .f32⟩
  | 70 => ⟨S4096, .f32⟩
  | 71 => ⟨S4096, .i32⟩
  | 72 => ⟨S_, .i32⟩
  | 73 => ⟨S4096, .i32⟩
  | 74 => ⟨S4096, .i1⟩
  | 75 => ⟨S_, .i32⟩
  | 76 => ⟨S_, .i32⟩
  | 77 => ⟨S4096, .i32⟩
  | 78 => ⟨S4096, .i32⟩
  | 79 => ⟨S_, .i32⟩
  | 80 => ⟨S4096, .i32⟩
  | 81 => ⟨S4096, .i32⟩
  | 82 => ⟨S1x9x128x128, .f32⟩
  | 83 => ⟨S9x128x128, .f32⟩
  | 84 => ⟨S_, .i32⟩
  | 85 => ⟨S4096, .i32⟩
  | 86 => ⟨S4096, .i1⟩
  | 87 => ⟨S_, .i32⟩
  | 88 => ⟨S4096, .i32⟩
  | 89 => ⟨S4096, .i32⟩
  | 90 => ⟨S4096, .i32⟩
  | 91 => ⟨S4096x1, .i32⟩
  | 92 => ⟨S1, .i32⟩
  | 93 => ⟨S_, .i32⟩
  | 94 => ⟨S4096x1, .i32⟩
  | 95 => ⟨S4096x1, .i1⟩
  | 96 => ⟨S1x1, .i32⟩
  | 97 => ⟨S4096x1, .i32⟩
  | 98 => ⟨S4096x1, .i1⟩
  | 99 => ⟨S4096x1, .i1⟩
  | 100 => ⟨S_, .i1⟩
  | 101 => ⟨S4096, .i1⟩
  | 102 => ⟨S4096x128x128, .f32⟩
  | 103 => ⟨S4096x128x128, .i1⟩
  | 104 => ⟨S_, .f32⟩
  | 105 => ⟨S4096x128x128, .f32⟩
  | 106 => ⟨S4096x128x128, .f32⟩
  | 107 => ⟨S4096x128, .f32⟩
  | 108 => ⟨S4096x128, .f32⟩
  | 109 => ⟨S4096x1x128, .f32⟩
  | 110 => ⟨S4096x128, .f32⟩
  | 111 => ⟨S_, .f32⟩
  | 112 => ⟨S4096, .f32⟩
  | 113 => ⟨S4096, .f32⟩
  | 114 => ⟨S_, .f32⟩
  | 115 => ⟨S_, .f32⟩
  | 116 => ⟨S4096, .f32⟩
  | 117 => ⟨S4096, .f32⟩
  | 118 => ⟨S4096, .i32⟩
  | 119 => ⟨S_, .i32⟩
  | 120 => ⟨S4096, .i32⟩
  | 121 => ⟨S4096, .i1⟩
  | 122 => ⟨S_, .i32⟩
  | 123 => ⟨S_, .i32⟩
  | 124 => ⟨S4096, .i32⟩
  | 125 => ⟨S4096, .i32⟩
  | 126 => ⟨S_, .i32⟩
  | 127 => ⟨S4096, .i32⟩
  | _ => ⟨S4096x9x128, .f32⟩

abbrev hbmTy0_8 (i : Nat) : BufTy := match i % 128 with
  | 0 => ⟨S4096, .i32⟩
  | 1 => ⟨S1x9x128x128, .f32⟩
  | 2 => ⟨S9x128x128, .f32⟩
  | 3 => ⟨S_, .i32⟩
  | 4 => ⟨S4096, .i32⟩
  | 5 => ⟨S4096, .i1⟩
  | 6 => ⟨S_, .i32⟩
  | 7 => ⟨S4096, .i32⟩
  | 8 => ⟨S4096, .i32⟩
  | 9 => ⟨S4096, .i32⟩
  | 10 => ⟨S4096x1, .i32⟩
  | 11 => ⟨S1, .i32⟩
  | 12 => ⟨S_, .i32⟩
  | 13 => ⟨S4096x1, .i32⟩
  | 14 => ⟨S4096x1, .i1⟩
  | 15 => ⟨S1x1, .i32⟩
  | 16 => ⟨S4096x1, .i32⟩
  | 17 => ⟨S4096x1, .i1⟩
  | 18 => ⟨S4096x1, .i1⟩
  | 19 => ⟨S_, .i1⟩
  | 20 => ⟨S4096, .i1⟩
  | 21 => ⟨S4096x128x128, .f32⟩
  | 22 => ⟨S4096x128x128, .i1⟩
  | 23 => ⟨S_, .f32⟩
  | 24 => ⟨S4096x128x128, .f32⟩
  | 25 => ⟨S4096x128x128, .f32⟩
  | 26 => ⟨S4096x128, .f32⟩
  | 27 => ⟨S4096x128, .f32⟩
  | 28 => ⟨S1x128, .f32⟩
  | 29 => ⟨S128, .f32⟩
  | 30 => ⟨S1x128, .f32⟩
  | 31 => ⟨S128, .f32⟩
  | 32 => ⟨S_, .f32⟩
  | 33 => ⟨S4096, .f32⟩
  | 34 => ⟨S4096x1, .f32⟩
  | 35 => ⟨S_, .f32⟩
  | 36 => ⟨S4096x1, .f32⟩
  | 37 => ⟨S4096x1, .f32⟩
  | 38 => ⟨S4096x128, .f32⟩
  | 39 => ⟨S4096x128, .f32⟩
  | 40 => ⟨S4096x128, .f32⟩
  | 41 => ⟨S_, .f32⟩
  | 42 => ⟨S4096, .f32⟩
  | 43 => ⟨S4096x1, .f32⟩
  | 44 => ⟨S_, .f32⟩
  | 45 => ⟨S4096x1, .f32⟩
  | 46 => ⟨S4096x1, .f32⟩
  | 47 => ⟨S4096x128, .f32⟩
  | 48 => ⟨S4096x128, .f32⟩
  | 49 => ⟨S_, .f32⟩
  | 50 => ⟨S4096x1, .f32⟩
  | 51 => ⟨S4096x1, .f32⟩
  | 52 => ⟨S4096x1, .f32⟩
  | 53 => ⟨S4096x128, .f32⟩
  | 54 => ⟨S4096x128, .f32⟩
  | 55 => ⟨S1x128, .f32⟩
  | 56 => ⟨S4096x128, .f32⟩
  | 57 => ⟨S4096x128, .f32⟩
  | 58 => ⟨S1x128, .f32⟩
  | 59 => ⟨S4096x128, .f32⟩
  | 60 => ⟨S4096x128, .f32⟩
  | 61 => ⟨S_, .f32⟩
  | 62 => ⟨S4096x128, .f32⟩
  | 63 => ⟨S4096x128, .i1⟩
  | 64 => ⟨S_, .f32⟩
  | 65 => ⟨S4096x128, .f32⟩
  | 66 => ⟨S4096x128, .f32⟩
  | 67 => ⟨S4096x128, .f32⟩
  | 68 => ⟨S4096x1x128, .f32⟩
  | 69 => ⟨S4096x128, .f32⟩
  | 70 => ⟨S_, .f32⟩
  | 71 => ⟨S4096, .f32⟩
  | 72 => ⟨S4096, .f32⟩
  | 73 => ⟨S_, .f32⟩
  | 74 => ⟨S_, .f32⟩
  | 75 => ⟨S4096, .f32⟩
  | 76 => ⟨S4096, .f32⟩
  | 77 => ⟨S4096, .i32⟩
  | 78 => ⟨S_, .i32⟩
  | 79 => ⟨S4096, .i32⟩
  | 80 => ⟨S4096, .i1⟩
  | 81 => ⟨S_, .i32⟩
  | 82 => ⟨S_, .i32⟩
  | 83 => ⟨S4096, .i32⟩
  | 84 => ⟨S4096, .i32⟩
  | 85 => ⟨S_, .i32⟩
  | 86 => ⟨S4096, .i32⟩
  | 87 => ⟨S4096, .i32⟩
  | 88 => ⟨S1x9x128x128, .f32⟩
  | 89 => ⟨S9x128x128, .f32⟩
  | 90 => ⟨S_, .i32⟩
  | 91 => ⟨S4096, .i32⟩
  | 92 => ⟨S4096, .i1⟩
  | 93 => ⟨S_, .i32⟩
  | 94 => ⟨S4096, .i32⟩
  | 95 => ⟨S4096, .i32⟩
  | 96 => ⟨S4096, .i32⟩
  | 97 => ⟨S4096x1, .i32⟩
  | 98 => ⟨S1, .i32⟩
  | 99 => ⟨S_, .i32⟩
  | 100 => ⟨S4096x1, .i32⟩
  | 101 => ⟨S4096x1, .i1⟩
  | 102 => ⟨S1x1, .i32⟩
  | 103 => ⟨S4096x1, .i32⟩
  | 104 => ⟨S4096x1, .i1⟩
  | 105 => ⟨S4096x1, .i1⟩
  | 106 => ⟨S_, .i1⟩
  | 107 => ⟨S4096, .i1⟩
  | 108 => ⟨S4096x128x128, .f32⟩
  | 109 => ⟨S4096x128x128, .i1⟩
  | 110 => ⟨S_, .f32⟩
  | 111 => ⟨S4096x128x128, .f32⟩
  | 112 => ⟨S4096x128x128, .f32⟩
  | 113 => ⟨S4096x128, .f32⟩
  | 114 => ⟨S4096x1x128, .f32⟩
  | 115 => ⟨S4096x128, .f32⟩
  | 116 => ⟨S_, .f32⟩
  | 117 => ⟨S4096, .f32⟩
  | 118 => ⟨S4096, .f32⟩
  | 119 => ⟨S_, .f32⟩
  | 120 => ⟨S_, .f32⟩
  | 121 => ⟨S4096, .f32⟩
  | 122 => ⟨S4096, .f32⟩
  | 123 => ⟨S4096, .i32⟩
  | 124 => ⟨S_, .i32⟩
  | 125 => ⟨S4096, .i32⟩
  | 126 => ⟨S4096, .i1⟩
  | 127 => ⟨S_, .i32⟩
  | _ => ⟨S4096x9x128, .f32⟩

abbrev hbmTy0_9 (i : Nat) : BufTy := match i % 128 with
  | 0 => ⟨S_, .i32⟩
  | 1 => ⟨S4096, .i32⟩
  | 2 => ⟨S4096, .i32⟩
  | 3 => ⟨S_, .i32⟩
  | 4 => ⟨S4096, .i32⟩
  | 5 => ⟨S4096, .i32⟩
  | 6 => ⟨S1x9x128x128, .f32⟩
  | 7 => ⟨S9x128x128, .f32⟩
  | 8 => ⟨S_, .i32⟩
  | 9 => ⟨S4096, .i32⟩
  | 10 => ⟨S4096, .i1⟩
  | 11 => ⟨S_, .i32⟩
  | 12 => ⟨S4096, .i32⟩
  | 13 => ⟨S4096, .i32⟩
  | 14 => ⟨S4096, .i32⟩
  | 15 => ⟨S4096x1, .i32⟩
  | 16 => ⟨S1, .i32⟩
  | 17 => ⟨S_, .i32⟩
  | 18 => ⟨S4096x1, .i32⟩
  | 19 => ⟨S4096x1, .i1⟩
  | 20 => ⟨S1x1, .i32⟩
  | 21 => ⟨S4096x1, .i32⟩
  | 22 => ⟨S4096x1, .i1⟩
  | 23 => ⟨S4096x1, .i1⟩
  | 24 => ⟨S_, .i1⟩
  | 25 => ⟨S4096, .i1⟩
  | 26 => ⟨S4096x128x128, .f32⟩
  | 27 => ⟨S4096x128x128, .i1⟩
  | 28 => ⟨S_, .f32⟩
  | 29 => ⟨S4096x128x128, .f32⟩
  | 30 => ⟨S4096x128x128, .f32⟩
  | 31 => ⟨S4096x128, .f32⟩
  | 32 => ⟨S4096x128, .f32⟩
  | 33 => ⟨S4096x1x128, .f32⟩
  | 34 => ⟨S4096x128, .f32⟩
  | 35 => ⟨S_, .f32⟩
  | 36 => ⟨S4096, .f32⟩
  | 37 => ⟨S4096, .f32⟩
  | 38 => ⟨S_, .f32⟩
  | 39 => ⟨S_, .f32⟩
  | 40 => ⟨S4096, .f32⟩
  | 41 => ⟨S4096, .f32⟩
  | 42 => ⟨S4096, .i32⟩
  | 43 => ⟨S_, .i32⟩
  | 44 => ⟨S4096, .i32⟩
  | 45 => ⟨S4096, .i1⟩
  | 46 => ⟨S_, .i32⟩
  | 47 => ⟨S_, .i32⟩
  | 48 => ⟨S4096, .i32⟩
  | 49 => ⟨S4096, .i32⟩
  | 50 => ⟨S_, .i32⟩
  | 51 => ⟨S4096, .i32⟩
  | 52 => ⟨S4096, .i32⟩
  | 53 => ⟨S1x9x128x128, .f32⟩
  | 54 => ⟨S9x128x128, .f32⟩
  | 55 => ⟨S_, .i32⟩
  | 56 => ⟨S4096, .i32⟩
  | 57 => ⟨S4096, .i1⟩
  | 58 => ⟨S_, .i32⟩
  | 59 => ⟨S4096, .i32⟩
  | 60 => ⟨S4096, .i32⟩
  | 61 => ⟨S4096, .i32⟩
  | 62 => ⟨S4096x1, .i32⟩
  | 63 => ⟨S1, .i32⟩
  | 64 => ⟨S_, .i32⟩
  | 65 => ⟨S4096x1, .i32⟩
  | 66 => ⟨S4096x1, .i1⟩
  | 67 => ⟨S1x1, .i32⟩
  | 68 => ⟨S4096x1, .i32⟩
  | 69 => ⟨S4096x1, .i1⟩
  | 70 => ⟨S4096x1, .i1⟩
  | 71 => ⟨S_, .i1⟩
  | 72 => ⟨S4096, .i1⟩
  | 73 => ⟨S4096x128x128, .f32⟩
  | 74 => ⟨S4096x128x128, .i1⟩
  | 75 => ⟨S_, .f32⟩
  | 76 => ⟨S4096x128x128, .f32⟩
  | 77 => ⟨S4096x128x128, .f32⟩
  | 78 => ⟨S4096x128, .f32⟩
  | 79 => ⟨S4096x128, .f32⟩
  | 80 => ⟨S1x128, .f32⟩
  | 81 => ⟨S128, .f32⟩
  | 82 => ⟨S1x128, .f32⟩
  | 83 => ⟨S128, .f32⟩
  | 84 => ⟨S_, .f32⟩
  | 85 => ⟨S4096, .f32⟩
  | 86 => ⟨S4096x1, .f32⟩
  | 87 => ⟨S_, .f32⟩
  | 88 => ⟨S4096x1, .f32⟩
  | 89 => ⟨S4096x1, .f32⟩
  | 90 => ⟨S4096x128, .f32⟩
  | 91 => ⟨S4096x128, .f32⟩
  | 92 => ⟨S4096x128, .f32⟩
  | 93 => ⟨S_, .f32⟩
  | 94 => ⟨S4096, .f32⟩
  | 95 => ⟨S4096x1, .f32⟩
  | 96 => ⟨S_, .f32⟩
  | 97 => ⟨S4096x1, .f32⟩
  | 98 => ⟨S4096x1, .f32⟩
  | 99 => ⟨S4096x128, .f32⟩
  | 100 => ⟨S4096x128, .f32⟩
  | 101 => ⟨S_, .f32⟩
  | 102 => ⟨S4096x1, .f32⟩
  | 103 => ⟨S4096x1, .f32⟩
  | 104 => ⟨S4096x1, .f32⟩
  | 105 => ⟨S4096x128, .f32⟩
  | 106 => ⟨S4096x128, .f32⟩
  | 107 => ⟨S1x128, .f32⟩
  | 108 => ⟨S4096x128, .f32⟩
  | 109 => ⟨S4096x128, .f32⟩
  | 110 => ⟨S1x128, .f32⟩
  | 111 => ⟨S4096x128, .f32⟩
  | 112 => ⟨S4096x128, .f32⟩
  | 113 => ⟨S_, .f32⟩
  | 114 => ⟨S4096x128, .f32⟩
  | 115 => ⟨S4096x128, .i1⟩
  | 116 => ⟨S_, .f32⟩
  | 117 => ⟨S4096x128, .f32⟩
  | 118 => ⟨S4096x128, .f32⟩
  | 119 => ⟨S4096x128, .f32⟩
  | 120 => ⟨S4096x1x128, .f32⟩
  | 121 => ⟨S4096x128, .f32⟩
  | 122 => ⟨S_, .f32⟩
  | 123 => ⟨S4096, .f32⟩
  | 124 => ⟨S4096, .f32⟩
  | 125 => ⟨S_, .f32⟩
  | 126 => ⟨S_, .f32⟩
  | 127 => ⟨S4096, .f32⟩
  | _ => ⟨S4096x9x128, .f32⟩

abbrev hbmTy0_10 (i : Nat) : BufTy := match i % 128 with
  | 0 => ⟨S4096, .f32⟩
  | 1 => ⟨S4096, .i32⟩
  | 2 => ⟨S_, .i32⟩
  | 3 => ⟨S4096, .i32⟩
  | 4 => ⟨S4096, .i1⟩
  | 5 => ⟨S_, .i32⟩
  | 6 => ⟨S_, .i32⟩
  | 7 => ⟨S4096, .i32⟩
  | 8 => ⟨S4096, .i32⟩
  | 9 => ⟨S_, .i32⟩
  | 10 => ⟨S4096, .i32⟩
  | 11 => ⟨S4096, .i32⟩
  | 12 => ⟨S1x9x128x128, .f32⟩
  | 13 => ⟨S9x128x128, .f32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S4096x1, .i32⟩
  | 22 => ⟨S1, .i32⟩
  | 23 => ⟨S_, .i32⟩
  | 24 => ⟨S4096x1, .i32⟩
  | 25 => ⟨S4096x1, .i1⟩
  | 26 => ⟨S1x1, .i32⟩
  | 27 => ⟨S4096x1, .i32⟩
  | 28 => ⟨S4096x1, .i1⟩
  | 29 => ⟨S4096x1, .i1⟩
  | 30 => ⟨S_, .i1⟩
  | 31 => ⟨S4096, .i1⟩
  | 32 => ⟨S4096x128x128, .f32⟩
  | 33 => ⟨S4096x128x128, .i1⟩
  | 34 => ⟨S_, .f32⟩
  | 35 => ⟨S4096x128x128, .f32⟩
  | 36 => ⟨S4096x128x128, .f32⟩
  | 37 => ⟨S4096x128, .f32⟩
  | 38 => ⟨S4096x1x128, .f32⟩
  | 39 => ⟨S4096x128, .f32⟩
  | 40 => ⟨S_, .f32⟩
  | 41 => ⟨S4096, .f32⟩
  | 42 => ⟨S4096, .f32⟩
  | 43 => ⟨S_, .f32⟩
  | 44 => ⟨S_, .f32⟩
  | 45 => ⟨S4096, .f32⟩
  | 46 => ⟨S4096, .f32⟩
  | 47 => ⟨S4096, .i32⟩
  | 48 => ⟨S_, .i32⟩
  | 49 => ⟨S4096, .i32⟩
  | 50 => ⟨S4096, .i1⟩
  | 51 => ⟨S_, .i32⟩
  | 52 => ⟨S_, .i32⟩
  | 53 => ⟨S4096, .i32⟩
  | 54 => ⟨S4096, .i32⟩
  | 55 => ⟨S_, .i32⟩
  | 56 => ⟨S4096, .i32⟩
  | 57 => ⟨S4096, .i32⟩
  | 58 => ⟨S1x9x128x128, .f32⟩
  | 59 => ⟨S9x128x128, .f32⟩
  | 60 => ⟨S_, .i32⟩
  | 61 => ⟨S4096, .i32⟩
  | 62 => ⟨S4096, .i1⟩
  | 63 => ⟨S_, .i32⟩
  | 64 => ⟨S4096, .i32⟩
  | 65 => ⟨S4096, .i32⟩
  | 66 => ⟨S4096, .i32⟩
  | 67 => ⟨S4096x1, .i32⟩
  | 68 => ⟨S1, .i32⟩
  | 69 => ⟨S_, .i32⟩
  | 70 => ⟨S4096x1, .i32⟩
  | 71 => ⟨S4096x1, .i1⟩
  | 72 => ⟨S1x1, .i32⟩
  | 73 => ⟨S4096x1, .i32⟩
  | 74 => ⟨S4096x1, .i1⟩
  | 75 => ⟨S4096x1, .i1⟩
  | 76 => ⟨S_, .i1⟩
  | 77 => ⟨S4096, .i1⟩
  | 78 => ⟨S4096x128x128, .f32⟩
  | 79 => ⟨S4096x128x128, .i1⟩
  | 80 => ⟨S_, .f32⟩
  | 81 => ⟨S4096x128x128, .f32⟩
  | 82 => ⟨S4096x128x128, .f32⟩
  | 83 => ⟨S4096x128, .f32⟩
  | 84 => ⟨S4096x128, .f32⟩
  | 85 => ⟨S4096x1x128, .f32⟩
  | 86 => ⟨S4096x128, .f32⟩
  | 87 => ⟨S_, .f32⟩
  | 88 => ⟨S4096, .f32⟩
  | 89 => ⟨S4096, .f32⟩
  | 90 => ⟨S_, .f32⟩
  | 91 => ⟨S_, .f32⟩
  | 92 => ⟨S4096, .f32⟩
  | 93 => ⟨S4096, .f32⟩
  | 94 => ⟨S4096, .i32⟩
  | 95 => ⟨S_, .i32⟩
  | 96 => ⟨S4096, .i32⟩
  | 97 => ⟨S4096, .i1⟩
  | 98 => ⟨S_, .i32⟩
  | 99 => ⟨S_, .i32⟩
  | 100 => ⟨S4096, .i32⟩
  | 101 => ⟨S4096, .i32⟩
  | 102 => ⟨S_, .i32⟩
  | 103 => ⟨S4096, .i32⟩
  | 104 => ⟨S4096, .i32⟩
  | 105 => ⟨S1x9x128x128, .f32⟩
  | 106 => ⟨S9x128x128, .f32⟩
  | 107 => ⟨S_, .i32⟩
  | 108 => ⟨S4096, .i32⟩
  | 109 => ⟨S4096, .i1⟩
  | 110 => ⟨S_, .i32⟩
  | 111 => ⟨S4096, .i32⟩
  | 112 => ⟨S4096, .i32⟩
  | 113 => ⟨S4096, .i32⟩
  | 114 => ⟨S4096x1, .i32⟩
  | 115 => ⟨S1, .i32⟩
  | 116 => ⟨S_, .i32⟩
  | 117 => ⟨S4096x1, .i32⟩
  | 118 => ⟨S4096x1, .i1⟩
  | 119 => ⟨S1x1, .i32⟩
  | 120 => ⟨S4096x1, .i32⟩
  | 121 => ⟨S4096x1, .i1⟩
  | 122 => ⟨S4096x1, .i1⟩
  | 123 => ⟨S_, .i1⟩
  | 124 => ⟨S4096, .i1⟩
  | 125 => ⟨S4096x128x128, .f32⟩
  | 126 => ⟨S4096x128x128, .i1⟩
  | 127 => ⟨S_, .f32⟩
  | _ => ⟨S4096x9x128, .f32⟩

abbrev hbmTy0_11 (i : Nat) : BufTy := match i % 128 with
  | 0 => ⟨S4096x128x128, .f32⟩
  | 1 => ⟨S4096x128x128, .f32⟩
  | 2 => ⟨S4096x128, .f32⟩
  | 3 => ⟨S4096x128, .f32⟩
  | 4 => ⟨S4096x1x128, .f32⟩
  | 5 => ⟨S4096x128, .f32⟩
  | 6 => ⟨S_, .f32⟩
  | 7 => ⟨S4096, .f32⟩
  | 8 => ⟨S4096, .f32⟩
  | 9 => ⟨S_, .f32⟩
  | 10 => ⟨S_, .f32⟩
  | 11 => ⟨S4096, .f32⟩
  | 12 => ⟨S4096, .f32⟩
  | 13 => ⟨S4096, .i32⟩
  | 14 => ⟨S_, .i32⟩
  | 15 => ⟨S4096, .i32⟩
  | 16 => ⟨S4096, .i1⟩
  | 17 => ⟨S_, .i32⟩
  | 18 => ⟨S_, .i32⟩
  | 19 => ⟨S4096, .i32⟩
  | 20 => ⟨S4096, .i32⟩
  | 21 => ⟨S_, .i32⟩
  | 22 => ⟨S4096, .i32⟩
  | 23 => ⟨S4096, .i32⟩
  | 24 => ⟨S1x9x128x128, .f32⟩
  | 25 => ⟨S9x128x128, .f32⟩
  | 26 => ⟨S_, .i32⟩
  | 27 => ⟨S4096, .i32⟩
  | 28 => ⟨S4096, .i1⟩
  | 29 => ⟨S_, .i32⟩
  | 30 => ⟨S4096, .i32⟩
  | 31 => ⟨S4096, .i32⟩
  | 32 => ⟨S4096, .i32⟩
  | 33 => ⟨S4096x1, .i32⟩
  | 34 => ⟨S1, .i32⟩
  | 35 => ⟨S_, .i32⟩
  | 36 => ⟨S4096x1, .i32⟩
  | 37 => ⟨S4096x1, .i1⟩
  | 38 => ⟨S1x1, .i32⟩
  | 39 => ⟨S4096x1, .i32⟩
  | 40 => ⟨S4096x1, .i1⟩
  | 41 => ⟨S4096x1, .i1⟩
  | 42 => ⟨S_, .i1⟩
  | 43 => ⟨S4096, .i1⟩
  | 44 => ⟨S4096x128x128, .f32⟩
  | 45 => ⟨S4096x128x128, .i1⟩
  | 46 => ⟨S_, .f32⟩
  | 47 => ⟨S4096x128x128, .f32⟩
  | 48 => ⟨S4096x128x128, .f32⟩
  | 49 => ⟨S4096x128, .f32⟩
  | 50 => ⟨S4096x128, .f32⟩
  | 51 => ⟨S1x128, .f32⟩
  | 52 => ⟨S128, .f32⟩
  | 53 => ⟨S1x128, .f32⟩
  | 54 => ⟨S128, .f32⟩
  | 55 => ⟨S_, .f32⟩
  | 56 => ⟨S4096, .f32⟩
  | 57 => ⟨S4096x1, .f32⟩
  | 58 => ⟨S_, .f32⟩
  | 59 => ⟨S4096x1, .f32⟩
  | 60 => ⟨S4096x1, .f32⟩
  | 61 => ⟨S4096x128, .f32⟩
  | 62 => ⟨S4096x128, .f32⟩
  | 63 => ⟨S4096x128, .f32⟩
  | 64 => ⟨S_, .f32⟩
  | 65 => ⟨S4096, .f32⟩
  | 66 => ⟨S4096x1, .f32⟩
  | 67 => ⟨S_, .f32⟩
  | 68 => ⟨S4096x1, .f32⟩
  | 69 => ⟨S4096x1, .f32⟩
  | 70 => ⟨S4096x128, .f32⟩
  | 71 => ⟨S4096x128, .f32⟩
  | 72 => ⟨S_, .f32⟩
  | 73 => ⟨S4096x1, .f32⟩
  | 74 => ⟨S4096x1, .f32⟩
  | 75 => ⟨S4096x1, .f32⟩
  | 76 => ⟨S4096x128, .f32⟩
  | 77 => ⟨S4096x128, .f32⟩
  | 78 => ⟨S1x128, .f32⟩
  | 79 => ⟨S4096x128, .f32⟩
  | 80 => ⟨S4096x128, .f32⟩
  | 81 => ⟨S1x128, .f32⟩
  | 82 => ⟨S4096x128, .f32⟩
  | 83 => ⟨S4096x128, .f32⟩
  | 84 => ⟨S_, .f32⟩
  | 85 => ⟨S4096x128, .f32⟩
  | 86 => ⟨S4096x128, .i1⟩
  | 87 => ⟨S_, .f32⟩
  | 88 => ⟨S4096x128, .f32⟩
  | 89 => ⟨S4096x128, .f32⟩
  | 90 => ⟨S4096x128, .f32⟩
  | 91 => ⟨S4096x1x128, .f32⟩
  | 92 => ⟨S4096x128, .f32⟩
  | 93 => ⟨S_, .f32⟩
  | 94 => ⟨S4096, .f32⟩
  | 95 => ⟨S4096, .f32⟩
  | 96 => ⟨S_, .f32⟩
  | 97 => ⟨S_, .f32⟩
  | 98 => ⟨S4096, .f32⟩
  | 99 => ⟨S4096, .f32⟩
  | 100 => ⟨S4096, .i32⟩
  | 101 => ⟨S_, .i32⟩
  | 102 => ⟨S4096, .i32⟩
  | 103 => ⟨S4096, .i1⟩
  | 104 => ⟨S_, .i32⟩
  | 105 => ⟨S_, .i32⟩
  | 106 => ⟨S4096, .i32⟩
  | 107 => ⟨S4096, .i32⟩
  | 108 => ⟨S_, .i32⟩
  | 109 => ⟨S4096, .i32⟩
  | 110 => ⟨S4096, .i32⟩
  | 111 => ⟨S1x9x128x128, .f32⟩
  | 112 => ⟨S9x128x128, .f32⟩
  | 113 => ⟨S_, .i32⟩
  | 114 => ⟨S4096, .i32⟩
  | 115 => ⟨S4096, .i1⟩
  | 116 => ⟨S_, .i32⟩
  | 117 => ⟨S4096, .i32⟩
  | 118 => ⟨S4096, .i32⟩
  | 119 => ⟨S4096, .i32⟩
  | 120 => ⟨S4096x1, .i32⟩
  | 121 => ⟨S1, .i32⟩
  | 122 => ⟨S_, .i32⟩
  | 123 => ⟨S4096x1, .i32⟩
  | 124 => ⟨S4096x1, .i1⟩
  | 125 => ⟨S1x1, .i32⟩
  | 126 => ⟨S4096x1, .i32⟩
  | 127 => ⟨S4096x1, .i1⟩
  | _ => ⟨S4096x9x128, .f32⟩

abbrev hbmTy0_12 (i : Nat) : BufTy := match i % 128 with
  | 0 => ⟨S4096x1, .i1⟩
  | 1 => ⟨S_, .i1⟩
  | 2 => ⟨S4096, .i1⟩
  | 3 => ⟨S4096x128x128, .f32⟩
  | 4 => ⟨S4096x128x128, .i1⟩
  | 5 => ⟨S_, .f32⟩
  | 6 => ⟨S4096x128x128, .f32⟩
  | 7 => ⟨S4096x128x128, .f32⟩
  | 8 => ⟨S4096x128, .f32⟩
  | 9 => ⟨S4096x1x128, .f32⟩
  | 10 => ⟨S4096x128, .f32⟩
  | 11 => ⟨S_, .f32⟩
  | 12 => ⟨S4096, .f32⟩
  | 13 => ⟨S4096, .f32⟩
  | 14 => ⟨S_, .f32⟩
  | 15 => ⟨S_, .f32⟩
  | 16 => ⟨S4096, .f32⟩
  | 17 => ⟨S4096, .f32⟩
  | 18 => ⟨S4096, .i32⟩
  | 19 => ⟨S_, .i32⟩
  | 20 => ⟨S4096, .i32⟩
  | 21 => ⟨S4096, .i1⟩
  | 22 => ⟨S_, .i32⟩
  | 23 => ⟨S_, .i32⟩
  | 24 => ⟨S4096, .i32⟩
  | 25 => ⟨S4096, .i32⟩
  | 26 => ⟨S_, .i32⟩
  | 27 => ⟨S4096, .i32⟩
  | 28 => ⟨S4096, .i32⟩
  | 29 => ⟨S1x9x128x128, .f32⟩
  | 30 => ⟨S9x128x128, .f32⟩
  | 31 => ⟨S_, .i32⟩
  | 32 => ⟨S4096, .i32⟩
  | 33 => ⟨S4096, .i1⟩
  | 34 => ⟨S_, .i32⟩
  | 35 => ⟨S4096, .i32⟩
  | 36 => ⟨S4096, .i32⟩
  | 37 => ⟨S4096, .i32⟩
  | 38 => ⟨S4096x1, .i32⟩
  | 39 => ⟨S1, .i32⟩
  | 40 => ⟨S_, .i32⟩
  | 41 => ⟨S4096x1, .i32⟩
  | 42 => ⟨S4096x1, .i1⟩
  | 43 => ⟨S1x1, .i32⟩
  | 44 => ⟨S4096x1, .i32⟩
  | 45 => ⟨S4096x1, .i1⟩
  | 46 => ⟨S4096x1, .i1⟩
  | 47 => ⟨S_, .i1⟩
  | 48 => ⟨S4096, .i1⟩
  | 49 => ⟨S4096x128x128, .f32⟩
  | 50 => ⟨S4096x128x128, .i1⟩
  | 51 => ⟨S_, .f32⟩
  | 52 => ⟨S4096x128x128, .f32⟩
  | 53 => ⟨S4096x128x128, .f32⟩
  | 54 => ⟨S4096x128, .f32⟩
  | 55 => ⟨S4096x128, .f32⟩
  | 56 => ⟨S4096x1x128, .f32⟩
  | 57 => ⟨S4096x128, .f32⟩
  | 58 => ⟨S_, .f32⟩
  | 59 => ⟨S4096, .f32⟩
  | 60 => ⟨S4096, .f32⟩
  | 61 => ⟨S_, .f32⟩
  | 62 => ⟨S_, .f32⟩
  | 63 => ⟨S4096, .f32⟩
  | 64 => ⟨S4096, .f32⟩
  | 65 => ⟨S4096, .i32⟩
  | 66 => ⟨S_, .i32⟩
  | 67 => ⟨S4096, .i32⟩
  | 68 => ⟨S4096, .i1⟩
  | 69 => ⟨S_, .i32⟩
  | 70 => ⟨S_, .i32⟩
  | 71 => ⟨S4096, .i32⟩
  | 72 => ⟨S4096, .i32⟩
  | 73 => ⟨S_, .i32⟩
  | 74 => ⟨S4096, .i32⟩
  | 75 => ⟨S4096, .i32⟩
  | 76 => ⟨S1x9x128x128, .f32⟩
  | 77 => ⟨S9x128x128, .f32⟩
  | 78 => ⟨S_, .i32⟩
  | 79 => ⟨S4096, .i32⟩
  | 80 => ⟨S4096, .i1⟩
  | 81 => ⟨S_, .i32⟩
  | 82 => ⟨S4096, .i32⟩
  | 83 => ⟨S4096, .i32⟩
  | 84 => ⟨S4096, .i32⟩
  | 85 => ⟨S4096x1, .i32⟩
  | 86 => ⟨S1, .i32⟩
  | 87 => ⟨S_, .i32⟩
  | 88 => ⟨S4096x1, .i32⟩
  | 89 => ⟨S4096x1, .i1⟩
  | 90 => ⟨S1x1, .i32⟩
  | 91 => ⟨S4096x1, .i32⟩
  | 92 => ⟨S4096x1, .i1⟩
  | 93 => ⟨S4096x1, .i1⟩
  | 94 => ⟨S_, .i1⟩
  | 95 => ⟨S4096, .i1⟩
  | 96 => ⟨S4096x128x128, .f32⟩
  | 97 => ⟨S4096x128x128, .i1⟩
  | 98 => ⟨S_, .f32⟩
  | 99 => ⟨S4096x128x128, .f32⟩
  | 100 => ⟨S4096x128x128, .f32⟩
  | 101 => ⟨S4096x128, .f32⟩
  | 102 => ⟨S4096x128, .f32⟩
  | 103 => ⟨S4096x1x128, .f32⟩
  | 104 => ⟨S4096x128, .f32⟩
  | 105 => ⟨S_, .f32⟩
  | 106 => ⟨S4096, .f32⟩
  | 107 => ⟨S4096, .f32⟩
  | 108 => ⟨S_, .f32⟩
  | 109 => ⟨S_, .f32⟩
  | 110 => ⟨S4096, .f32⟩
  | 111 => ⟨S4096, .f32⟩
  | 112 => ⟨S4096, .i32⟩
  | 113 => ⟨S_, .i32⟩
  | 114 => ⟨S4096, .i32⟩
  | 115 => ⟨S4096, .i1⟩
  | 116 => ⟨S_, .i32⟩
  | 117 => ⟨S_, .i32⟩
  | 118 => ⟨S4096, .i32⟩
  | 119 => ⟨S4096, .i32⟩
  | 120 => ⟨S_, .i32⟩
  | 121 => ⟨S4096, .i32⟩
  | 122 => ⟨S4096, .i32⟩
  | 123 => ⟨S1x9x128x128, .f32⟩
  | 124 => ⟨S9x128x128, .f32⟩
  | 125 => ⟨S_, .i32⟩
  | 126 => ⟨S4096, .i32⟩
  | 127 => ⟨S4096, .i1⟩
  | _ => ⟨S4096x9x128, .f32⟩

abbrev hbmTy0_13 (i : Nat) : BufTy := match i % 128 with
  | 0 => ⟨S_, .i32⟩
  | 1 => ⟨S4096, .i32⟩
  | 2 => ⟨S4096, .i32⟩
  | 3 => ⟨S4096, .i32⟩
  | 4 => ⟨S4096x1, .i32⟩
  | 5 => ⟨S1, .i32⟩
  | 6 => ⟨S_, .i32⟩
  | 7 => ⟨S4096x1, .i32⟩
  | 8 => ⟨S4096x1, .i1⟩
  | 9 => ⟨S1x1, .i32⟩
  | 10 => ⟨S4096x1, .i32⟩
  | 11 => ⟨S4096x1, .i1⟩
  | 12 => ⟨S4096x1, .i1⟩
  | 13 => ⟨S_, .i1⟩
  | 14 => ⟨S4096, .i1⟩
  | 15 => ⟨S4096x128x128, .f32⟩
  | 16 => ⟨S4096x128x128, .i1⟩
  | 17 => ⟨S_, .f32⟩
  | 18 => ⟨S4096x128x128, .f32⟩
  | 19 => ⟨S4096x128x128, .f32⟩
  | 20 => ⟨S4096x128, .f32⟩
  | 21 => ⟨S4096x128, .f32⟩
  | 22 => ⟨S1x128, .f32⟩
  | 23 => ⟨S128, .f32⟩
  | 24 => ⟨S1x128, .f32⟩
  | 25 => ⟨S128, .f32⟩
  | 26 => ⟨S_, .f32⟩
  | 27 => ⟨S4096, .f32⟩
  | 28 => ⟨S4096x1, .f32⟩
  | 29 => ⟨S_, .f32⟩
  | 30 => ⟨S4096x1, .f32⟩
  | 31 => ⟨S4096x1, .f32⟩
  | 32 => ⟨S4096x128, .f32⟩
  | 33 => ⟨S4096x128, .f32⟩
  | 34 => ⟨S4096x128, .f32⟩
  | 35 => ⟨S_, .f32⟩
  | 36 => ⟨S4096, .f32⟩
  | 37 => ⟨S4096x1, .f32⟩
  | 38 => ⟨S_, .f32⟩
  | 39 => ⟨S4096x1, .f32⟩
  | 40 => ⟨S4096x1, .f32⟩
  | 41 => ⟨S4096x128, .f32⟩
  | 42 => ⟨S4096x128, .f32⟩
  | 43 => ⟨S_, .f32⟩
  | 44 => ⟨S4096x1, .f32⟩
  | 45 => ⟨S4096x1, .f32⟩
  | 46 => ⟨S4096x1, .f32⟩
  | 47 => ⟨S4096x128, .f32⟩
  | 48 => ⟨S4096x128, .f32⟩
  | 49 => ⟨S1x128, .f32⟩
  | 50 => ⟨S4096x128, .f32⟩
  | 51 => ⟨S4096x128, .f32⟩
  | 52 => ⟨S1x128, .f32⟩
  | 53 => ⟨S4096x128, .f32⟩
  | 54 => ⟨S4096x128, .f32⟩
  | 55 => ⟨S_, .f32⟩
  | 56 => ⟨S4096x128, .f32⟩
  | 57 => ⟨S4096x128, .i1⟩
  | 58 => ⟨S_, .f32⟩
  | 59 => ⟨S4096x128, .f32⟩
  | 60 => ⟨S4096x128, .f32⟩
  | 61 => ⟨S4096x128, .f32⟩
  | 62 => ⟨S4096x1x128, .f32⟩
  | 63 => ⟨S4096x128, .f32⟩
  | 64 => ⟨S_, .f32⟩
  | 65 => ⟨S4096, .f32⟩
  | 66 => ⟨S4096, .f32⟩
  | 67 => ⟨S_, .f32⟩
  | 68 => ⟨S_, .f32⟩
  | 69 => ⟨S4096, .f32⟩
  | 70 => ⟨S4096, .f32⟩
  | 71 => ⟨S4096, .i32⟩
  | 72 => ⟨S_, .i32⟩
  | 73 => ⟨S4096, .i32⟩
  | 74 => ⟨S4096, .i1⟩
  | 75 => ⟨S_, .i32⟩
  | 76 => ⟨S_, .i32⟩
  | 77 => ⟨S4096, .i32⟩
  | 78 => ⟨S4096, .i32⟩
  | 79 => ⟨S_, .i32⟩
  | 80 => ⟨S4096, .i32⟩
  | 81 => ⟨S4096, .i32⟩
  | 82 => ⟨S1x9x128x128, .f32⟩
  | 83 => ⟨S9x128x128, .f32⟩
  | 84 => ⟨S_, .i32⟩
  | 85 => ⟨S4096, .i32⟩
  | 86 => ⟨S4096, .i1⟩
  | 87 => ⟨S_, .i32⟩
  | 88 => ⟨S4096, .i32⟩
  | 89 => ⟨S4096, .i32⟩
  | 90 => ⟨S4096, .i32⟩
  | 91 => ⟨S4096x1, .i32⟩
  | 92 => ⟨S1, .i32⟩
  | 93 => ⟨S_, .i32⟩
  | 94 => ⟨S4096x1, .i32⟩
  | 95 => ⟨S4096x1, .i1⟩
  | 96 => ⟨S1x1, .i32⟩
  | 97 => ⟨S4096x1, .i32⟩
  | 98 => ⟨S4096x1, .i1⟩
  | 99 => ⟨S4096x1, .i1⟩
  | 100 => ⟨S_, .i1⟩
  | 101 => ⟨S4096, .i1⟩
  | 102 => ⟨S4096x128x128, .f32⟩
  | 103 => ⟨S4096x128x128, .i1⟩
  | 104 => ⟨S_, .f32⟩
  | 105 => ⟨S4096x128x128, .f32⟩
  | 106 => ⟨S4096x128x128, .f32⟩
  | 107 => ⟨S4096x128, .f32⟩
  | 108 => ⟨S4096x1x128, .f32⟩
  | 109 => ⟨S4096x128, .f32⟩
  | 110 => ⟨S_, .f32⟩
  | 111 => ⟨S4096, .f32⟩
  | 112 => ⟨S4096, .f32⟩
  | 113 => ⟨S_, .f32⟩
  | 114 => ⟨S_, .f32⟩
  | 115 => ⟨S4096, .f32⟩
  | 116 => ⟨S4096, .f32⟩
  | 117 => ⟨S4096, .i32⟩
  | 118 => ⟨S_, .i32⟩
  | 119 => ⟨S4096, .i32⟩
  | 120 => ⟨S4096, .i1⟩
  | 121 => ⟨S_, .i32⟩
  | 122 => ⟨S_, .i32⟩
  | 123 => ⟨S4096, .i32⟩
  | 124 => ⟨S4096, .i32⟩
  | 125 => ⟨S_, .i32⟩
  | 126 => ⟨S4096, .i32⟩
  | 127 => ⟨S4096, .i32⟩
  | _ => ⟨S4096x9x128, .f32⟩

abbrev hbmTy0_14 (i : Nat) : BufTy := match i % 128 with
  | 0 => ⟨S1x9x128x128, .f32⟩
  | 1 => ⟨S9x128x128, .f32⟩
  | 2 => ⟨S_, .i32⟩
  | 3 => ⟨S4096, .i32⟩
  | 4 => ⟨S4096, .i1⟩
  | 5 => ⟨S_, .i32⟩
  | 6 => ⟨S4096, .i32⟩
  | 7 => ⟨S4096, .i32⟩
  | 8 => ⟨S4096, .i32⟩
  | 9 => ⟨S4096x1, .i32⟩
  | 10 => ⟨S1, .i32⟩
  | 11 => ⟨S_, .i32⟩
  | 12 => ⟨S4096x1, .i32⟩
  | 13 => ⟨S4096x1, .i1⟩
  | 14 => ⟨S1x1, .i32⟩
  | 15 => ⟨S4096x1, .i32⟩
  | 16 => ⟨S4096x1, .i1⟩
  | 17 => ⟨S4096x1, .i1⟩
  | 18 => ⟨S_, .i1⟩
  | 19 => ⟨S4096, .i1⟩
  | 20 => ⟨S4096x128x128, .f32⟩
  | 21 => ⟨S4096x128x128, .i1⟩
  | 22 => ⟨S_, .f32⟩
  | 23 => ⟨S4096x128x128, .f32⟩
  | 24 => ⟨S4096x128x128, .f32⟩
  | 25 => ⟨S4096x128, .f32⟩
  | 26 => ⟨S4096x128, .f32⟩
  | 27 => ⟨S4096x1x128, .f32⟩
  | 28 => ⟨S4096x128, .f32⟩
  | 29 => ⟨S_, .f32⟩
  | 30 => ⟨S4096, .f32⟩
  | 31 => ⟨S4096, .f32⟩
  | 32 => ⟨S_, .f32⟩
  | 33 => ⟨S_, .f32⟩
  | 34 => ⟨S4096, .f32⟩
  | 35 => ⟨S4096, .f32⟩
  | 36 => ⟨S4096, .i32⟩
  | 37 => ⟨S_, .i32⟩
  | 38 => ⟨S4096, .i32⟩
  | 39 => ⟨S4096, .i1⟩
  | 40 => ⟨S_, .i32⟩
  | 41 => ⟨S_, .i32⟩
  | 42 => ⟨S4096, .i32⟩
  | 43 => ⟨S4096, .i32⟩
  | 44 => ⟨S_, .i32⟩
  | 45 => ⟨S4096, .i32⟩
  | 46 => ⟨S4096, .i32⟩
  | 47 => ⟨S1x9x128x128, .f32⟩
  | 48 => ⟨S9x128x128, .f32⟩
  | 49 => ⟨S_, .i32⟩
  | 50 => ⟨S4096, .i32⟩
  | 51 => ⟨S4096, .i1⟩
  | 52 => ⟨S_, .i32⟩
  | 53 => ⟨S4096, .i32⟩
  | 54 => ⟨S4096, .i32⟩
  | 55 => ⟨S4096, .i32⟩
  | 56 => ⟨S4096x1, .i32⟩
  | 57 => ⟨S1, .i32⟩
  | 58 => ⟨S_, .i32⟩
  | 59 => ⟨S4096x1, .i32⟩
  | 60 => ⟨S4096x1, .i1⟩
  | 61 => ⟨S1x1, .i32⟩
  | 62 => ⟨S4096x1, .i32⟩
  | 63 => ⟨S4096x1, .i1⟩
  | 64 => ⟨S4096x1, .i1⟩
  | 65 => ⟨S_, .i1⟩
  | 66 => ⟨S4096, .i1⟩
  | 67 => ⟨S4096x128x128, .f32⟩
  | 68 => ⟨S4096x128x128, .i1⟩
  | 69 => ⟨S_, .f32⟩
  | 70 => ⟨S4096x128x128, .f32⟩
  | 71 => ⟨S4096x128x128, .f32⟩
  | 72 => ⟨S4096x128, .f32⟩
  | 73 => ⟨S4096x128, .f32⟩
  | 74 => ⟨S4096x1x128, .f32⟩
  | 75 => ⟨S4096x128, .f32⟩
  | 76 => ⟨S_, .f32⟩
  | 77 => ⟨S4096, .f32⟩
  | 78 => ⟨S4096, .f32⟩
  | 79 => ⟨S_, .f32⟩
  | 80 => ⟨S_, .f32⟩
  | 81 => ⟨S4096, .f32⟩
  | 82 => ⟨S4096, .f32⟩
  | 83 => ⟨S4096, .i32⟩
  | 84 => ⟨S_, .i32⟩
  | 85 => ⟨S4096, .i32⟩
  | 86 => ⟨S4096, .i1⟩
  | 87 => ⟨S_, .i32⟩
  | 88 => ⟨S_, .i32⟩
  | 89 => ⟨S4096, .i32⟩
  | 90 => ⟨S4096, .i32⟩
  | 91 => ⟨S_, .i32⟩
  | 92 => ⟨S4096, .i32⟩
  | 93 => ⟨S4096, .i32⟩
  | 94 => ⟨S1x9x128x128, .f32⟩
  | 95 => ⟨S9x128x128, .f32⟩
  | 96 => ⟨S_, .i32⟩
  | 97 => ⟨S4096, .i32⟩
  | 98 => ⟨S4096, .i1⟩
  | 99 => ⟨S_, .i32⟩
  | 100 => ⟨S4096, .i32⟩
  | 101 => ⟨S4096, .i32⟩
  | 102 => ⟨S4096, .i32⟩
  | 103 => ⟨S4096x1, .i32⟩
  | 104 => ⟨S1, .i32⟩
  | 105 => ⟨S_, .i32⟩
  | 106 => ⟨S4096x1, .i32⟩
  | 107 => ⟨S4096x1, .i1⟩
  | 108 => ⟨S1x1, .i32⟩
  | 109 => ⟨S4096x1, .i32⟩
  | 110 => ⟨S4096x1, .i1⟩
  | 111 => ⟨S4096x1, .i1⟩
  | 112 => ⟨S_, .i1⟩
  | 113 => ⟨S4096, .i1⟩
  | 114 => ⟨S4096x128x128, .f32⟩
  | 115 => ⟨S4096x128x128, .i1⟩
  | 116 => ⟨S_, .f32⟩
  | 117 => ⟨S4096x128x128, .f32⟩
  | 118 => ⟨S4096x128x128, .f32⟩
  | 119 => ⟨S4096x128, .f32⟩
  | 120 => ⟨S4096x128, .f32⟩
  | 121 => ⟨S4096x1x128, .f32⟩
  | 122 => ⟨S4096x128, .f32⟩
  | 123 => ⟨S_, .f32⟩
  | 124 => ⟨S4096, .f32⟩
  | 125 => ⟨S4096, .f32⟩
  | 126 => ⟨S_, .f32⟩
  | 127 => ⟨S_, .f32⟩
  | _ => ⟨S4096x9x128, .f32⟩

abbrev hbmTy0_15 (i : Nat) : BufTy := match i % 128 with
  | 0 => ⟨S4096, .f32⟩
  | 1 => ⟨S4096, .f32⟩
  | 2 => ⟨S4096, .i32⟩
  | 3 => ⟨S_, .i32⟩
  | 4 => ⟨S4096, .i32⟩
  | 5 => ⟨S4096, .i1⟩
  | 6 => ⟨S_, .i32⟩
  | 7 => ⟨S_, .i32⟩
  | 8 => ⟨S4096, .i32⟩
  | 9 => ⟨S4096, .i32⟩
  | 10 => ⟨S_, .i32⟩
  | 11 => ⟨S4096, .i32⟩
  | 12 => ⟨S4096, .i32⟩
  | 13 => ⟨S1x9x128x128, .f32⟩
  | 14 => ⟨S9x128x128, .f32⟩
  | 15 => ⟨S_, .i32⟩
  | 16 => ⟨S4096, .i32⟩
  | 17 => ⟨S4096, .i1⟩
  | 18 => ⟨S_, .i32⟩
  | 19 => ⟨S4096, .i32⟩
  | 20 => ⟨S4096, .i32⟩
  | 21 => ⟨S4096, .i32⟩
  | 22 => ⟨S4096x1, .i32⟩
  | 23 => ⟨S1, .i32⟩
  | 24 => ⟨S_, .i32⟩
  | 25 => ⟨S4096x1, .i32⟩
  | 26 => ⟨S4096x1, .i1⟩
  | 27 => ⟨S1x1, .i32⟩
  | 28 => ⟨S4096x1, .i32⟩
  | 29 => ⟨S4096x1, .i1⟩
  | 30 => ⟨S4096x1, .i1⟩
  | 31 => ⟨S_, .i1⟩
  | 32 => ⟨S4096, .i1⟩
  | 33 => ⟨S4096x128x128, .f32⟩
  | 34 => ⟨S4096x128x128, .i1⟩
  | 35 => ⟨S_, .f32⟩
  | 36 => ⟨S4096x128x128, .f32⟩
  | 37 => ⟨S4096x128x128, .f32⟩
  | 38 => ⟨S4096x128, .f32⟩
  | 39 => ⟨S4096x128, .f32⟩
  | 40 => ⟨S4096x1x128, .f32⟩
  | 41 => ⟨S4096x128, .f32⟩
  | 42 => ⟨S_, .f32⟩
  | 43 => ⟨S4096, .f32⟩
  | 44 => ⟨S4096, .f32⟩
  | 45 => ⟨S_, .f32⟩
  | 46 => ⟨S_, .f32⟩
  | 47 => ⟨S4096, .f32⟩
  | 48 => ⟨S4096, .f32⟩
  | 49 => ⟨S4096, .i32⟩
  | 50 => ⟨S_, .i32⟩
  | 51 => ⟨S4096, .i32⟩
  | 52 => ⟨S4096, .i1⟩
  | 53 => ⟨S_, .i32⟩
  | 54 => ⟨S_, .i32⟩
  | 55 => ⟨S4096, .i32⟩
  | 56 => ⟨S4096, .i32⟩
  | 57 => ⟨S_, .i32⟩
  | 58 => ⟨S4096, .i32⟩
  | 59 => ⟨S4096, .i32⟩
  | 60 => ⟨S1x9x128x128, .f32⟩
  | 61 => ⟨S9x128x128, .f32⟩
  | 62 => ⟨S_, .i32⟩
  | 63 => ⟨S4096, .i32⟩
  | 64 => ⟨S4096, .i1⟩
  | 65 => ⟨S_, .i32⟩
  | 66 => ⟨S4096, .i32⟩
  | 67 => ⟨S4096, .i32⟩
  | 68 => ⟨S4096, .i32⟩
  | 69 => ⟨S4096x1, .i32⟩
  | 70 => ⟨S1, .i32⟩
  | 71 => ⟨S_, .i32⟩
  | 72 => ⟨S4096x1, .i32⟩
  | 73 => ⟨S4096x1, .i1⟩
  | 74 => ⟨S1x1, .i32⟩
  | 75 => ⟨S4096x1, .i32⟩
  | 76 => ⟨S4096x1, .i1⟩
  | 77 => ⟨S4096x1, .i1⟩
  | 78 => ⟨S_, .i1⟩
  | 79 => ⟨S4096, .i1⟩
  | 80 => ⟨S4096x128x128, .f32⟩
  | 81 => ⟨S4096x128x128, .i1⟩
  | 82 => ⟨S_, .f32⟩
  | 83 => ⟨S4096x128x128, .f32⟩
  | 84 => ⟨S4096x128x128, .f32⟩
  | 85 => ⟨S4096x128, .f32⟩
  | 86 => ⟨S4096x128, .f32⟩
  | 87 => ⟨S4096x1x128, .f32⟩
  | 88 => ⟨S4096x128, .f32⟩
  | 89 => ⟨S_, .f32⟩
  | 90 => ⟨S4096, .f32⟩
  | 91 => ⟨S4096, .f32⟩
  | 92 => ⟨S_, .f32⟩
  | 93 => ⟨S_, .f32⟩
  | 94 => ⟨S4096, .f32⟩
  | 95 => ⟨S4096, .f32⟩
  | 96 => ⟨S4096, .i32⟩
  | 97 => ⟨S_, .i32⟩
  | 98 => ⟨S4096, .i32⟩
  | 99 => ⟨S4096, .i1⟩
  | 100 => ⟨S_, .i32⟩
  | 101 => ⟨S_, .i32⟩
  | 102 => ⟨S4096, .i32⟩
  | 103 => ⟨S4096, .i32⟩
  | 104 => ⟨S_, .i32⟩
  | 105 => ⟨S4096, .i32⟩
  | 106 => ⟨S4096, .i32⟩
  | 107 => ⟨S1x9x128x128, .f32⟩
  | 108 => ⟨S9x128x128, .f32⟩
  | 109 => ⟨S_, .i32⟩
  | 110 => ⟨S4096, .i32⟩
  | 111 => ⟨S4096, .i1⟩
  | 112 => ⟨S_, .i32⟩
  | 113 => ⟨S4096, .i32⟩
  | 114 => ⟨S4096, .i32⟩
  | 115 => ⟨S4096, .i32⟩
  | 116 => ⟨S4096x1, .i32⟩
  | 117 => ⟨S1, .i32⟩
  | 118 => ⟨S_, .i32⟩
  | 119 => ⟨S4096x1, .i32⟩
  | 120 => ⟨S4096x1, .i1⟩
  | 121 => ⟨S1x1, .i32⟩
  | 122 => ⟨S4096x1, .i32⟩
  | 123 => ⟨S4096x1, .i1⟩
  | 124 => ⟨S4096x1, .i1⟩
  | 125 => ⟨S_, .i1⟩
  | 126 => ⟨S4096, .i1⟩
  | 127 => ⟨S4096x128x128, .f32⟩
  | _ => ⟨S4096x9x128, .f32⟩

abbrev hbmTy0_16 (i : Nat) : BufTy := match i % 128 with
  | 0 => ⟨S4096x128x128, .i1⟩
  | 1 => ⟨S_, .f32⟩
  | 2 => ⟨S4096x128x128, .f32⟩
  | 3 => ⟨S4096x128x128, .f32⟩
  | 4 => ⟨S4096x128, .f32⟩
  | 5 => ⟨S4096x128, .f32⟩
  | 6 => ⟨S4096x1x128, .f32⟩
  | 7 => ⟨S4096x128, .f32⟩
  | 8 => ⟨S_, .f32⟩
  | 9 => ⟨S4096, .f32⟩
  | 10 => ⟨S4096, .f32⟩
  | 11 => ⟨S_, .f32⟩
  | 12 => ⟨S_, .f32⟩
  | 13 => ⟨S4096, .f32⟩
  | 14 => ⟨S4096, .f32⟩
  | 15 => ⟨S4096, .i32⟩
  | 16 => ⟨S_, .i32⟩
  | 17 => ⟨S4096, .i32⟩
  | 18 => ⟨S4096, .i1⟩
  | 19 => ⟨S_, .i32⟩
  | 20 => ⟨S_, .i32⟩
  | 21 => ⟨S4096, .i32⟩
  | 22 => ⟨S4096, .i32⟩
  | 23 => ⟨S_, .i32⟩
  | 24 => ⟨S4096, .i32⟩
  | 25 => ⟨S4096, .i32⟩
  | 26 => ⟨S1x9x128x128, .f32⟩
  | 27 => ⟨S9x128x128, .f32⟩
  | 28 => ⟨S_, .i32⟩
  | 29 => ⟨S4096, .i32⟩
  | 30 => ⟨S4096, .i1⟩
  | 31 => ⟨S_, .i32⟩
  | 32 => ⟨S4096, .i32⟩
  | 33 => ⟨S4096, .i32⟩
  | 34 => ⟨S4096, .i32⟩
  | 35 => ⟨S4096x1, .i32⟩
  | 36 => ⟨S1, .i32⟩
  | 37 => ⟨S_, .i32⟩
  | 38 => ⟨S4096x1, .i32⟩
  | 39 => ⟨S4096x1, .i1⟩
  | 40 => ⟨S1x1, .i32⟩
  | 41 => ⟨S4096x1, .i32⟩
  | 42 => ⟨S4096x1, .i1⟩
  | 43 => ⟨S4096x1, .i1⟩
  | 44 => ⟨S_, .i1⟩
  | 45 => ⟨S4096, .i1⟩
  | 46 => ⟨S4096x128x128, .f32⟩
  | 47 => ⟨S4096x128x128, .i1⟩
  | 48 => ⟨S_, .f32⟩
  | 49 => ⟨S4096x128x128, .f32⟩
  | 50 => ⟨S4096x128x128, .f32⟩
  | 51 => ⟨S4096x128, .f32⟩
  | 52 => ⟨S4096x128, .f32⟩
  | 53 => ⟨S4096x1x128, .f32⟩
  | 54 => ⟨S4096x128, .f32⟩
  | 55 => ⟨S_, .f32⟩
  | 56 => ⟨S4096, .f32⟩
  | 57 => ⟨S4096, .f32⟩
  | 58 => ⟨S_, .f32⟩
  | 59 => ⟨S_, .f32⟩
  | 60 => ⟨S4096, .f32⟩
  | 61 => ⟨S4096, .f32⟩
  | 62 => ⟨S4096, .i32⟩
  | 63 => ⟨S_, .i32⟩
  | 64 => ⟨S4096, .i32⟩
  | 65 => ⟨S4096, .i1⟩
  | 66 => ⟨S_, .i32⟩
  | 67 => ⟨S_, .i32⟩
  | 68 => ⟨S4096, .i32⟩
  | 69 => ⟨S4096, .i32⟩
  | 70 => ⟨S_, .i32⟩
  | 71 => ⟨S4096, .i32⟩
  | 72 => ⟨S4096, .i32⟩
  | 73 => ⟨S1x9x128x128, .f32⟩
  | 74 => ⟨S9x128x128, .f32⟩
  | 75 => ⟨S_, .i32⟩
  | 76 => ⟨S4096, .i32⟩
  | 77 => ⟨S4096, .i1⟩
  | 78 => ⟨S_, .i32⟩
  | 79 => ⟨S4096, .i32⟩
  | 80 => ⟨S4096, .i32⟩
  | 81 => ⟨S4096, .i32⟩
  | 82 => ⟨S4096x1, .i32⟩
  | 83 => ⟨S1, .i32⟩
  | 84 => ⟨S_, .i32⟩
  | 85 => ⟨S4096x1, .i32⟩
  | 86 => ⟨S4096x1, .i1⟩
  | 87 => ⟨S1x1, .i32⟩
  | 88 => ⟨S4096x1, .i32⟩
  | 89 => ⟨S4096x1, .i1⟩
  | 90 => ⟨S4096x1, .i1⟩
  | 91 => ⟨S_, .i1⟩
  | 92 => ⟨S4096, .i1⟩
  | 93 => ⟨S4096x128x128, .f32⟩
  | 94 => ⟨S4096x128x128, .i1⟩
  | 95 => ⟨S_, .f32⟩
  | 96 => ⟨S4096x128x128, .f32⟩
  | 97 => ⟨S4096x128x128, .f32⟩
  | 98 => ⟨S4096x128, .f32⟩
  | 99 => ⟨S4096x128, .f32⟩
  | 100 => ⟨S1x128, .f32⟩
  | 101 => ⟨S128, .f32⟩
  | 102 => ⟨S1x128, .f32⟩
  | 103 => ⟨S128, .f32⟩
  | 104 => ⟨S_, .f32⟩
  | 105 => ⟨S4096, .f32⟩
  | 106 => ⟨S4096x1, .f32⟩
  | 107 => ⟨S_, .f32⟩
  | 108 => ⟨S4096x1, .f32⟩
  | 109 => ⟨S4096x1, .f32⟩
  | 110 => ⟨S4096x128, .f32⟩
  | 111 => ⟨S4096x128, .f32⟩
  | 112 => ⟨S4096x128, .f32⟩
  | 113 => ⟨S_, .f32⟩
  | 114 => ⟨S4096, .f32⟩
  | 115 => ⟨S4096x1, .f32⟩
  | 116 => ⟨S_, .f32⟩
  | 117 => ⟨S4096x1, .f32⟩
  | 118 => ⟨S4096x1, .f32⟩
  | 119 => ⟨S4096x128, .f32⟩
  | 120 => ⟨S4096x128, .f32⟩
  | 121 => ⟨S_, .f32⟩
  | 122 => ⟨S4096x1, .f32⟩
  | 123 => ⟨S4096x1, .f32⟩
  | 124 => ⟨S4096x1, .f32⟩
  | 125 => ⟨S4096x128, .f32⟩
  | 126 => ⟨S4096x128, .f32⟩
  | 127 => ⟨S1x128, .f32⟩
  | _ => ⟨S4096x9x128, .f32⟩

abbrev hbmTy0_17 (i : Nat) : BufTy := match i % 128 with
  | 0 => ⟨S4096x128, .f32⟩
  | 1 => ⟨S4096x128, .f32⟩
  | 2 => ⟨S1x128, .f32⟩
  | 3 => ⟨S4096x128, .f32⟩
  | 4 => ⟨S4096x128, .f32⟩
  | 5 => ⟨S_, .f32⟩
  | 6 => ⟨S4096x128, .f32⟩
  | 7 => ⟨S4096x128, .i1⟩
  | 8 => ⟨S_, .f32⟩
  | 9 => ⟨S4096x128, .f32⟩
  | 10 => ⟨S4096x128, .f32⟩
  | 11 => ⟨S4096x128, .f32⟩
  | 12 => ⟨S4096x1x128, .f32⟩
  | 13 => ⟨S4096x1x128, .f32⟩
  | 14 => ⟨S4096x1x128, .f32⟩
  | 15 => ⟨S4096x1x128, .f32⟩
  | 16 => ⟨S4096x1x128, .f32⟩
  | 17 => ⟨S4096x1x128, .f32⟩
  | 18 => ⟨S4096x1x128, .f32⟩
  | 19 => ⟨S4096x1x128, .f32⟩
  | 20 => ⟨S4096x1x128, .f32⟩
  | 21 => ⟨S4096x9x128, .f32⟩
  | _ => ⟨S4096x9x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | _ => ⟨S4096x9x128, .f32⟩

abbrev bufTy : (tb : Table) → Fin (tcTables nBuf tb) → BufTy
  | .hbm, ⟨i, _⟩ => hbmTy i
  | _, _ => ⟨S4096x9x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_call1_v0 : Ref sig .tc := ⟨.hbm, 18, rfl⟩
abbrev main_call1_v1 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_call2_c : Ref sig .tc := ⟨.hbm, 26, rfl⟩
abbrev main_call2_v0 : Ref sig .tc := ⟨.hbm, 27, rfl⟩
abbrev main_call2_v1 : Ref sig .tc := ⟨.hbm, 28, rfl⟩
abbrev main_call2_c_0 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_call2_v5 : Ref sig .tc := ⟨.hbm, 33, rfl⟩
abbrev main_call2_c_1 : Ref sig .tc := ⟨.hbm, 34, rfl⟩
abbrev main_call2_c_2 : Ref sig .tc := ⟨.hbm, 35, rfl⟩
abbrev main_call2_v6 : Ref sig .tc := ⟨.hbm, 36, rfl⟩
abbrev main_call2_v7 : Ref sig .tc := ⟨.hbm, 37, rfl⟩
abbrev main_call2_v8 : Ref sig .tc := ⟨.hbm, 38, rfl⟩
abbrev main_call2_v9 : Ref sig .tc := ⟨.hbm, 39, rfl⟩
abbrev main_call2_v10 : Ref sig .tc := ⟨.hbm, 40, rfl⟩
abbrev main_call2_v11 : Ref sig .tc := ⟨.hbm, 41, rfl⟩
abbrev main_call2_c_3 : Ref sig .tc := ⟨.hbm, 42, rfl⟩
abbrev main_call2_v12 : Ref sig .tc := ⟨.hbm, 43, rfl⟩
abbrev main_call2_v13 : Ref sig .tc := ⟨.hbm, 44, rfl⟩
abbrev main_call2_v14 : Ref sig .tc := ⟨.hbm, 45, rfl⟩
abbrev main_call2_cst : Ref sig .tc := ⟨.hbm, 46, rfl⟩
abbrev main_call2_v15 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_cst_3 : Ref sig .tc := ⟨.hbm, 52, rfl⟩
abbrev main_v17 : Ref sig .tc := ⟨.hbm, 53, rfl⟩
abbrev main_v18 : Ref sig .tc := ⟨.hbm, 54, rfl⟩
abbrev main_cst_4 : Ref sig .tc := ⟨.hbm, 55, rfl⟩
abbrev main_call3_v0 : Ref sig .tc := ⟨.hbm, 56, rfl⟩
abbrev main_call3_v1 : Ref sig .tc := ⟨.hbm, 57, rfl⟩
abbrev main_v19 : Ref sig .tc := ⟨.hbm, 58, rfl⟩
abbrev main_v20 : Ref sig .tc := ⟨.hbm, 59, rfl⟩
abbrev main_c_5 : Ref sig .tc := ⟨.hbm, 60, rfl⟩
abbrev main_v21 : Ref sig .tc := ⟨.hbm, 61, rfl⟩
abbrev main_v22 : Ref sig .tc := ⟨.hbm, 62, rfl⟩
abbrev main_c_6 : Ref sig .tc := ⟨.hbm, 63, rfl⟩
abbrev main_call4_v0 : Ref sig .tc := ⟨.hbm, 64, rfl⟩
abbrev main_call4_v1 : Ref sig .tc := ⟨.hbm, 65, rfl⟩
abbrev main_v23 : Ref sig .tc := ⟨.hbm, 66, rfl⟩
abbrev main_c_7 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_call5_c : Ref sig .tc := ⟨.hbm, 72, rfl⟩
abbrev main_call5_v0 : Ref sig .tc := ⟨.hbm, 73, rfl⟩
abbrev main_call5_v1 : Ref sig .tc := ⟨.hbm, 74, rfl⟩
abbrev main_call5_c_0 : Ref sig .tc := ⟨.hbm, 75, rfl⟩
abbrev main_call5_v2 : Ref sig .tc := ⟨.hbm, 76, rfl⟩
abbrev main_call5_v3 : Ref sig .tc := ⟨.hbm, 77, rfl⟩
abbrev main_call5_v4 : Ref sig .tc := ⟨.hbm, 78, rfl⟩
abbrev main_call5_v5 : Ref sig .tc := ⟨.hbm, 79, rfl⟩
abbrev main_call5_c_1 : Ref sig .tc := ⟨.hbm, 80, rfl⟩
abbrev main_call5_c_2 : Ref sig .tc := ⟨.hbm, 81, rfl⟩
abbrev main_call5_v6 : Ref sig .tc := ⟨.hbm, 82, rfl⟩
abbrev main_call5_v7 : Ref sig .tc := ⟨.hbm, 83, rfl⟩
abbrev main_call5_v8 : Ref sig .tc := ⟨.hbm, 84, rfl⟩
abbrev main_call5_v9 : Ref sig .tc := ⟨.hbm, 85, rfl⟩
abbrev main_call5_v10 : Ref sig .tc := ⟨.hbm, 86, rfl⟩
abbrev main_call5_v11 : Ref sig .tc := ⟨.hbm, 87, rfl⟩
abbrev main_call5_c_3 : Ref sig .tc := ⟨.hbm, 88, rfl⟩
abbrev main_call5_v12 : Ref sig .tc := ⟨.hbm, 89, rfl⟩
abbrev main_call5_v13 : Ref sig .tc := ⟨.hbm, 90, rfl⟩
abbrev main_call5_v14 : Ref sig .tc := ⟨.hbm, 91, rfl⟩
abbrev main_call5_cst : Ref sig .tc := ⟨.hbm, 92, rfl⟩
abbrev main_call5_v15 : Ref sig .tc := ⟨.hbm, 93, rfl⟩
abbrev main_v28 : Ref sig .tc := ⟨.hbm, 94, rfl⟩
abbrev main_v29 : Ref sig .tc := ⟨.hbm, 95, rfl⟩
abbrev main_v30 : Ref sig .tc := ⟨.hbm, 96, rfl⟩
abbrev main_v31 : Ref sig .tc := ⟨.hbm, 97, rfl⟩
abbrev main_v32 : Ref sig .tc := ⟨.hbm, 98, rfl⟩
abbrev main_cst_8 : Ref sig .tc := ⟨.hbm, 99, rfl⟩
abbrev main_v33 : Ref sig .tc := ⟨.hbm, 100, rfl⟩
abbrev main_v34 : Ref sig .tc := ⟨.hbm, 101, rfl⟩
abbrev main_cst_9 : Ref sig .tc := ⟨.hbm, 102, rfl⟩
abbrev main_call6_v0 : Ref sig .tc := ⟨.hbm, 103, rfl⟩
abbrev main_call6_v1 : Ref sig .tc := ⟨.hbm, 104, rfl⟩
abbrev main_v35 : Ref sig .tc := ⟨.hbm, 105, rfl⟩
abbrev main_v36 : Ref sig .tc := ⟨.hbm, 106, rfl⟩
abbrev main_c_10 : Ref sig .tc := ⟨.hbm, 107, rfl⟩
abbrev main_v37 : Ref sig .tc := ⟨.hbm, 108, rfl⟩
abbrev main_v38 : Ref sig .tc := ⟨.hbm, 109, rfl⟩
abbrev main_c_11 : Ref sig .tc := ⟨.hbm, 110, rfl⟩
abbrev main_call7_v0 : Ref sig .tc := ⟨.hbm, 111, rfl⟩
abbrev main_call7_v1 : Ref sig .tc := ⟨.hbm, 112, rfl⟩
abbrev main_v39 : Ref sig .tc := ⟨.hbm, 113, rfl⟩
abbrev main_c_12 : Ref sig .tc := ⟨.hbm, 114, rfl⟩
abbrev main_v40 : Ref sig .tc := ⟨.hbm, 115, rfl⟩
abbrev main_v41 : Ref sig .tc := ⟨.hbm, 116, rfl⟩
abbrev main_v42 : Ref sig .tc := ⟨.hbm, 117, rfl⟩
abbrev main_v43 : Ref sig .tc := ⟨.hbm, 118, rfl⟩
abbrev main_call8_c : Ref sig .tc := ⟨.hbm, 119, rfl⟩
abbrev main_call8_v0 : Ref sig .tc := ⟨.hbm, 120, rfl⟩
abbrev main_call8_v1 : Ref sig .tc := ⟨.hbm, 121, rfl⟩
abbrev main_call8_c_0 : Ref sig .tc := ⟨.hbm, 122, rfl⟩
abbrev main_call8_v2 : Ref sig .tc := ⟨.hbm, 123, rfl⟩
abbrev main_call8_v3 : Ref sig .tc := ⟨.hbm, 124, rfl⟩
abbrev main_call8_v4 : Ref sig .tc := ⟨.hbm, 125, rfl⟩
abbrev main_call8_v5 : Ref sig .tc := ⟨.hbm, 126, rfl⟩
abbrev main_call8_c_1 : Ref sig .tc := ⟨.hbm, 127, rfl⟩
abbrev main_call8_c_2 : Ref sig .tc := ⟨.hbm, 128, rfl⟩
abbrev main_call8_v6 : Ref sig .tc := ⟨.hbm, 129, rfl⟩
abbrev main_call8_v7 : Ref sig .tc := ⟨.hbm, 130, rfl⟩
abbrev main_call8_v8 : Ref sig .tc := ⟨.hbm, 131, rfl⟩
abbrev main_call8_v9 : Ref sig .tc := ⟨.hbm, 132, rfl⟩
abbrev main_call8_v10 : Ref sig .tc := ⟨.hbm, 133, rfl⟩
abbrev main_call8_v11 : Ref sig .tc := ⟨.hbm, 134, rfl⟩
abbrev main_call8_c_3 : Ref sig .tc := ⟨.hbm, 135, rfl⟩
abbrev main_call8_v12 : Ref sig .tc := ⟨.hbm, 136, rfl⟩
abbrev main_call8_v13 : Ref sig .tc := ⟨.hbm, 137, rfl⟩
abbrev main_call8_v14 : Ref sig .tc := ⟨.hbm, 138, rfl⟩
abbrev main_call8_cst : Ref sig .tc := ⟨.hbm, 139, rfl⟩
abbrev main_call8_v15 : Ref sig .tc := ⟨.hbm, 140, rfl⟩
abbrev main_v44 : Ref sig .tc := ⟨.hbm, 141, rfl⟩
abbrev main_v45 : Ref sig .tc := ⟨.hbm, 142, rfl⟩
abbrev main_v46 : Ref sig .tc := ⟨.hbm, 143, rfl⟩
abbrev main_v47 : Ref sig .tc := ⟨.hbm, 144, rfl⟩
abbrev main_v48 : Ref sig .tc := ⟨.hbm, 145, rfl⟩
abbrev main_cst_13 : Ref sig .tc := ⟨.hbm, 146, rfl⟩
abbrev main_v49 : Ref sig .tc := ⟨.hbm, 147, rfl⟩
abbrev main_v50 : Ref sig .tc := ⟨.hbm, 148, rfl⟩
abbrev main_cst_14 : Ref sig .tc := ⟨.hbm, 149, rfl⟩
abbrev main_call9_v0 : Ref sig .tc := ⟨.hbm, 150, rfl⟩
abbrev main_call9_v1 : Ref sig .tc := ⟨.hbm, 151, rfl⟩
abbrev main_v51 : Ref sig .tc := ⟨.hbm, 152, rfl⟩
abbrev main_v52 : Ref sig .tc := ⟨.hbm, 153, rfl⟩
abbrev main_c_15 : Ref sig .tc := ⟨.hbm, 154, rfl⟩
abbrev main_v53 : Ref sig .tc := ⟨.hbm, 155, rfl⟩
abbrev main_v54 : Ref sig .tc := ⟨.hbm, 156, rfl⟩
abbrev main_c_16 : Ref sig .tc := ⟨.hbm, 157, rfl⟩
abbrev main_call10_v0 : Ref sig .tc := ⟨.hbm, 158, rfl⟩
abbrev main_call10_v1 : Ref sig .tc := ⟨.hbm, 159, rfl⟩
abbrev main_v55 : Ref sig .tc := ⟨.hbm, 160, rfl⟩
abbrev main_c_17 : Ref sig .tc := ⟨.hbm, 161, rfl⟩
abbrev main_v56 : Ref sig .tc := ⟨.hbm, 162, rfl⟩
abbrev main_v57 : Ref sig .tc := ⟨.hbm, 163, rfl⟩
abbrev main_v58 : Ref sig .tc := ⟨.hbm, 164, rfl⟩
abbrev main_v59 : Ref sig .tc := ⟨.hbm, 165, rfl⟩
abbrev main_call11_c : Ref sig .tc := ⟨.hbm, 166, rfl⟩
abbrev main_call11_v0 : Ref sig .tc := ⟨.hbm, 167, rfl⟩
abbrev main_call11_v1 : Ref sig .tc := ⟨.hbm, 168, rfl⟩
abbrev main_call11_c_0 : Ref sig .tc := ⟨.hbm, 169, rfl⟩
abbrev main_call11_v2 : Ref sig .tc := ⟨.hbm, 170, rfl⟩
abbrev main_call11_v3 : Ref sig .tc := ⟨.hbm, 171, rfl⟩
abbrev main_call11_v4 : Ref sig .tc := ⟨.hbm, 172, rfl⟩
abbrev main_call11_v5 : Ref sig .tc := ⟨.hbm, 173, rfl⟩
abbrev main_call11_c_1 : Ref sig .tc := ⟨.hbm, 174, rfl⟩
abbrev main_call11_c_2 : Ref sig .tc := ⟨.hbm, 175, rfl⟩
abbrev main_call11_v6 : Ref sig .tc := ⟨.hbm, 176, rfl⟩
abbrev main_call11_v7 : Ref sig .tc := ⟨.hbm, 177, rfl⟩
abbrev main_call11_v8 : Ref sig .tc := ⟨.hbm, 178, rfl⟩
abbrev main_call11_v9 : Ref sig .tc := ⟨.hbm, 179, rfl⟩
abbrev main_call11_v10 : Ref sig .tc := ⟨.hbm, 180, rfl⟩
abbrev main_call11_v11 : Ref sig .tc := ⟨.hbm, 181, rfl⟩
abbrev main_call11_c_3 : Ref sig .tc := ⟨.hbm, 182, rfl⟩
abbrev main_call11_v12 : Ref sig .tc := ⟨.hbm, 183, rfl⟩
abbrev main_call11_v13 : Ref sig .tc := ⟨.hbm, 184, rfl⟩
abbrev main_call11_v14 : Ref sig .tc := ⟨.hbm, 185, rfl⟩
abbrev main_call11_cst : Ref sig .tc := ⟨.hbm, 186, rfl⟩
abbrev main_call11_v15 : Ref sig .tc := ⟨.hbm, 187, rfl⟩
abbrev main_v60 : Ref sig .tc := ⟨.hbm, 188, rfl⟩
abbrev main_v61 : Ref sig .tc := ⟨.hbm, 189, rfl⟩
abbrev main_v62 : Ref sig .tc := ⟨.hbm, 190, rfl⟩
abbrev main_v63 : Ref sig .tc := ⟨.hbm, 191, rfl⟩
abbrev main_v64 : Ref sig .tc := ⟨.hbm, 192, rfl⟩
abbrev main_v65 : Ref sig .tc := ⟨.hbm, 193, rfl⟩
abbrev main_v66 : Ref sig .tc := ⟨.hbm, 194, rfl⟩
abbrev main_cst_18 : Ref sig .tc := ⟨.hbm, 195, rfl⟩
abbrev main_v67 : Ref sig .tc := ⟨.hbm, 196, rfl⟩
abbrev main_v68 : Ref sig .tc := ⟨.hbm, 197, rfl⟩
abbrev main_cst_19 : Ref sig .tc := ⟨.hbm, 198, rfl⟩
abbrev main_v69 : Ref sig .tc := ⟨.hbm, 199, rfl⟩
abbrev main_v70 : Ref sig .tc := ⟨.hbm, 200, rfl⟩
abbrev main_v71 : Ref sig .tc := ⟨.hbm, 201, rfl⟩
abbrev main_v72 : Ref sig .tc := ⟨.hbm, 202, rfl⟩
abbrev main_v73 : Ref sig .tc := ⟨.hbm, 203, rfl⟩
abbrev main_cst_20 : Ref sig .tc := ⟨.hbm, 204, rfl⟩
abbrev main_v74 : Ref sig .tc := ⟨.hbm, 205, rfl⟩
abbrev main_v75 : Ref sig .tc := ⟨.hbm, 206, rfl⟩
abbrev main_cst_21 : Ref sig .tc := ⟨.hbm, 207, rfl⟩
abbrev main_v76 : Ref sig .tc := ⟨.hbm, 208, rfl⟩
abbrev main_v77 : Ref sig .tc := ⟨.hbm, 209, rfl⟩
abbrev main_v78 : Ref sig .tc := ⟨.hbm, 210, rfl⟩
abbrev main_v79 : Ref sig .tc := ⟨.hbm, 211, rfl⟩
abbrev main_cst_22 : Ref sig .tc := ⟨.hbm, 212, rfl⟩
abbrev main_v80 : Ref sig .tc := ⟨.hbm, 213, rfl⟩
abbrev main_v81 : Ref sig .tc := ⟨.hbm, 214, rfl⟩
abbrev main_v82 : Ref sig .tc := ⟨.hbm, 215, rfl⟩
abbrev main_v83 : Ref sig .tc := ⟨.hbm, 216, rfl⟩
abbrev main_v84 : Ref sig .tc := ⟨.hbm, 217, rfl⟩
abbrev main_v85 : Ref sig .tc := ⟨.hbm, 218, rfl⟩
abbrev main_v86 : Ref sig .tc := ⟨.hbm, 219, rfl⟩
abbrev main_v87 : Ref sig .tc := ⟨.hbm, 220, rfl⟩
abbrev main_v88 : Ref sig .tc := ⟨.hbm, 221, rfl⟩
abbrev main_v89 : Ref sig .tc := ⟨.hbm, 222, rfl⟩
abbrev main_v90 : Ref sig .tc := ⟨.hbm, 223, rfl⟩
abbrev main_cst_23 : Ref sig .tc := ⟨.hbm, 224, rfl⟩
abbrev main_v91 : Ref sig .tc := ⟨.hbm, 225, rfl⟩
abbrev main_v92 : Ref sig .tc := ⟨.hbm, 226, rfl⟩
abbrev main_cst_24 : Ref sig .tc := ⟨.hbm, 227, rfl⟩
abbrev main_v93 : Ref sig .tc := ⟨.hbm, 228, rfl⟩
abbrev main_v94 : Ref sig .tc := ⟨.hbm, 229, rfl⟩
abbrev main_v95 : Ref sig .tc := ⟨.hbm, 230, rfl⟩
abbrev main_v96 : Ref sig .tc := ⟨.hbm, 231, rfl⟩
abbrev main_v97 : Ref sig .tc := ⟨.hbm, 232, rfl⟩
abbrev main_cst_25 : Ref sig .tc := ⟨.hbm, 233, rfl⟩
abbrev main_v98 : Ref sig .tc := ⟨.hbm, 234, rfl⟩
abbrev main_v99 : Ref sig .tc := ⟨.hbm, 235, rfl⟩
abbrev main_cst_26 : Ref sig .tc := ⟨.hbm, 236, rfl⟩
abbrev main_call13_v0 : Ref sig .tc := ⟨.hbm, 237, rfl⟩
abbrev main_call13_v1 : Ref sig .tc := ⟨.hbm, 238, rfl⟩
abbrev main_v100 : Ref sig .tc := ⟨.hbm, 239, rfl⟩
abbrev main_v101 : Ref sig .tc := ⟨.hbm, 240, rfl⟩
abbrev main_c_27 : Ref sig .tc := ⟨.hbm, 241, rfl⟩
abbrev main_v102 : Ref sig .tc := ⟨.hbm, 242, rfl⟩
abbrev main_v103 : Ref sig .tc := ⟨.hbm, 243, rfl⟩
abbrev main_c_28 : Ref sig .tc := ⟨.hbm, 244, rfl⟩
abbrev main_call14_v0 : Ref sig .tc := ⟨.hbm, 245, rfl⟩
abbrev main_call14_v1 : Ref sig .tc := ⟨.hbm, 246, rfl⟩
abbrev main_v104 : Ref sig .tc := ⟨.hbm, 247, rfl⟩
abbrev main_c_29 : Ref sig .tc := ⟨.hbm, 248, rfl⟩
abbrev main_v105 : Ref sig .tc := ⟨.hbm, 249, rfl⟩
abbrev main_v106 : Ref sig .tc := ⟨.hbm, 250, rfl⟩
abbrev main_v107 : Ref sig .tc := ⟨.hbm, 251, rfl⟩
abbrev main_v108 : Ref sig .tc := ⟨.hbm, 252, rfl⟩
abbrev main_call15_c : Ref sig .tc := ⟨.hbm, 253, rfl⟩
abbrev main_call15_v0 : Ref sig .tc := ⟨.hbm, 254, rfl⟩
abbrev main_call15_v1 : Ref sig .tc := ⟨.hbm, 255, rfl⟩
abbrev main_call15_c_0 : Ref sig .tc := ⟨.hbm, 256, rfl⟩
abbrev main_call15_v2 : Ref sig .tc := ⟨.hbm, 257, rfl⟩
abbrev main_call15_v3 : Ref sig .tc := ⟨.hbm, 258, rfl⟩
abbrev main_call15_v4 : Ref sig .tc := ⟨.hbm, 259, rfl⟩
abbrev main_call15_v5 : Ref sig .tc := ⟨.hbm, 260, rfl⟩
abbrev main_call15_c_1 : Ref sig .tc := ⟨.hbm, 261, rfl⟩
abbrev main_call15_c_2 : Ref sig .tc := ⟨.hbm, 262, rfl⟩
abbrev main_call15_v6 : Ref sig .tc := ⟨.hbm, 263, rfl⟩
abbrev main_call15_v7 : Ref sig .tc := ⟨.hbm, 264, rfl⟩
abbrev main_call15_v8 : Ref sig .tc := ⟨.hbm, 265, rfl⟩
abbrev main_call15_v9 : Ref sig .tc := ⟨.hbm, 266, rfl⟩
abbrev main_call15_v10 : Ref sig .tc := ⟨.hbm, 267, rfl⟩
abbrev main_call15_v11 : Ref sig .tc := ⟨.hbm, 268, rfl⟩
abbrev main_call15_c_3 : Ref sig .tc := ⟨.hbm, 269, rfl⟩
abbrev main_call15_v12 : Ref sig .tc := ⟨.hbm, 270, rfl⟩
abbrev main_call15_v13 : Ref sig .tc := ⟨.hbm, 271, rfl⟩
abbrev main_call15_v14 : Ref sig .tc := ⟨.hbm, 272, rfl⟩
abbrev main_call15_cst : Ref sig .tc := ⟨.hbm, 273, rfl⟩
abbrev main_call15_v15 : Ref sig .tc := ⟨.hbm, 274, rfl⟩
abbrev main_v109 : Ref sig .tc := ⟨.hbm, 275, rfl⟩
abbrev main_v110 : Ref sig .tc := ⟨.hbm, 276, rfl⟩
abbrev main_v111 : Ref sig .tc := ⟨.hbm, 277, rfl⟩
abbrev main_v112 : Ref sig .tc := ⟨.hbm, 278, rfl⟩
abbrev main_cst_30 : Ref sig .tc := ⟨.hbm, 279, rfl⟩
abbrev main_v113 : Ref sig .tc := ⟨.hbm, 280, rfl⟩
abbrev main_v114 : Ref sig .tc := ⟨.hbm, 281, rfl⟩
abbrev main_cst_31 : Ref sig .tc := ⟨.hbm, 282, rfl⟩
abbrev main_call16_v0 : Ref sig .tc := ⟨.hbm, 283, rfl⟩
abbrev main_call16_v1 : Ref sig .tc := ⟨.hbm, 284, rfl⟩
abbrev main_v115 : Ref sig .tc := ⟨.hbm, 285, rfl⟩
abbrev main_v116 : Ref sig .tc := ⟨.hbm, 286, rfl⟩
abbrev main_c_32 : Ref sig .tc := ⟨.hbm, 287, rfl⟩
abbrev main_v117 : Ref sig .tc := ⟨.hbm, 288, rfl⟩
abbrev main_v118 : Ref sig .tc := ⟨.hbm, 289, rfl⟩
abbrev main_c_33 : Ref sig .tc := ⟨.hbm, 290, rfl⟩
abbrev main_call17_v0 : Ref sig .tc := ⟨.hbm, 291, rfl⟩
abbrev main_call17_v1 : Ref sig .tc := ⟨.hbm, 292, rfl⟩
abbrev main_v119 : Ref sig .tc := ⟨.hbm, 293, rfl⟩
abbrev main_c_34 : Ref sig .tc := ⟨.hbm, 294, rfl⟩
abbrev main_v120 : Ref sig .tc := ⟨.hbm, 295, rfl⟩
abbrev main_v121 : Ref sig .tc := ⟨.hbm, 296, rfl⟩
abbrev main_v122 : Ref sig .tc := ⟨.hbm, 297, rfl⟩
abbrev main_v123 : Ref sig .tc := ⟨.hbm, 298, rfl⟩
abbrev main_call18_c : Ref sig .tc := ⟨.hbm, 299, rfl⟩
abbrev main_call18_v0 : Ref sig .tc := ⟨.hbm, 300, rfl⟩
abbrev main_call18_v1 : Ref sig .tc := ⟨.hbm, 301, rfl⟩
abbrev main_call18_c_0 : Ref sig .tc := ⟨.hbm, 302, rfl⟩
abbrev main_call18_v2 : Ref sig .tc := ⟨.hbm, 303, rfl⟩
abbrev main_call18_v3 : Ref sig .tc := ⟨.hbm, 304, rfl⟩
abbrev main_call18_v4 : Ref sig .tc := ⟨.hbm, 305, rfl⟩
abbrev main_call18_v5 : Ref sig .tc := ⟨.hbm, 306, rfl⟩
abbrev main_call18_c_1 : Ref sig .tc := ⟨.hbm, 307, rfl⟩
abbrev main_call18_c_2 : Ref sig .tc := ⟨.hbm, 308, rfl⟩
abbrev main_call18_v6 : Ref sig .tc := ⟨.hbm, 309, rfl⟩
abbrev main_call18_v7 : Ref sig .tc := ⟨.hbm, 310, rfl⟩
abbrev main_call18_v8 : Ref sig .tc := ⟨.hbm, 311, rfl⟩
abbrev main_call18_v9 : Ref sig .tc := ⟨.hbm, 312, rfl⟩
abbrev main_call18_v10 : Ref sig .tc := ⟨.hbm, 313, rfl⟩
abbrev main_call18_v11 : Ref sig .tc := ⟨.hbm, 314, rfl⟩
abbrev main_call18_c_3 : Ref sig .tc := ⟨.hbm, 315, rfl⟩
abbrev main_call18_v12 : Ref sig .tc := ⟨.hbm, 316, rfl⟩
abbrev main_call18_v13 : Ref sig .tc := ⟨.hbm, 317, rfl⟩
abbrev main_call18_v14 : Ref sig .tc := ⟨.hbm, 318, rfl⟩
abbrev main_call18_cst : Ref sig .tc := ⟨.hbm, 319, rfl⟩
abbrev main_call18_v15 : Ref sig .tc := ⟨.hbm, 320, rfl⟩
abbrev main_v124 : Ref sig .tc := ⟨.hbm, 321, rfl⟩
abbrev main_v125 : Ref sig .tc := ⟨.hbm, 322, rfl⟩
abbrev main_v126 : Ref sig .tc := ⟨.hbm, 323, rfl⟩
abbrev main_v127 : Ref sig .tc := ⟨.hbm, 324, rfl⟩
abbrev main_v128 : Ref sig .tc := ⟨.hbm, 325, rfl⟩
abbrev main_cst_35 : Ref sig .tc := ⟨.hbm, 326, rfl⟩
abbrev main_v129 : Ref sig .tc := ⟨.hbm, 327, rfl⟩
abbrev main_v130 : Ref sig .tc := ⟨.hbm, 328, rfl⟩
abbrev main_cst_36 : Ref sig .tc := ⟨.hbm, 329, rfl⟩
abbrev main_call19_v0 : Ref sig .tc := ⟨.hbm, 330, rfl⟩
abbrev main_call19_v1 : Ref sig .tc := ⟨.hbm, 331, rfl⟩
abbrev main_v131 : Ref sig .tc := ⟨.hbm, 332, rfl⟩
abbrev main_v132 : Ref sig .tc := ⟨.hbm, 333, rfl⟩
abbrev main_c_37 : Ref sig .tc := ⟨.hbm, 334, rfl⟩
abbrev main_v133 : Ref sig .tc := ⟨.hbm, 335, rfl⟩
abbrev main_v134 : Ref sig .tc := ⟨.hbm, 336, rfl⟩
abbrev main_c_38 : Ref sig .tc := ⟨.hbm, 337, rfl⟩
abbrev main_call20_v0 : Ref sig .tc := ⟨.hbm, 338, rfl⟩
abbrev main_call20_v1 : Ref sig .tc := ⟨.hbm, 339, rfl⟩
abbrev main_v135 : Ref sig .tc := ⟨.hbm, 340, rfl⟩
abbrev main_c_39 : Ref sig .tc := ⟨.hbm, 341, rfl⟩
abbrev main_v136 : Ref sig .tc := ⟨.hbm, 342, rfl⟩
abbrev main_v137 : Ref sig .tc := ⟨.hbm, 343, rfl⟩
abbrev main_v138 : Ref sig .tc := ⟨.hbm, 344, rfl⟩
abbrev main_v139 : Ref sig .tc := ⟨.hbm, 345, rfl⟩
abbrev main_call21_c : Ref sig .tc := ⟨.hbm, 346, rfl⟩
abbrev main_call21_v0 : Ref sig .tc := ⟨.hbm, 347, rfl⟩
abbrev main_call21_v1 : Ref sig .tc := ⟨.hbm, 348, rfl⟩
abbrev main_call21_c_0 : Ref sig .tc := ⟨.hbm, 349, rfl⟩
abbrev main_call21_v2 : Ref sig .tc := ⟨.hbm, 350, rfl⟩
abbrev main_call21_v3 : Ref sig .tc := ⟨.hbm, 351, rfl⟩
abbrev main_call21_v4 : Ref sig .tc := ⟨.hbm, 352, rfl⟩
abbrev main_call21_v5 : Ref sig .tc := ⟨.hbm, 353, rfl⟩
abbrev main_call21_c_1 : Ref sig .tc := ⟨.hbm, 354, rfl⟩
abbrev main_call21_c_2 : Ref sig .tc := ⟨.hbm, 355, rfl⟩
abbrev main_call21_v6 : Ref sig .tc := ⟨.hbm, 356, rfl⟩
abbrev main_call21_v7 : Ref sig .tc := ⟨.hbm, 357, rfl⟩
abbrev main_call21_v8 : Ref sig .tc := ⟨.hbm, 358, rfl⟩
abbrev main_call21_v9 : Ref sig .tc := ⟨.hbm, 359, rfl⟩
abbrev main_call21_v10 : Ref sig .tc := ⟨.hbm, 360, rfl⟩
abbrev main_call21_v11 : Ref sig .tc := ⟨.hbm, 361, rfl⟩
abbrev main_call21_c_3 : Ref sig .tc := ⟨.hbm, 362, rfl⟩
abbrev main_call21_v12 : Ref sig .tc := ⟨.hbm, 363, rfl⟩
abbrev main_call21_v13 : Ref sig .tc := ⟨.hbm, 364, rfl⟩
abbrev main_call21_v14 : Ref sig .tc := ⟨.hbm, 365, rfl⟩
abbrev main_call21_cst : Ref sig .tc := ⟨.hbm, 366, rfl⟩
abbrev main_call21_v15 : Ref sig .tc := ⟨.hbm, 367, rfl⟩
abbrev main_v140 : Ref sig .tc := ⟨.hbm, 368, rfl⟩
abbrev main_v141 : Ref sig .tc := ⟨.hbm, 369, rfl⟩
abbrev main_v142 : Ref sig .tc := ⟨.hbm, 370, rfl⟩
abbrev main_v143 : Ref sig .tc := ⟨.hbm, 371, rfl⟩
abbrev main_v144 : Ref sig .tc := ⟨.hbm, 372, rfl⟩
abbrev main_cst_40 : Ref sig .tc := ⟨.hbm, 373, rfl⟩
abbrev main_v145 : Ref sig .tc := ⟨.hbm, 374, rfl⟩
abbrev main_v146 : Ref sig .tc := ⟨.hbm, 375, rfl⟩
abbrev main_cst_41 : Ref sig .tc := ⟨.hbm, 376, rfl⟩
abbrev main_call22_v0 : Ref sig .tc := ⟨.hbm, 377, rfl⟩
abbrev main_call22_v1 : Ref sig .tc := ⟨.hbm, 378, rfl⟩
abbrev main_v147 : Ref sig .tc := ⟨.hbm, 379, rfl⟩
abbrev main_v148 : Ref sig .tc := ⟨.hbm, 380, rfl⟩
abbrev main_c_42 : Ref sig .tc := ⟨.hbm, 381, rfl⟩
abbrev main_v149 : Ref sig .tc := ⟨.hbm, 382, rfl⟩
abbrev main_v150 : Ref sig .tc := ⟨.hbm, 383, rfl⟩
abbrev main_c_43 : Ref sig .tc := ⟨.hbm, 384, rfl⟩
abbrev main_call23_v0 : Ref sig .tc := ⟨.hbm, 385, rfl⟩
abbrev main_call23_v1 : Ref sig .tc := ⟨.hbm, 386, rfl⟩
abbrev main_v151 : Ref sig .tc := ⟨.hbm, 387, rfl⟩
abbrev main_c_44 : Ref sig .tc := ⟨.hbm, 388, rfl⟩
abbrev main_v152 : Ref sig .tc := ⟨.hbm, 389, rfl⟩
abbrev main_v153 : Ref sig .tc := ⟨.hbm, 390, rfl⟩
abbrev main_v154 : Ref sig .tc := ⟨.hbm, 391, rfl⟩
abbrev main_v155 : Ref sig .tc := ⟨.hbm, 392, rfl⟩
abbrev main_call24_c : Ref sig .tc := ⟨.hbm, 393, rfl⟩
abbrev main_call24_v0 : Ref sig .tc := ⟨.hbm, 394, rfl⟩
abbrev main_call24_v1 : Ref sig .tc := ⟨.hbm, 395, rfl⟩
abbrev main_call24_c_0 : Ref sig .tc := ⟨.hbm, 396, rfl⟩
abbrev main_call24_v2 : Ref sig .tc := ⟨.hbm, 397, rfl⟩
abbrev main_call24_v3 : Ref sig .tc := ⟨.hbm, 398, rfl⟩
abbrev main_call24_v4 : Ref sig .tc := ⟨.hbm, 399, rfl⟩
abbrev main_call24_v5 : Ref sig .tc := ⟨.hbm, 400, rfl⟩
abbrev main_call24_c_1 : Ref sig .tc := ⟨.hbm, 401, rfl⟩
abbrev main_call24_c_2 : Ref sig .tc := ⟨.hbm, 402, rfl⟩
abbrev main_call24_v6 : Ref sig .tc := ⟨.hbm, 403, rfl⟩
abbrev main_call24_v7 : Ref sig .tc := ⟨.hbm, 404, rfl⟩
abbrev main_call24_v8 : Ref sig .tc := ⟨.hbm, 405, rfl⟩
abbrev main_call24_v9 : Ref sig .tc := ⟨.hbm, 406, rfl⟩
abbrev main_call24_v10 : Ref sig .tc := ⟨.hbm, 407, rfl⟩
abbrev main_call24_v11 : Ref sig .tc := ⟨.hbm, 408, rfl⟩
abbrev main_call24_c_3 : Ref sig .tc := ⟨.hbm, 409, rfl⟩
abbrev main_call24_v12 : Ref sig .tc := ⟨.hbm, 410, rfl⟩
abbrev main_call24_v13 : Ref sig .tc := ⟨.hbm, 411, rfl⟩
abbrev main_call24_v14 : Ref sig .tc := ⟨.hbm, 412, rfl⟩
abbrev main_call24_cst : Ref sig .tc := ⟨.hbm, 413, rfl⟩
abbrev main_call24_v15 : Ref sig .tc := ⟨.hbm, 414, rfl⟩
abbrev main_v156 : Ref sig .tc := ⟨.hbm, 415, rfl⟩
abbrev main_v157 : Ref sig .tc := ⟨.hbm, 416, rfl⟩
abbrev main_v158 : Ref sig .tc := ⟨.hbm, 417, rfl⟩
abbrev main_v159 : Ref sig .tc := ⟨.hbm, 418, rfl⟩
abbrev main_v160 : Ref sig .tc := ⟨.hbm, 419, rfl⟩
abbrev main_v161 : Ref sig .tc := ⟨.hbm, 420, rfl⟩
abbrev main_v162 : Ref sig .tc := ⟨.hbm, 421, rfl⟩
abbrev main_cst_45 : Ref sig .tc := ⟨.hbm, 422, rfl⟩
abbrev main_v163 : Ref sig .tc := ⟨.hbm, 423, rfl⟩
abbrev main_v164 : Ref sig .tc := ⟨.hbm, 424, rfl⟩
abbrev main_cst_46 : Ref sig .tc := ⟨.hbm, 425, rfl⟩
abbrev main_v165 : Ref sig .tc := ⟨.hbm, 426, rfl⟩
abbrev main_v166 : Ref sig .tc := ⟨.hbm, 427, rfl⟩
abbrev main_v167 : Ref sig .tc := ⟨.hbm, 428, rfl⟩
abbrev main_v168 : Ref sig .tc := ⟨.hbm, 429, rfl⟩
abbrev main_v169 : Ref sig .tc := ⟨.hbm, 430, rfl⟩
abbrev main_cst_47 : Ref sig .tc := ⟨.hbm, 431, rfl⟩
abbrev main_v170 : Ref sig .tc := ⟨.hbm, 432, rfl⟩
abbrev main_v171 : Ref sig .tc := ⟨.hbm, 433, rfl⟩
abbrev main_cst_48 : Ref sig .tc := ⟨.hbm, 434, rfl⟩
abbrev main_v172 : Ref sig .tc := ⟨.hbm, 435, rfl⟩
abbrev main_v173 : Ref sig .tc := ⟨.hbm, 436, rfl⟩
abbrev main_v174 : Ref sig .tc := ⟨.hbm, 437, rfl⟩
abbrev main_v175 : Ref sig .tc := ⟨.hbm, 438, rfl⟩
abbrev main_cst_49 : Ref sig .tc := ⟨.hbm, 439, rfl⟩
abbrev main_v176 : Ref sig .tc := ⟨.hbm, 440, rfl⟩
abbrev main_v177 : Ref sig .tc := ⟨.hbm, 441, rfl⟩
abbrev main_v178 : Ref sig .tc := ⟨.hbm, 442, rfl⟩
abbrev main_v179 : Ref sig .tc := ⟨.hbm, 443, rfl⟩
abbrev main_v180 : Ref sig .tc := ⟨.hbm, 444, rfl⟩
abbrev main_v181 : Ref sig .tc := ⟨.hbm, 445, rfl⟩
abbrev main_v182 : Ref sig .tc := ⟨.hbm, 446, rfl⟩
abbrev main_v183 : Ref sig .tc := ⟨.hbm, 447, rfl⟩
abbrev main_v184 : Ref sig .tc := ⟨.hbm, 448, rfl⟩
abbrev main_v185 : Ref sig .tc := ⟨.hbm, 449, rfl⟩
abbrev main_v186 : Ref sig .tc := ⟨.hbm, 450, rfl⟩
abbrev main_cst_50 : Ref sig .tc := ⟨.hbm, 451, rfl⟩
abbrev main_v187 : Ref sig .tc := ⟨.hbm, 452, rfl⟩
abbrev main_v188 : Ref sig .tc := ⟨.hbm, 453, rfl⟩
abbrev main_cst_51 : Ref sig .tc := ⟨.hbm, 454, rfl⟩
abbrev main_v189 : Ref sig .tc := ⟨.hbm, 455, rfl⟩
abbrev main_v190 : Ref sig .tc := ⟨.hbm, 456, rfl⟩
abbrev main_v191 : Ref sig .tc := ⟨.hbm, 457, rfl⟩
abbrev main_v192 : Ref sig .tc := ⟨.hbm, 458, rfl⟩
abbrev main_v193 : Ref sig .tc := ⟨.hbm, 459, rfl⟩
abbrev main_cst_52 : Ref sig .tc := ⟨.hbm, 460, rfl⟩
abbrev main_v194 : Ref sig .tc := ⟨.hbm, 461, rfl⟩
abbrev main_v195 : Ref sig .tc := ⟨.hbm, 462, rfl⟩
abbrev main_cst_53 : Ref sig .tc := ⟨.hbm, 463, rfl⟩
abbrev main_call26_v0 : Ref sig .tc := ⟨.hbm, 464, rfl⟩
abbrev main_call26_v1 : Ref sig .tc := ⟨.hbm, 465, rfl⟩
abbrev main_v196 : Ref sig .tc := ⟨.hbm, 466, rfl⟩
abbrev main_v197 : Ref sig .tc := ⟨.hbm, 467, rfl⟩
abbrev main_c_54 : Ref sig .tc := ⟨.hbm, 468, rfl⟩
abbrev main_v198 : Ref sig .tc := ⟨.hbm, 469, rfl⟩
abbrev main_v199 : Ref sig .tc := ⟨.hbm, 470, rfl⟩
abbrev main_c_55 : Ref sig .tc := ⟨.hbm, 471, rfl⟩
abbrev main_call27_v0 : Ref sig .tc := ⟨.hbm, 472, rfl⟩
abbrev main_call27_v1 : Ref sig .tc := ⟨.hbm, 473, rfl⟩
abbrev main_v200 : Ref sig .tc := ⟨.hbm, 474, rfl⟩
abbrev main_c_56 : Ref sig .tc := ⟨.hbm, 475, rfl⟩
abbrev main_v201 : Ref sig .tc := ⟨.hbm, 476, rfl⟩
abbrev main_v202 : Ref sig .tc := ⟨.hbm, 477, rfl⟩
abbrev main_v203 : Ref sig .tc := ⟨.hbm, 478, rfl⟩
abbrev main_v204 : Ref sig .tc := ⟨.hbm, 479, rfl⟩
abbrev main_call28_c : Ref sig .tc := ⟨.hbm, 480, rfl⟩
abbrev main_call28_v0 : Ref sig .tc := ⟨.hbm, 481, rfl⟩
abbrev main_call28_v1 : Ref sig .tc := ⟨.hbm, 482, rfl⟩
abbrev main_call28_c_0 : Ref sig .tc := ⟨.hbm, 483, rfl⟩
abbrev main_call28_v2 : Ref sig .tc := ⟨.hbm, 484, rfl⟩
abbrev main_call28_v3 : Ref sig .tc := ⟨.hbm, 485, rfl⟩
abbrev main_call28_v4 : Ref sig .tc := ⟨.hbm, 486, rfl⟩
abbrev main_call28_v5 : Ref sig .tc := ⟨.hbm, 487, rfl⟩
abbrev main_call28_c_1 : Ref sig .tc := ⟨.hbm, 488, rfl⟩
abbrev main_call28_c_2 : Ref sig .tc := ⟨.hbm, 489, rfl⟩
abbrev main_call28_v6 : Ref sig .tc := ⟨.hbm, 490, rfl⟩
abbrev main_call28_v7 : Ref sig .tc := ⟨.hbm, 491, rfl⟩
abbrev main_call28_v8 : Ref sig .tc := ⟨.hbm, 492, rfl⟩
abbrev main_call28_v9 : Ref sig .tc := ⟨.hbm, 493, rfl⟩
abbrev main_call28_v10 : Ref sig .tc := ⟨.hbm, 494, rfl⟩
abbrev main_call28_v11 : Ref sig .tc := ⟨.hbm, 495, rfl⟩
abbrev main_call28_c_3 : Ref sig .tc := ⟨.hbm, 496, rfl⟩
abbrev main_call28_v12 : Ref sig .tc := ⟨.hbm, 497, rfl⟩
abbrev main_call28_v13 : Ref sig .tc := ⟨.hbm, 498, rfl⟩
abbrev main_call28_v14 : Ref sig .tc := ⟨.hbm, 499, rfl⟩
abbrev main_call28_cst : Ref sig .tc := ⟨.hbm, 500, rfl⟩
abbrev main_call28_v15 : Ref sig .tc := ⟨.hbm, 501, rfl⟩
abbrev main_v205 : Ref sig .tc := ⟨.hbm, 502, rfl⟩
abbrev main_v206 : Ref sig .tc := ⟨.hbm, 503, rfl⟩
abbrev main_v207 : Ref sig .tc := ⟨.hbm, 504, rfl⟩
abbrev main_v208 : Ref sig .tc := ⟨.hbm, 505, rfl⟩
abbrev main_cst_57 : Ref sig .tc := ⟨.hbm, 506, rfl⟩
abbrev main_v209 : Ref sig .tc := ⟨.hbm, 507, rfl⟩
abbrev main_v210 : Ref sig .tc := ⟨.hbm, 508, rfl⟩
abbrev main_cst_58 : Ref sig .tc := ⟨.hbm, 509, rfl⟩
abbrev main_call29_v0 : Ref sig .tc := ⟨.hbm, 510, rfl⟩
abbrev main_call29_v1 : Ref sig .tc := ⟨.hbm, 511, rfl⟩
abbrev main_v211 : Ref sig .tc := ⟨.hbm, 512, rfl⟩
abbrev main_v212 : Ref sig .tc := ⟨.hbm, 513, rfl⟩
abbrev main_c_59 : Ref sig .tc := ⟨.hbm, 514, rfl⟩
abbrev main_v213 : Ref sig .tc := ⟨.hbm, 515, rfl⟩
abbrev main_v214 : Ref sig .tc := ⟨.hbm, 516, rfl⟩
abbrev main_c_60 : Ref sig .tc := ⟨.hbm, 517, rfl⟩
abbrev main_call30_v0 : Ref sig .tc := ⟨.hbm, 518, rfl⟩
abbrev main_call30_v1 : Ref sig .tc := ⟨.hbm, 519, rfl⟩
abbrev main_v215 : Ref sig .tc := ⟨.hbm, 520, rfl⟩
abbrev main_c_61 : Ref sig .tc := ⟨.hbm, 521, rfl⟩
abbrev main_v216 : Ref sig .tc := ⟨.hbm, 522, rfl⟩
abbrev main_v217 : Ref sig .tc := ⟨.hbm, 523, rfl⟩
abbrev main_v218 : Ref sig .tc := ⟨.hbm, 524, rfl⟩
abbrev main_v219 : Ref sig .tc := ⟨.hbm, 525, rfl⟩
abbrev main_call31_c : Ref sig .tc := ⟨.hbm, 526, rfl⟩
abbrev main_call31_v0 : Ref sig .tc := ⟨.hbm, 527, rfl⟩
abbrev main_call31_v1 : Ref sig .tc := ⟨.hbm, 528, rfl⟩
abbrev main_call31_c_0 : Ref sig .tc := ⟨.hbm, 529, rfl⟩
abbrev main_call31_v2 : Ref sig .tc := ⟨.hbm, 530, rfl⟩
abbrev main_call31_v3 : Ref sig .tc := ⟨.hbm, 531, rfl⟩
abbrev main_call31_v4 : Ref sig .tc := ⟨.hbm, 532, rfl⟩
abbrev main_call31_v5 : Ref sig .tc := ⟨.hbm, 533, rfl⟩
abbrev main_call31_c_1 : Ref sig .tc := ⟨.hbm, 534, rfl⟩
abbrev main_call31_c_2 : Ref sig .tc := ⟨.hbm, 535, rfl⟩
abbrev main_call31_v6 : Ref sig .tc := ⟨.hbm, 536, rfl⟩
abbrev main_call31_v7 : Ref sig .tc := ⟨.hbm, 537, rfl⟩
abbrev main_call31_v8 : Ref sig .tc := ⟨.hbm, 538, rfl⟩
abbrev main_call31_v9 : Ref sig .tc := ⟨.hbm, 539, rfl⟩
abbrev main_call31_v10 : Ref sig .tc := ⟨.hbm, 540, rfl⟩
abbrev main_call31_v11 : Ref sig .tc := ⟨.hbm, 541, rfl⟩
abbrev main_call31_c_3 : Ref sig .tc := ⟨.hbm, 542, rfl⟩
abbrev main_call31_v12 : Ref sig .tc := ⟨.hbm, 543, rfl⟩
abbrev main_call31_v13 : Ref sig .tc := ⟨.hbm, 544, rfl⟩
abbrev main_call31_v14 : Ref sig .tc := ⟨.hbm, 545, rfl⟩
abbrev main_call31_cst : Ref sig .tc := ⟨.hbm, 546, rfl⟩
abbrev main_call31_v15 : Ref sig .tc := ⟨.hbm, 547, rfl⟩
abbrev main_v220 : Ref sig .tc := ⟨.hbm, 548, rfl⟩
abbrev main_v221 : Ref sig .tc := ⟨.hbm, 549, rfl⟩
abbrev main_v222 : Ref sig .tc := ⟨.hbm, 550, rfl⟩
abbrev main_v223 : Ref sig .tc := ⟨.hbm, 551, rfl⟩
abbrev main_v224 : Ref sig .tc := ⟨.hbm, 552, rfl⟩
abbrev main_cst_62 : Ref sig .tc := ⟨.hbm, 553, rfl⟩
abbrev main_v225 : Ref sig .tc := ⟨.hbm, 554, rfl⟩
abbrev main_v226 : Ref sig .tc := ⟨.hbm, 555, rfl⟩
abbrev main_cst_63 : Ref sig .tc := ⟨.hbm, 556, rfl⟩
abbrev main_call32_v0 : Ref sig .tc := ⟨.hbm, 557, rfl⟩
abbrev main_call32_v1 : Ref sig .tc := ⟨.hbm, 558, rfl⟩
abbrev main_v227 : Ref sig .tc := ⟨.hbm, 559, rfl⟩
abbrev main_v228 : Ref sig .tc := ⟨.hbm, 560, rfl⟩
abbrev main_c_64 : Ref sig .tc := ⟨.hbm, 561, rfl⟩
abbrev main_v229 : Ref sig .tc := ⟨.hbm, 562, rfl⟩
abbrev main_v230 : Ref sig .tc := ⟨.hbm, 563, rfl⟩
abbrev main_c_65 : Ref sig .tc := ⟨.hbm, 564, rfl⟩
abbrev main_call33_v0 : Ref sig .tc := ⟨.hbm, 565, rfl⟩
abbrev main_call33_v1 : Ref sig .tc := ⟨.hbm, 566, rfl⟩
abbrev main_v231 : Ref sig .tc := ⟨.hbm, 567, rfl⟩
abbrev main_c_66 : Ref sig .tc := ⟨.hbm, 568, rfl⟩
abbrev main_v232 : Ref sig .tc := ⟨.hbm, 569, rfl⟩
abbrev main_v233 : Ref sig .tc := ⟨.hbm, 570, rfl⟩
abbrev main_v234 : Ref sig .tc := ⟨.hbm, 571, rfl⟩
abbrev main_v235 : Ref sig .tc := ⟨.hbm, 572, rfl⟩
abbrev main_call34_c : Ref sig .tc := ⟨.hbm, 573, rfl⟩
abbrev main_call34_v0 : Ref sig .tc := ⟨.hbm, 574, rfl⟩
abbrev main_call34_v1 : Ref sig .tc := ⟨.hbm, 575, rfl⟩
abbrev main_call34_c_0 : Ref sig .tc := ⟨.hbm, 576, rfl⟩
abbrev main_call34_v2 : Ref sig .tc := ⟨.hbm, 577, rfl⟩
abbrev main_call34_v3 : Ref sig .tc := ⟨.hbm, 578, rfl⟩
abbrev main_call34_v4 : Ref sig .tc := ⟨.hbm, 579, rfl⟩
abbrev main_call34_v5 : Ref sig .tc := ⟨.hbm, 580, rfl⟩
abbrev main_call34_c_1 : Ref sig .tc := ⟨.hbm, 581, rfl⟩
abbrev main_call34_c_2 : Ref sig .tc := ⟨.hbm, 582, rfl⟩
abbrev main_call34_v6 : Ref sig .tc := ⟨.hbm, 583, rfl⟩
abbrev main_call34_v7 : Ref sig .tc := ⟨.hbm, 584, rfl⟩
abbrev main_call34_v8 : Ref sig .tc := ⟨.hbm, 585, rfl⟩
abbrev main_call34_v9 : Ref sig .tc := ⟨.hbm, 586, rfl⟩
abbrev main_call34_v10 : Ref sig .tc := ⟨.hbm, 587, rfl⟩
abbrev main_call34_v11 : Ref sig .tc := ⟨.hbm, 588, rfl⟩
abbrev main_call34_c_3 : Ref sig .tc := ⟨.hbm, 589, rfl⟩
abbrev main_call34_v12 : Ref sig .tc := ⟨.hbm, 590, rfl⟩
abbrev main_call34_v13 : Ref sig .tc := ⟨.hbm, 591, rfl⟩
abbrev main_call34_v14 : Ref sig .tc := ⟨.hbm, 592, rfl⟩
abbrev main_call34_cst : Ref sig .tc := ⟨.hbm, 593, rfl⟩
abbrev main_call34_v15 : Ref sig .tc := ⟨.hbm, 594, rfl⟩
abbrev main_v236 : Ref sig .tc := ⟨.hbm, 595, rfl⟩
abbrev main_v237 : Ref sig .tc := ⟨.hbm, 596, rfl⟩
abbrev main_v238 : Ref sig .tc := ⟨.hbm, 597, rfl⟩
abbrev main_v239 : Ref sig .tc := ⟨.hbm, 598, rfl⟩
abbrev main_v240 : Ref sig .tc := ⟨.hbm, 599, rfl⟩
abbrev main_v241 : Ref sig .tc := ⟨.hbm, 600, rfl⟩
abbrev main_v242 : Ref sig .tc := ⟨.hbm, 601, rfl⟩
abbrev main_cst_67 : Ref sig .tc := ⟨.hbm, 602, rfl⟩
abbrev main_v243 : Ref sig .tc := ⟨.hbm, 603, rfl⟩
abbrev main_v244 : Ref sig .tc := ⟨.hbm, 604, rfl⟩
abbrev main_cst_68 : Ref sig .tc := ⟨.hbm, 605, rfl⟩
abbrev main_v245 : Ref sig .tc := ⟨.hbm, 606, rfl⟩
abbrev main_v246 : Ref sig .tc := ⟨.hbm, 607, rfl⟩
abbrev main_v247 : Ref sig .tc := ⟨.hbm, 608, rfl⟩
abbrev main_v248 : Ref sig .tc := ⟨.hbm, 609, rfl⟩
abbrev main_v249 : Ref sig .tc := ⟨.hbm, 610, rfl⟩
abbrev main_cst_69 : Ref sig .tc := ⟨.hbm, 611, rfl⟩
abbrev main_v250 : Ref sig .tc := ⟨.hbm, 612, rfl⟩
abbrev main_v251 : Ref sig .tc := ⟨.hbm, 613, rfl⟩
abbrev main_cst_70 : Ref sig .tc := ⟨.hbm, 614, rfl⟩
abbrev main_v252 : Ref sig .tc := ⟨.hbm, 615, rfl⟩
abbrev main_v253 : Ref sig .tc := ⟨.hbm, 616, rfl⟩
abbrev main_v254 : Ref sig .tc := ⟨.hbm, 617, rfl⟩
abbrev main_v255 : Ref sig .tc := ⟨.hbm, 618, rfl⟩
abbrev main_cst_71 : Ref sig .tc := ⟨.hbm, 619, rfl⟩
abbrev main_v256 : Ref sig .tc := ⟨.hbm, 620, rfl⟩
abbrev main_v257 : Ref sig .tc := ⟨.hbm, 621, rfl⟩
abbrev main_v258 : Ref sig .tc := ⟨.hbm, 622, rfl⟩
abbrev main_v259 : Ref sig .tc := ⟨.hbm, 623, rfl⟩
abbrev main_v260 : Ref sig .tc := ⟨.hbm, 624, rfl⟩
abbrev main_v261 : Ref sig .tc := ⟨.hbm, 625, rfl⟩
abbrev main_v262 : Ref sig .tc := ⟨.hbm, 626, rfl⟩
abbrev main_v263 : Ref sig .tc := ⟨.hbm, 627, rfl⟩
abbrev main_v264 : Ref sig .tc := ⟨.hbm, 628, rfl⟩
abbrev main_v265 : Ref sig .tc := ⟨.hbm, 629, rfl⟩
abbrev main_v266 : Ref sig .tc := ⟨.hbm, 630, rfl⟩
abbrev main_cst_72 : Ref sig .tc := ⟨.hbm, 631, rfl⟩
abbrev main_v267 : Ref sig .tc := ⟨.hbm, 632, rfl⟩
abbrev main_v268 : Ref sig .tc := ⟨.hbm, 633, rfl⟩
abbrev main_cst_73 : Ref sig .tc := ⟨.hbm, 634, rfl⟩
abbrev main_v269 : Ref sig .tc := ⟨.hbm, 635, rfl⟩
abbrev main_v270 : Ref sig .tc := ⟨.hbm, 636, rfl⟩
abbrev main_v271 : Ref sig .tc := ⟨.hbm, 637, rfl⟩
abbrev main_v272 : Ref sig .tc := ⟨.hbm, 638, rfl⟩
abbrev main_v273 : Ref sig .tc := ⟨.hbm, 639, rfl⟩
abbrev main_cst_74 : Ref sig .tc := ⟨.hbm, 640, rfl⟩
abbrev main_v274 : Ref sig .tc := ⟨.hbm, 641, rfl⟩
abbrev main_v275 : Ref sig .tc := ⟨.hbm, 642, rfl⟩
abbrev main_cst_75 : Ref sig .tc := ⟨.hbm, 643, rfl⟩
abbrev main_call36_v0 : Ref sig .tc := ⟨.hbm, 644, rfl⟩
abbrev main_call36_v1 : Ref sig .tc := ⟨.hbm, 645, rfl⟩
abbrev main_v276 : Ref sig .tc := ⟨.hbm, 646, rfl⟩
abbrev main_v277 : Ref sig .tc := ⟨.hbm, 647, rfl⟩
abbrev main_c_76 : Ref sig .tc := ⟨.hbm, 648, rfl⟩
abbrev main_v278 : Ref sig .tc := ⟨.hbm, 649, rfl⟩
abbrev main_v279 : Ref sig .tc := ⟨.hbm, 650, rfl⟩
abbrev main_c_77 : Ref sig .tc := ⟨.hbm, 651, rfl⟩
abbrev main_call37_v0 : Ref sig .tc := ⟨.hbm, 652, rfl⟩
abbrev main_call37_v1 : Ref sig .tc := ⟨.hbm, 653, rfl⟩
abbrev main_v280 : Ref sig .tc := ⟨.hbm, 654, rfl⟩
abbrev main_c_78 : Ref sig .tc := ⟨.hbm, 655, rfl⟩
abbrev main_v281 : Ref sig .tc := ⟨.hbm, 656, rfl⟩
abbrev main_v282 : Ref sig .tc := ⟨.hbm, 657, rfl⟩
abbrev main_v283 : Ref sig .tc := ⟨.hbm, 658, rfl⟩
abbrev main_v284 : Ref sig .tc := ⟨.hbm, 659, rfl⟩
abbrev main_call38_c : Ref sig .tc := ⟨.hbm, 660, rfl⟩
abbrev main_call38_v0 : Ref sig .tc := ⟨.hbm, 661, rfl⟩
abbrev main_call38_v1 : Ref sig .tc := ⟨.hbm, 662, rfl⟩
abbrev main_call38_c_0 : Ref sig .tc := ⟨.hbm, 663, rfl⟩
abbrev main_call38_v2 : Ref sig .tc := ⟨.hbm, 664, rfl⟩
abbrev main_call38_v3 : Ref sig .tc := ⟨.hbm, 665, rfl⟩
abbrev main_call38_v4 : Ref sig .tc := ⟨.hbm, 666, rfl⟩
abbrev main_call38_v5 : Ref sig .tc := ⟨.hbm, 667, rfl⟩
abbrev main_call38_c_1 : Ref sig .tc := ⟨.hbm, 668, rfl⟩
abbrev main_call38_c_2 : Ref sig .tc := ⟨.hbm, 669, rfl⟩
abbrev main_call38_v6 : Ref sig .tc := ⟨.hbm, 670, rfl⟩
abbrev main_call38_v7 : Ref sig .tc := ⟨.hbm, 671, rfl⟩
abbrev main_call38_v8 : Ref sig .tc := ⟨.hbm, 672, rfl⟩
abbrev main_call38_v9 : Ref sig .tc := ⟨.hbm, 673, rfl⟩
abbrev main_call38_v10 : Ref sig .tc := ⟨.hbm, 674, rfl⟩
abbrev main_call38_v11 : Ref sig .tc := ⟨.hbm, 675, rfl⟩
abbrev main_call38_c_3 : Ref sig .tc := ⟨.hbm, 676, rfl⟩
abbrev main_call38_v12 : Ref sig .tc := ⟨.hbm, 677, rfl⟩
abbrev main_call38_v13 : Ref sig .tc := ⟨.hbm, 678, rfl⟩
abbrev main_call38_v14 : Ref sig .tc := ⟨.hbm, 679, rfl⟩
abbrev main_call38_cst : Ref sig .tc := ⟨.hbm, 680, rfl⟩
abbrev main_call38_v15 : Ref sig .tc := ⟨.hbm, 681, rfl⟩
abbrev main_v285 : Ref sig .tc := ⟨.hbm, 682, rfl⟩
abbrev main_v286 : Ref sig .tc := ⟨.hbm, 683, rfl⟩
abbrev main_v287 : Ref sig .tc := ⟨.hbm, 684, rfl⟩
abbrev main_v288 : Ref sig .tc := ⟨.hbm, 685, rfl⟩
abbrev main_cst_79 : Ref sig .tc := ⟨.hbm, 686, rfl⟩
abbrev main_v289 : Ref sig .tc := ⟨.hbm, 687, rfl⟩
abbrev main_v290 : Ref sig .tc := ⟨.hbm, 688, rfl⟩
abbrev main_cst_80 : Ref sig .tc := ⟨.hbm, 689, rfl⟩
abbrev main_call39_v0 : Ref sig .tc := ⟨.hbm, 690, rfl⟩
abbrev main_call39_v1 : Ref sig .tc := ⟨.hbm, 691, rfl⟩
abbrev main_v291 : Ref sig .tc := ⟨.hbm, 692, rfl⟩
abbrev main_v292 : Ref sig .tc := ⟨.hbm, 693, rfl⟩
abbrev main_c_81 : Ref sig .tc := ⟨.hbm, 694, rfl⟩
abbrev main_v293 : Ref sig .tc := ⟨.hbm, 695, rfl⟩
abbrev main_v294 : Ref sig .tc := ⟨.hbm, 696, rfl⟩
abbrev main_c_82 : Ref sig .tc := ⟨.hbm, 697, rfl⟩
abbrev main_call40_v0 : Ref sig .tc := ⟨.hbm, 698, rfl⟩
abbrev main_call40_v1 : Ref sig .tc := ⟨.hbm, 699, rfl⟩
abbrev main_v295 : Ref sig .tc := ⟨.hbm, 700, rfl⟩
abbrev main_c_83 : Ref sig .tc := ⟨.hbm, 701, rfl⟩
abbrev main_v296 : Ref sig .tc := ⟨.hbm, 702, rfl⟩
abbrev main_v297 : Ref sig .tc := ⟨.hbm, 703, rfl⟩
abbrev main_v298 : Ref sig .tc := ⟨.hbm, 704, rfl⟩
abbrev main_v299 : Ref sig .tc := ⟨.hbm, 705, rfl⟩
abbrev main_call41_c : Ref sig .tc := ⟨.hbm, 706, rfl⟩
abbrev main_call41_v0 : Ref sig .tc := ⟨.hbm, 707, rfl⟩
abbrev main_call41_v1 : Ref sig .tc := ⟨.hbm, 708, rfl⟩
abbrev main_call41_c_0 : Ref sig .tc := ⟨.hbm, 709, rfl⟩
abbrev main_call41_v2 : Ref sig .tc := ⟨.hbm, 710, rfl⟩
abbrev main_call41_v3 : Ref sig .tc := ⟨.hbm, 711, rfl⟩
abbrev main_call41_v4 : Ref sig .tc := ⟨.hbm, 712, rfl⟩
abbrev main_call41_v5 : Ref sig .tc := ⟨.hbm, 713, rfl⟩
abbrev main_call41_c_1 : Ref sig .tc := ⟨.hbm, 714, rfl⟩
abbrev main_call41_c_2 : Ref sig .tc := ⟨.hbm, 715, rfl⟩
abbrev main_call41_v6 : Ref sig .tc := ⟨.hbm, 716, rfl⟩
abbrev main_call41_v7 : Ref sig .tc := ⟨.hbm, 717, rfl⟩
abbrev main_call41_v8 : Ref sig .tc := ⟨.hbm, 718, rfl⟩
abbrev main_call41_v9 : Ref sig .tc := ⟨.hbm, 719, rfl⟩
abbrev main_call41_v10 : Ref sig .tc := ⟨.hbm, 720, rfl⟩
abbrev main_call41_v11 : Ref sig .tc := ⟨.hbm, 721, rfl⟩
abbrev main_call41_c_3 : Ref sig .tc := ⟨.hbm, 722, rfl⟩
abbrev main_call41_v12 : Ref sig .tc := ⟨.hbm, 723, rfl⟩
abbrev main_call41_v13 : Ref sig .tc := ⟨.hbm, 724, rfl⟩
abbrev main_call41_v14 : Ref sig .tc := ⟨.hbm, 725, rfl⟩
abbrev main_call41_cst : Ref sig .tc := ⟨.hbm, 726, rfl⟩
abbrev main_call41_v15 : Ref sig .tc := ⟨.hbm, 727, rfl⟩
abbrev main_v300 : Ref sig .tc := ⟨.hbm, 728, rfl⟩
abbrev main_v301 : Ref sig .tc := ⟨.hbm, 729, rfl⟩
abbrev main_v302 : Ref sig .tc := ⟨.hbm, 730, rfl⟩
abbrev main_v303 : Ref sig .tc := ⟨.hbm, 731, rfl⟩
abbrev main_v304 : Ref sig .tc := ⟨.hbm, 732, rfl⟩
abbrev main_cst_84 : Ref sig .tc := ⟨.hbm, 733, rfl⟩
abbrev main_v305 : Ref sig .tc := ⟨.hbm, 734, rfl⟩
abbrev main_v306 : Ref sig .tc := ⟨.hbm, 735, rfl⟩
abbrev main_cst_85 : Ref sig .tc := ⟨.hbm, 736, rfl⟩
abbrev main_call42_v0 : Ref sig .tc := ⟨.hbm, 737, rfl⟩
abbrev main_call42_v1 : Ref sig .tc := ⟨.hbm, 738, rfl⟩
abbrev main_v307 : Ref sig .tc := ⟨.hbm, 739, rfl⟩
abbrev main_v308 : Ref sig .tc := ⟨.hbm, 740, rfl⟩
abbrev main_c_86 : Ref sig .tc := ⟨.hbm, 741, rfl⟩
abbrev main_v309 : Ref sig .tc := ⟨.hbm, 742, rfl⟩
abbrev main_v310 : Ref sig .tc := ⟨.hbm, 743, rfl⟩
abbrev main_c_87 : Ref sig .tc := ⟨.hbm, 744, rfl⟩
abbrev main_call43_v0 : Ref sig .tc := ⟨.hbm, 745, rfl⟩
abbrev main_call43_v1 : Ref sig .tc := ⟨.hbm, 746, rfl⟩
abbrev main_v311 : Ref sig .tc := ⟨.hbm, 747, rfl⟩
abbrev main_c_88 : Ref sig .tc := ⟨.hbm, 748, rfl⟩
abbrev main_v312 : Ref sig .tc := ⟨.hbm, 749, rfl⟩
abbrev main_v313 : Ref sig .tc := ⟨.hbm, 750, rfl⟩
abbrev main_v314 : Ref sig .tc := ⟨.hbm, 751, rfl⟩
abbrev main_v315 : Ref sig .tc := ⟨.hbm, 752, rfl⟩
abbrev main_call44_c : Ref sig .tc := ⟨.hbm, 753, rfl⟩
abbrev main_call44_v0 : Ref sig .tc := ⟨.hbm, 754, rfl⟩
abbrev main_call44_v1 : Ref sig .tc := ⟨.hbm, 755, rfl⟩
abbrev main_call44_c_0 : Ref sig .tc := ⟨.hbm, 756, rfl⟩
abbrev main_call44_v2 : Ref sig .tc := ⟨.hbm, 757, rfl⟩
abbrev main_call44_v3 : Ref sig .tc := ⟨.hbm, 758, rfl⟩
abbrev main_call44_v4 : Ref sig .tc := ⟨.hbm, 759, rfl⟩
abbrev main_call44_v5 : Ref sig .tc := ⟨.hbm, 760, rfl⟩
abbrev main_call44_c_1 : Ref sig .tc := ⟨.hbm, 761, rfl⟩
abbrev main_call44_c_2 : Ref sig .tc := ⟨.hbm, 762, rfl⟩
abbrev main_call44_v6 : Ref sig .tc := ⟨.hbm, 763, rfl⟩
abbrev main_call44_v7 : Ref sig .tc := ⟨.hbm, 764, rfl⟩
abbrev main_call44_v8 : Ref sig .tc := ⟨.hbm, 765, rfl⟩
abbrev main_call44_v9 : Ref sig .tc := ⟨.hbm, 766, rfl⟩
abbrev main_call44_v10 : Ref sig .tc := ⟨.hbm, 767, rfl⟩
abbrev main_call44_v11 : Ref sig .tc := ⟨.hbm, 768, rfl⟩
abbrev main_call44_c_3 : Ref sig .tc := ⟨.hbm, 769, rfl⟩
abbrev main_call44_v12 : Ref sig .tc := ⟨.hbm, 770, rfl⟩
abbrev main_call44_v13 : Ref sig .tc := ⟨.hbm, 771, rfl⟩
abbrev main_call44_v14 : Ref sig .tc := ⟨.hbm, 772, rfl⟩
abbrev main_call44_cst : Ref sig .tc := ⟨.hbm, 773, rfl⟩
abbrev main_call44_v15 : Ref sig .tc := ⟨.hbm, 774, rfl⟩
abbrev main_v316 : Ref sig .tc := ⟨.hbm, 775, rfl⟩
abbrev main_v317 : Ref sig .tc := ⟨.hbm, 776, rfl⟩
abbrev main_v318 : Ref sig .tc := ⟨.hbm, 777, rfl⟩
abbrev main_v319 : Ref sig .tc := ⟨.hbm, 778, rfl⟩
abbrev main_v320 : Ref sig .tc := ⟨.hbm, 779, rfl⟩
abbrev main_cst_89 : Ref sig .tc := ⟨.hbm, 780, rfl⟩
abbrev main_v321 : Ref sig .tc := ⟨.hbm, 781, rfl⟩
abbrev main_v322 : Ref sig .tc := ⟨.hbm, 782, rfl⟩
abbrev main_cst_90 : Ref sig .tc := ⟨.hbm, 783, rfl⟩
abbrev main_call45_v0 : Ref sig .tc := ⟨.hbm, 784, rfl⟩
abbrev main_call45_v1 : Ref sig .tc := ⟨.hbm, 785, rfl⟩
abbrev main_v323 : Ref sig .tc := ⟨.hbm, 786, rfl⟩
abbrev main_v324 : Ref sig .tc := ⟨.hbm, 787, rfl⟩
abbrev main_c_91 : Ref sig .tc := ⟨.hbm, 788, rfl⟩
abbrev main_v325 : Ref sig .tc := ⟨.hbm, 789, rfl⟩
abbrev main_v326 : Ref sig .tc := ⟨.hbm, 790, rfl⟩
abbrev main_c_92 : Ref sig .tc := ⟨.hbm, 791, rfl⟩
abbrev main_call46_v0 : Ref sig .tc := ⟨.hbm, 792, rfl⟩
abbrev main_call46_v1 : Ref sig .tc := ⟨.hbm, 793, rfl⟩
abbrev main_v327 : Ref sig .tc := ⟨.hbm, 794, rfl⟩
abbrev main_c_93 : Ref sig .tc := ⟨.hbm, 795, rfl⟩
abbrev main_v328 : Ref sig .tc := ⟨.hbm, 796, rfl⟩
abbrev main_v329 : Ref sig .tc := ⟨.hbm, 797, rfl⟩
abbrev main_v330 : Ref sig .tc := ⟨.hbm, 798, rfl⟩
abbrev main_v331 : Ref sig .tc := ⟨.hbm, 799, rfl⟩
abbrev main_call47_c : Ref sig .tc := ⟨.hbm, 800, rfl⟩
abbrev main_call47_v0 : Ref sig .tc := ⟨.hbm, 801, rfl⟩
abbrev main_call47_v1 : Ref sig .tc := ⟨.hbm, 802, rfl⟩
abbrev main_call47_c_0 : Ref sig .tc := ⟨.hbm, 803, rfl⟩
abbrev main_call47_v2 : Ref sig .tc := ⟨.hbm, 804, rfl⟩
abbrev main_call47_v3 : Ref sig .tc := ⟨.hbm, 805, rfl⟩
abbrev main_call47_v4 : Ref sig .tc := ⟨.hbm, 806, rfl⟩
abbrev main_call47_v5 : Ref sig .tc := ⟨.hbm, 807, rfl⟩
abbrev main_call47_c_1 : Ref sig .tc := ⟨.hbm, 808, rfl⟩
abbrev main_call47_c_2 : Ref sig .tc := ⟨.hbm, 809, rfl⟩
abbrev main_call47_v6 : Ref sig .tc := ⟨.hbm, 810, rfl⟩
abbrev main_call47_v7 : Ref sig .tc := ⟨.hbm, 811, rfl⟩
abbrev main_call47_v8 : Ref sig .tc := ⟨.hbm, 812, rfl⟩
abbrev main_call47_v9 : Ref sig .tc := ⟨.hbm, 813, rfl⟩
abbrev main_call47_v10 : Ref sig .tc := ⟨.hbm, 814, rfl⟩
abbrev main_call47_v11 : Ref sig .tc := ⟨.hbm, 815, rfl⟩
abbrev main_call47_c_3 : Ref sig .tc := ⟨.hbm, 816, rfl⟩
abbrev main_call47_v12 : Ref sig .tc := ⟨.hbm, 817, rfl⟩
abbrev main_call47_v13 : Ref sig .tc := ⟨.hbm, 818, rfl⟩
abbrev main_call47_v14 : Ref sig .tc := ⟨.hbm, 819, rfl⟩
abbrev main_call47_cst : Ref sig .tc := ⟨.hbm, 820, rfl⟩
abbrev main_call47_v15 : Ref sig .tc := ⟨.hbm, 821, rfl⟩
abbrev main_v332 : Ref sig .tc := ⟨.hbm, 822, rfl⟩
abbrev main_v333 : Ref sig .tc := ⟨.hbm, 823, rfl⟩
abbrev main_v334 : Ref sig .tc := ⟨.hbm, 824, rfl⟩
abbrev main_v335 : Ref sig .tc := ⟨.hbm, 825, rfl⟩
abbrev main_v336 : Ref sig .tc := ⟨.hbm, 826, rfl⟩
abbrev main_v337 : Ref sig .tc := ⟨.hbm, 827, rfl⟩
abbrev main_v338 : Ref sig .tc := ⟨.hbm, 828, rfl⟩
abbrev main_cst_94 : Ref sig .tc := ⟨.hbm, 829, rfl⟩
abbrev main_v339 : Ref sig .tc := ⟨.hbm, 830, rfl⟩
abbrev main_v340 : Ref sig .tc := ⟨.hbm, 831, rfl⟩
abbrev main_cst_95 : Ref sig .tc := ⟨.hbm, 832, rfl⟩
abbrev main_v341 : Ref sig .tc := ⟨.hbm, 833, rfl⟩
abbrev main_v342 : Ref sig .tc := ⟨.hbm, 834, rfl⟩
abbrev main_v343 : Ref sig .tc := ⟨.hbm, 835, rfl⟩
abbrev main_v344 : Ref sig .tc := ⟨.hbm, 836, rfl⟩
abbrev main_v345 : Ref sig .tc := ⟨.hbm, 837, rfl⟩
abbrev main_cst_96 : Ref sig .tc := ⟨.hbm, 838, rfl⟩
abbrev main_v346 : Ref sig .tc := ⟨.hbm, 839, rfl⟩
abbrev main_v347 : Ref sig .tc := ⟨.hbm, 840, rfl⟩
abbrev main_cst_97 : Ref sig .tc := ⟨.hbm, 841, rfl⟩
abbrev main_v348 : Ref sig .tc := ⟨.hbm, 842, rfl⟩
abbrev main_v349 : Ref sig .tc := ⟨.hbm, 843, rfl⟩
abbrev main_v350 : Ref sig .tc := ⟨.hbm, 844, rfl⟩
abbrev main_v351 : Ref sig .tc := ⟨.hbm, 845, rfl⟩
abbrev main_cst_98 : Ref sig .tc := ⟨.hbm, 846, rfl⟩
abbrev main_v352 : Ref sig .tc := ⟨.hbm, 847, rfl⟩
abbrev main_v353 : Ref sig .tc := ⟨.hbm, 848, rfl⟩
abbrev main_v354 : Ref sig .tc := ⟨.hbm, 849, rfl⟩
abbrev main_v355 : Ref sig .tc := ⟨.hbm, 850, rfl⟩
abbrev main_v356 : Ref sig .tc := ⟨.hbm, 851, rfl⟩
abbrev main_v357 : Ref sig .tc := ⟨.hbm, 852, rfl⟩
abbrev main_v358 : Ref sig .tc := ⟨.hbm, 853, rfl⟩
abbrev main_v359 : Ref sig .tc := ⟨.hbm, 854, rfl⟩
abbrev main_v360 : Ref sig .tc := ⟨.hbm, 855, rfl⟩
abbrev main_v361 : Ref sig .tc := ⟨.hbm, 856, rfl⟩
abbrev main_v362 : Ref sig .tc := ⟨.hbm, 857, rfl⟩
abbrev main_cst_99 : Ref sig .tc := ⟨.hbm, 858, rfl⟩
abbrev main_v363 : Ref sig .tc := ⟨.hbm, 859, rfl⟩
abbrev main_v364 : Ref sig .tc := ⟨.hbm, 860, rfl⟩
abbrev main_cst_100 : Ref sig .tc := ⟨.hbm, 861, rfl⟩
abbrev main_v365 : Ref sig .tc := ⟨.hbm, 862, rfl⟩
abbrev main_v366 : Ref sig .tc := ⟨.hbm, 863, rfl⟩
abbrev main_v367 : Ref sig .tc := ⟨.hbm, 864, rfl⟩
abbrev main_v368 : Ref sig .tc := ⟨.hbm, 865, rfl⟩
abbrev main_v369 : Ref sig .tc := ⟨.hbm, 866, rfl⟩
abbrev main_cst_101 : Ref sig .tc := ⟨.hbm, 867, rfl⟩
abbrev main_v370 : Ref sig .tc := ⟨.hbm, 868, rfl⟩
abbrev main_v371 : Ref sig .tc := ⟨.hbm, 869, rfl⟩
abbrev main_cst_102 : Ref sig .tc := ⟨.hbm, 870, rfl⟩
abbrev main_call49_v0 : Ref sig .tc := ⟨.hbm, 871, rfl⟩
abbrev main_call49_v1 : Ref sig .tc := ⟨.hbm, 872, rfl⟩
abbrev main_v372 : Ref sig .tc := ⟨.hbm, 873, rfl⟩
abbrev main_v373 : Ref sig .tc := ⟨.hbm, 874, rfl⟩
abbrev main_c_103 : Ref sig .tc := ⟨.hbm, 875, rfl⟩
abbrev main_v374 : Ref sig .tc := ⟨.hbm, 876, rfl⟩
abbrev main_v375 : Ref sig .tc := ⟨.hbm, 877, rfl⟩
abbrev main_c_104 : Ref sig .tc := ⟨.hbm, 878, rfl⟩
abbrev main_call50_v0 : Ref sig .tc := ⟨.hbm, 879, rfl⟩
abbrev main_call50_v1 : Ref sig .tc := ⟨.hbm, 880, rfl⟩
abbrev main_v376 : Ref sig .tc := ⟨.hbm, 881, rfl⟩
abbrev main_c_105 : Ref sig .tc := ⟨.hbm, 882, rfl⟩
abbrev main_v377 : Ref sig .tc := ⟨.hbm, 883, rfl⟩
abbrev main_v378 : Ref sig .tc := ⟨.hbm, 884, rfl⟩
abbrev main_v379 : Ref sig .tc := ⟨.hbm, 885, rfl⟩
abbrev main_v380 : Ref sig .tc := ⟨.hbm, 886, rfl⟩
abbrev main_call51_c : Ref sig .tc := ⟨.hbm, 887, rfl⟩
abbrev main_call51_v0 : Ref sig .tc := ⟨.hbm, 888, rfl⟩
abbrev main_call51_v1 : Ref sig .tc := ⟨.hbm, 889, rfl⟩
abbrev main_call51_c_0 : Ref sig .tc := ⟨.hbm, 890, rfl⟩
abbrev main_call51_v2 : Ref sig .tc := ⟨.hbm, 891, rfl⟩
abbrev main_call51_v3 : Ref sig .tc := ⟨.hbm, 892, rfl⟩
abbrev main_call51_v4 : Ref sig .tc := ⟨.hbm, 893, rfl⟩
abbrev main_call51_v5 : Ref sig .tc := ⟨.hbm, 894, rfl⟩
abbrev main_call51_c_1 : Ref sig .tc := ⟨.hbm, 895, rfl⟩
abbrev main_call51_c_2 : Ref sig .tc := ⟨.hbm, 896, rfl⟩
abbrev main_call51_v6 : Ref sig .tc := ⟨.hbm, 897, rfl⟩
abbrev main_call51_v7 : Ref sig .tc := ⟨.hbm, 898, rfl⟩
abbrev main_call51_v8 : Ref sig .tc := ⟨.hbm, 899, rfl⟩
abbrev main_call51_v9 : Ref sig .tc := ⟨.hbm, 900, rfl⟩
abbrev main_call51_v10 : Ref sig .tc := ⟨.hbm, 901, rfl⟩
abbrev main_call51_v11 : Ref sig .tc := ⟨.hbm, 902, rfl⟩
abbrev main_call51_c_3 : Ref sig .tc := ⟨.hbm, 903, rfl⟩
abbrev main_call51_v12 : Ref sig .tc := ⟨.hbm, 904, rfl⟩
abbrev main_call51_v13 : Ref sig .tc := ⟨.hbm, 905, rfl⟩
abbrev main_call51_v14 : Ref sig .tc := ⟨.hbm, 906, rfl⟩
abbrev main_call51_cst : Ref sig .tc := ⟨.hbm, 907, rfl⟩
abbrev main_call51_v15 : Ref sig .tc := ⟨.hbm, 908, rfl⟩
abbrev main_v381 : Ref sig .tc := ⟨.hbm, 909, rfl⟩
abbrev main_v382 : Ref sig .tc := ⟨.hbm, 910, rfl⟩
abbrev main_v383 : Ref sig .tc := ⟨.hbm, 911, rfl⟩
abbrev main_v384 : Ref sig .tc := ⟨.hbm, 912, rfl⟩
abbrev main_cst_106 : Ref sig .tc := ⟨.hbm, 913, rfl⟩
abbrev main_v385 : Ref sig .tc := ⟨.hbm, 914, rfl⟩
abbrev main_v386 : Ref sig .tc := ⟨.hbm, 915, rfl⟩
abbrev main_cst_107 : Ref sig .tc := ⟨.hbm, 916, rfl⟩
abbrev main_call52_v0 : Ref sig .tc := ⟨.hbm, 917, rfl⟩
abbrev main_call52_v1 : Ref sig .tc := ⟨.hbm, 918, rfl⟩
abbrev main_v387 : Ref sig .tc := ⟨.hbm, 919, rfl⟩
abbrev main_v388 : Ref sig .tc := ⟨.hbm, 920, rfl⟩
abbrev main_c_108 : Ref sig .tc := ⟨.hbm, 921, rfl⟩
abbrev main_v389 : Ref sig .tc := ⟨.hbm, 922, rfl⟩
abbrev main_v390 : Ref sig .tc := ⟨.hbm, 923, rfl⟩
abbrev main_c_109 : Ref sig .tc := ⟨.hbm, 924, rfl⟩
abbrev main_call53_v0 : Ref sig .tc := ⟨.hbm, 925, rfl⟩
abbrev main_call53_v1 : Ref sig .tc := ⟨.hbm, 926, rfl⟩
abbrev main_v391 : Ref sig .tc := ⟨.hbm, 927, rfl⟩
abbrev main_c_110 : Ref sig .tc := ⟨.hbm, 928, rfl⟩
abbrev main_v392 : Ref sig .tc := ⟨.hbm, 929, rfl⟩
abbrev main_v393 : Ref sig .tc := ⟨.hbm, 930, rfl⟩
abbrev main_v394 : Ref sig .tc := ⟨.hbm, 931, rfl⟩
abbrev main_v395 : Ref sig .tc := ⟨.hbm, 932, rfl⟩
abbrev main_call54_c : Ref sig .tc := ⟨.hbm, 933, rfl⟩
abbrev main_call54_v0 : Ref sig .tc := ⟨.hbm, 934, rfl⟩
abbrev main_call54_v1 : Ref sig .tc := ⟨.hbm, 935, rfl⟩
abbrev main_call54_c_0 : Ref sig .tc := ⟨.hbm, 936, rfl⟩
abbrev main_call54_v2 : Ref sig .tc := ⟨.hbm, 937, rfl⟩
abbrev main_call54_v3 : Ref sig .tc := ⟨.hbm, 938, rfl⟩
abbrev main_call54_v4 : Ref sig .tc := ⟨.hbm, 939, rfl⟩
abbrev main_call54_v5 : Ref sig .tc := ⟨.hbm, 940, rfl⟩
abbrev main_call54_c_1 : Ref sig .tc := ⟨.hbm, 941, rfl⟩
abbrev main_call54_c_2 : Ref sig .tc := ⟨.hbm, 942, rfl⟩
abbrev main_call54_v6 : Ref sig .tc := ⟨.hbm, 943, rfl⟩
abbrev main_call54_v7 : Ref sig .tc := ⟨.hbm, 944, rfl⟩
abbrev main_call54_v8 : Ref sig .tc := ⟨.hbm, 945, rfl⟩
abbrev main_call54_v9 : Ref sig .tc := ⟨.hbm, 946, rfl⟩
abbrev main_call54_v10 : Ref sig .tc := ⟨.hbm, 947, rfl⟩
abbrev main_call54_v11 : Ref sig .tc := ⟨.hbm, 948, rfl⟩
abbrev main_call54_c_3 : Ref sig .tc := ⟨.hbm, 949, rfl⟩
abbrev main_call54_v12 : Ref sig .tc := ⟨.hbm, 950, rfl⟩
abbrev main_call54_v13 : Ref sig .tc := ⟨.hbm, 951, rfl⟩
abbrev main_call54_v14 : Ref sig .tc := ⟨.hbm, 952, rfl⟩
abbrev main_call54_cst : Ref sig .tc := ⟨.hbm, 953, rfl⟩
abbrev main_call54_v15 : Ref sig .tc := ⟨.hbm, 954, rfl⟩
abbrev main_v396 : Ref sig .tc := ⟨.hbm, 955, rfl⟩
abbrev main_v397 : Ref sig .tc := ⟨.hbm, 956, rfl⟩
abbrev main_v398 : Ref sig .tc := ⟨.hbm, 957, rfl⟩
abbrev main_v399 : Ref sig .tc := ⟨.hbm, 958, rfl⟩
abbrev main_v400 : Ref sig .tc := ⟨.hbm, 959, rfl⟩
abbrev main_cst_111 : Ref sig .tc := ⟨.hbm, 960, rfl⟩
abbrev main_v401 : Ref sig .tc := ⟨.hbm, 961, rfl⟩
abbrev main_v402 : Ref sig .tc := ⟨.hbm, 962, rfl⟩
abbrev main_cst_112 : Ref sig .tc := ⟨.hbm, 963, rfl⟩
abbrev main_call55_v0 : Ref sig .tc := ⟨.hbm, 964, rfl⟩
abbrev main_call55_v1 : Ref sig .tc := ⟨.hbm, 965, rfl⟩
abbrev main_v403 : Ref sig .tc := ⟨.hbm, 966, rfl⟩
abbrev main_v404 : Ref sig .tc := ⟨.hbm, 967, rfl⟩
abbrev main_c_113 : Ref sig .tc := ⟨.hbm, 968, rfl⟩
abbrev main_v405 : Ref sig .tc := ⟨.hbm, 969, rfl⟩
abbrev main_v406 : Ref sig .tc := ⟨.hbm, 970, rfl⟩
abbrev main_c_114 : Ref sig .tc := ⟨.hbm, 971, rfl⟩
abbrev main_call56_v0 : Ref sig .tc := ⟨.hbm, 972, rfl⟩
abbrev main_call56_v1 : Ref sig .tc := ⟨.hbm, 973, rfl⟩
abbrev main_v407 : Ref sig .tc := ⟨.hbm, 974, rfl⟩
abbrev main_c_115 : Ref sig .tc := ⟨.hbm, 975, rfl⟩
abbrev main_v408 : Ref sig .tc := ⟨.hbm, 976, rfl⟩
abbrev main_v409 : Ref sig .tc := ⟨.hbm, 977, rfl⟩
abbrev main_v410 : Ref sig .tc := ⟨.hbm, 978, rfl⟩
abbrev main_v411 : Ref sig .tc := ⟨.hbm, 979, rfl⟩
abbrev main_call57_c : Ref sig .tc := ⟨.hbm, 980, rfl⟩
abbrev main_call57_v0 : Ref sig .tc := ⟨.hbm, 981, rfl⟩
abbrev main_call57_v1 : Ref sig .tc := ⟨.hbm, 982, rfl⟩
abbrev main_call57_c_0 : Ref sig .tc := ⟨.hbm, 983, rfl⟩
abbrev main_call57_v2 : Ref sig .tc := ⟨.hbm, 984, rfl⟩
abbrev main_call57_v3 : Ref sig .tc := ⟨.hbm, 985, rfl⟩
abbrev main_call57_v4 : Ref sig .tc := ⟨.hbm, 986, rfl⟩
abbrev main_call57_v5 : Ref sig .tc := ⟨.hbm, 987, rfl⟩
abbrev main_call57_c_1 : Ref sig .tc := ⟨.hbm, 988, rfl⟩
abbrev main_call57_c_2 : Ref sig .tc := ⟨.hbm, 989, rfl⟩
abbrev main_call57_v6 : Ref sig .tc := ⟨.hbm, 990, rfl⟩
abbrev main_call57_v7 : Ref sig .tc := ⟨.hbm, 991, rfl⟩
abbrev main_call57_v8 : Ref sig .tc := ⟨.hbm, 992, rfl⟩
abbrev main_call57_v9 : Ref sig .tc := ⟨.hbm, 993, rfl⟩
abbrev main_call57_v10 : Ref sig .tc := ⟨.hbm, 994, rfl⟩
abbrev main_call57_v11 : Ref sig .tc := ⟨.hbm, 995, rfl⟩
abbrev main_call57_c_3 : Ref sig .tc := ⟨.hbm, 996, rfl⟩
abbrev main_call57_v12 : Ref sig .tc := ⟨.hbm, 997, rfl⟩
abbrev main_call57_v13 : Ref sig .tc := ⟨.hbm, 998, rfl⟩
abbrev main_call57_v14 : Ref sig .tc := ⟨.hbm, 999, rfl⟩
abbrev main_call57_cst : Ref sig .tc := ⟨.hbm, 1000, rfl⟩
abbrev main_call57_v15 : Ref sig .tc := ⟨.hbm, 1001, rfl⟩
abbrev main_v412 : Ref sig .tc := ⟨.hbm, 1002, rfl⟩
abbrev main_v413 : Ref sig .tc := ⟨.hbm, 1003, rfl⟩
abbrev main_v414 : Ref sig .tc := ⟨.hbm, 1004, rfl⟩
abbrev main_v415 : Ref sig .tc := ⟨.hbm, 1005, rfl⟩
abbrev main_v416 : Ref sig .tc := ⟨.hbm, 1006, rfl⟩
abbrev main_cst_116 : Ref sig .tc := ⟨.hbm, 1007, rfl⟩
abbrev main_v417 : Ref sig .tc := ⟨.hbm, 1008, rfl⟩
abbrev main_v418 : Ref sig .tc := ⟨.hbm, 1009, rfl⟩
abbrev main_cst_117 : Ref sig .tc := ⟨.hbm, 1010, rfl⟩
abbrev main_call58_v0 : Ref sig .tc := ⟨.hbm, 1011, rfl⟩
abbrev main_call58_v1 : Ref sig .tc := ⟨.hbm, 1012, rfl⟩
abbrev main_v419 : Ref sig .tc := ⟨.hbm, 1013, rfl⟩
abbrev main_v420 : Ref sig .tc := ⟨.hbm, 1014, rfl⟩
abbrev main_c_118 : Ref sig .tc := ⟨.hbm, 1015, rfl⟩
abbrev main_v421 : Ref sig .tc := ⟨.hbm, 1016, rfl⟩
abbrev main_v422 : Ref sig .tc := ⟨.hbm, 1017, rfl⟩
abbrev main_c_119 : Ref sig .tc := ⟨.hbm, 1018, rfl⟩
abbrev main_call59_v0 : Ref sig .tc := ⟨.hbm, 1019, rfl⟩
abbrev main_call59_v1 : Ref sig .tc := ⟨.hbm, 1020, rfl⟩
abbrev main_v423 : Ref sig .tc := ⟨.hbm, 1021, rfl⟩
abbrev main_c_120 : Ref sig .tc := ⟨.hbm, 1022, rfl⟩
abbrev main_v424 : Ref sig .tc := ⟨.hbm, 1023, rfl⟩
abbrev main_v425 : Ref sig .tc := ⟨.hbm, 1024, rfl⟩
abbrev main_v426 : Ref sig .tc := ⟨.hbm, 1025, rfl⟩
abbrev main_v427 : Ref sig .tc := ⟨.hbm, 1026, rfl⟩
abbrev main_call60_c : Ref sig .tc := ⟨.hbm, 1027, rfl⟩
abbrev main_call60_v0 : Ref sig .tc := ⟨.hbm, 1028, rfl⟩
abbrev main_call60_v1 : Ref sig .tc := ⟨.hbm, 1029, rfl⟩
abbrev main_call60_c_0 : Ref sig .tc := ⟨.hbm, 1030, rfl⟩
abbrev main_call60_v2 : Ref sig .tc := ⟨.hbm, 1031, rfl⟩
abbrev main_call60_v3 : Ref sig .tc := ⟨.hbm, 1032, rfl⟩
abbrev main_call60_v4 : Ref sig .tc := ⟨.hbm, 1033, rfl⟩
abbrev main_call60_v5 : Ref sig .tc := ⟨.hbm, 1034, rfl⟩
abbrev main_call60_c_1 : Ref sig .tc := ⟨.hbm, 1035, rfl⟩
abbrev main_call60_c_2 : Ref sig .tc := ⟨.hbm, 1036, rfl⟩
abbrev main_call60_v6 : Ref sig .tc := ⟨.hbm, 1037, rfl⟩
abbrev main_call60_v7 : Ref sig .tc := ⟨.hbm, 1038, rfl⟩
abbrev main_call60_v8 : Ref sig .tc := ⟨.hbm, 1039, rfl⟩
abbrev main_call60_v9 : Ref sig .tc := ⟨.hbm, 1040, rfl⟩
abbrev main_call60_v10 : Ref sig .tc := ⟨.hbm, 1041, rfl⟩
abbrev main_call60_v11 : Ref sig .tc := ⟨.hbm, 1042, rfl⟩
abbrev main_call60_c_3 : Ref sig .tc := ⟨.hbm, 1043, rfl⟩
abbrev main_call60_v12 : Ref sig .tc := ⟨.hbm, 1044, rfl⟩
abbrev main_call60_v13 : Ref sig .tc := ⟨.hbm, 1045, rfl⟩
abbrev main_call60_v14 : Ref sig .tc := ⟨.hbm, 1046, rfl⟩
abbrev main_call60_cst : Ref sig .tc := ⟨.hbm, 1047, rfl⟩
abbrev main_call60_v15 : Ref sig .tc := ⟨.hbm, 1048, rfl⟩
abbrev main_v428 : Ref sig .tc := ⟨.hbm, 1049, rfl⟩
abbrev main_v429 : Ref sig .tc := ⟨.hbm, 1050, rfl⟩
abbrev main_v430 : Ref sig .tc := ⟨.hbm, 1051, rfl⟩
abbrev main_v431 : Ref sig .tc := ⟨.hbm, 1052, rfl⟩
abbrev main_v432 : Ref sig .tc := ⟨.hbm, 1053, rfl⟩
abbrev main_v433 : Ref sig .tc := ⟨.hbm, 1054, rfl⟩
abbrev main_v434 : Ref sig .tc := ⟨.hbm, 1055, rfl⟩
abbrev main_cst_121 : Ref sig .tc := ⟨.hbm, 1056, rfl⟩
abbrev main_v435 : Ref sig .tc := ⟨.hbm, 1057, rfl⟩
abbrev main_v436 : Ref sig .tc := ⟨.hbm, 1058, rfl⟩
abbrev main_cst_122 : Ref sig .tc := ⟨.hbm, 1059, rfl⟩
abbrev main_v437 : Ref sig .tc := ⟨.hbm, 1060, rfl⟩
abbrev main_v438 : Ref sig .tc := ⟨.hbm, 1061, rfl⟩
abbrev main_v439 : Ref sig .tc := ⟨.hbm, 1062, rfl⟩
abbrev main_v440 : Ref sig .tc := ⟨.hbm, 1063, rfl⟩
abbrev main_v441 : Ref sig .tc := ⟨.hbm, 1064, rfl⟩
abbrev main_cst_123 : Ref sig .tc := ⟨.hbm, 1065, rfl⟩
abbrev main_v442 : Ref sig .tc := ⟨.hbm, 1066, rfl⟩
abbrev main_v443 : Ref sig .tc := ⟨.hbm, 1067, rfl⟩
abbrev main_cst_124 : Ref sig .tc := ⟨.hbm, 1068, rfl⟩
abbrev main_v444 : Ref sig .tc := ⟨.hbm, 1069, rfl⟩
abbrev main_v445 : Ref sig .tc := ⟨.hbm, 1070, rfl⟩
abbrev main_v446 : Ref sig .tc := ⟨.hbm, 1071, rfl⟩
abbrev main_v447 : Ref sig .tc := ⟨.hbm, 1072, rfl⟩
abbrev main_cst_125 : Ref sig .tc := ⟨.hbm, 1073, rfl⟩
abbrev main_v448 : Ref sig .tc := ⟨.hbm, 1074, rfl⟩
abbrev main_v449 : Ref sig .tc := ⟨.hbm, 1075, rfl⟩
abbrev main_v450 : Ref sig .tc := ⟨.hbm, 1076, rfl⟩
abbrev main_v451 : Ref sig .tc := ⟨.hbm, 1077, rfl⟩
abbrev main_v452 : Ref sig .tc := ⟨.hbm, 1078, rfl⟩
abbrev main_v453 : Ref sig .tc := ⟨.hbm, 1079, rfl⟩
abbrev main_v454 : Ref sig .tc := ⟨.hbm, 1080, rfl⟩
abbrev main_v455 : Ref sig .tc := ⟨.hbm, 1081, rfl⟩
abbrev main_v456 : Ref sig .tc := ⟨.hbm, 1082, rfl⟩
abbrev main_v457 : Ref sig .tc := ⟨.hbm, 1083, rfl⟩
abbrev main_v458 : Ref sig .tc := ⟨.hbm, 1084, rfl⟩
abbrev main_cst_126 : Ref sig .tc := ⟨.hbm, 1085, rfl⟩
abbrev main_v459 : Ref sig .tc := ⟨.hbm, 1086, rfl⟩
abbrev main_v460 : Ref sig .tc := ⟨.hbm, 1087, rfl⟩
abbrev main_cst_127 : Ref sig .tc := ⟨.hbm, 1088, rfl⟩
abbrev main_v461 : Ref sig .tc := ⟨.hbm, 1089, rfl⟩
abbrev main_v462 : Ref sig .tc := ⟨.hbm, 1090, rfl⟩
abbrev main_v463 : Ref sig .tc := ⟨.hbm, 1091, rfl⟩
abbrev main_v464 : Ref sig .tc := ⟨.hbm, 1092, rfl⟩
abbrev main_v465 : Ref sig .tc := ⟨.hbm, 1093, rfl⟩
abbrev main_cst_128 : Ref sig .tc := ⟨.hbm, 1094, rfl⟩
abbrev main_v466 : Ref sig .tc := ⟨.hbm, 1095, rfl⟩
abbrev main_v467 : Ref sig .tc := ⟨.hbm, 1096, rfl⟩
abbrev main_cst_129 : Ref sig .tc := ⟨.hbm, 1097, rfl⟩
abbrev main_call62_v0 : Ref sig .tc := ⟨.hbm, 1098, rfl⟩
abbrev main_call62_v1 : Ref sig .tc := ⟨.hbm, 1099, rfl⟩
abbrev main_v468 : Ref sig .tc := ⟨.hbm, 1100, rfl⟩
abbrev main_v469 : Ref sig .tc := ⟨.hbm, 1101, rfl⟩
abbrev main_c_130 : Ref sig .tc := ⟨.hbm, 1102, rfl⟩
abbrev main_v470 : Ref sig .tc := ⟨.hbm, 1103, rfl⟩
abbrev main_v471 : Ref sig .tc := ⟨.hbm, 1104, rfl⟩
abbrev main_c_131 : Ref sig .tc := ⟨.hbm, 1105, rfl⟩
abbrev main_call63_v0 : Ref sig .tc := ⟨.hbm, 1106, rfl⟩
abbrev main_call63_v1 : Ref sig .tc := ⟨.hbm, 1107, rfl⟩
abbrev main_v472 : Ref sig .tc := ⟨.hbm, 1108, rfl⟩
abbrev main_c_132 : Ref sig .tc := ⟨.hbm, 1109, rfl⟩
abbrev main_v473 : Ref sig .tc := ⟨.hbm, 1110, rfl⟩
abbrev main_v474 : Ref sig .tc := ⟨.hbm, 1111, rfl⟩
abbrev main_v475 : Ref sig .tc := ⟨.hbm, 1112, rfl⟩
abbrev main_v476 : Ref sig .tc := ⟨.hbm, 1113, rfl⟩
abbrev main_call64_c : Ref sig .tc := ⟨.hbm, 1114, rfl⟩
abbrev main_call64_v0 : Ref sig .tc := ⟨.hbm, 1115, rfl⟩
abbrev main_call64_v1 : Ref sig .tc := ⟨.hbm, 1116, rfl⟩
abbrev main_call64_c_0 : Ref sig .tc := ⟨.hbm, 1117, rfl⟩
abbrev main_call64_v2 : Ref sig .tc := ⟨.hbm, 1118, rfl⟩
abbrev main_call64_v3 : Ref sig .tc := ⟨.hbm, 1119, rfl⟩
abbrev main_call64_v4 : Ref sig .tc := ⟨.hbm, 1120, rfl⟩
abbrev main_call64_v5 : Ref sig .tc := ⟨.hbm, 1121, rfl⟩
abbrev main_call64_c_1 : Ref sig .tc := ⟨.hbm, 1122, rfl⟩
abbrev main_call64_c_2 : Ref sig .tc := ⟨.hbm, 1123, rfl⟩
abbrev main_call64_v6 : Ref sig .tc := ⟨.hbm, 1124, rfl⟩
abbrev main_call64_v7 : Ref sig .tc := ⟨.hbm, 1125, rfl⟩
abbrev main_call64_v8 : Ref sig .tc := ⟨.hbm, 1126, rfl⟩
abbrev main_call64_v9 : Ref sig .tc := ⟨.hbm, 1127, rfl⟩
abbrev main_call64_v10 : Ref sig .tc := ⟨.hbm, 1128, rfl⟩
abbrev main_call64_v11 : Ref sig .tc := ⟨.hbm, 1129, rfl⟩
abbrev main_call64_c_3 : Ref sig .tc := ⟨.hbm, 1130, rfl⟩
abbrev main_call64_v12 : Ref sig .tc := ⟨.hbm, 1131, rfl⟩
abbrev main_call64_v13 : Ref sig .tc := ⟨.hbm, 1132, rfl⟩
abbrev main_call64_v14 : Ref sig .tc := ⟨.hbm, 1133, rfl⟩
abbrev main_call64_cst : Ref sig .tc := ⟨.hbm, 1134, rfl⟩
abbrev main_call64_v15 : Ref sig .tc := ⟨.hbm, 1135, rfl⟩
abbrev main_v477 : Ref sig .tc := ⟨.hbm, 1136, rfl⟩
abbrev main_v478 : Ref sig .tc := ⟨.hbm, 1137, rfl⟩
abbrev main_v479 : Ref sig .tc := ⟨.hbm, 1138, rfl⟩
abbrev main_v480 : Ref sig .tc := ⟨.hbm, 1139, rfl⟩
abbrev main_cst_133 : Ref sig .tc := ⟨.hbm, 1140, rfl⟩
abbrev main_v481 : Ref sig .tc := ⟨.hbm, 1141, rfl⟩
abbrev main_v482 : Ref sig .tc := ⟨.hbm, 1142, rfl⟩
abbrev main_cst_134 : Ref sig .tc := ⟨.hbm, 1143, rfl⟩
abbrev main_call65_v0 : Ref sig .tc := ⟨.hbm, 1144, rfl⟩
abbrev main_call65_v1 : Ref sig .tc := ⟨.hbm, 1145, rfl⟩
abbrev main_v483 : Ref sig .tc := ⟨.hbm, 1146, rfl⟩
abbrev main_v484 : Ref sig .tc := ⟨.hbm, 1147, rfl⟩
abbrev main_c_135 : Ref sig .tc := ⟨.hbm, 1148, rfl⟩
abbrev main_v485 : Ref sig .tc := ⟨.hbm, 1149, rfl⟩
abbrev main_v486 : Ref sig .tc := ⟨.hbm, 1150, rfl⟩
abbrev main_c_136 : Ref sig .tc := ⟨.hbm, 1151, rfl⟩
abbrev main_call66_v0 : Ref sig .tc := ⟨.hbm, 1152, rfl⟩
abbrev main_call66_v1 : Ref sig .tc := ⟨.hbm, 1153, rfl⟩
abbrev main_v487 : Ref sig .tc := ⟨.hbm, 1154, rfl⟩
abbrev main_c_137 : Ref sig .tc := ⟨.hbm, 1155, rfl⟩
abbrev main_v488 : Ref sig .tc := ⟨.hbm, 1156, rfl⟩
abbrev main_v489 : Ref sig .tc := ⟨.hbm, 1157, rfl⟩
abbrev main_v490 : Ref sig .tc := ⟨.hbm, 1158, rfl⟩
abbrev main_v491 : Ref sig .tc := ⟨.hbm, 1159, rfl⟩
abbrev main_call67_c : Ref sig .tc := ⟨.hbm, 1160, rfl⟩
abbrev main_call67_v0 : Ref sig .tc := ⟨.hbm, 1161, rfl⟩
abbrev main_call67_v1 : Ref sig .tc := ⟨.hbm, 1162, rfl⟩
abbrev main_call67_c_0 : Ref sig .tc := ⟨.hbm, 1163, rfl⟩
abbrev main_call67_v2 : Ref sig .tc := ⟨.hbm, 1164, rfl⟩
abbrev main_call67_v3 : Ref sig .tc := ⟨.hbm, 1165, rfl⟩
abbrev main_call67_v4 : Ref sig .tc := ⟨.hbm, 1166, rfl⟩
abbrev main_call67_v5 : Ref sig .tc := ⟨.hbm, 1167, rfl⟩
abbrev main_call67_c_1 : Ref sig .tc := ⟨.hbm, 1168, rfl⟩
abbrev main_call67_c_2 : Ref sig .tc := ⟨.hbm, 1169, rfl⟩
abbrev main_call67_v6 : Ref sig .tc := ⟨.hbm, 1170, rfl⟩
abbrev main_call67_v7 : Ref sig .tc := ⟨.hbm, 1171, rfl⟩
abbrev main_call67_v8 : Ref sig .tc := ⟨.hbm, 1172, rfl⟩
abbrev main_call67_v9 : Ref sig .tc := ⟨.hbm, 1173, rfl⟩
abbrev main_call67_v10 : Ref sig .tc := ⟨.hbm, 1174, rfl⟩
abbrev main_call67_v11 : Ref sig .tc := ⟨.hbm, 1175, rfl⟩
abbrev main_call67_c_3 : Ref sig .tc := ⟨.hbm, 1176, rfl⟩
abbrev main_call67_v12 : Ref sig .tc := ⟨.hbm, 1177, rfl⟩
abbrev main_call67_v13 : Ref sig .tc := ⟨.hbm, 1178, rfl⟩
abbrev main_call67_v14 : Ref sig .tc := ⟨.hbm, 1179, rfl⟩
abbrev main_call67_cst : Ref sig .tc := ⟨.hbm, 1180, rfl⟩
abbrev main_call67_v15 : Ref sig .tc := ⟨.hbm, 1181, rfl⟩
abbrev main_v492 : Ref sig .tc := ⟨.hbm, 1182, rfl⟩
abbrev main_v493 : Ref sig .tc := ⟨.hbm, 1183, rfl⟩
abbrev main_v494 : Ref sig .tc := ⟨.hbm, 1184, rfl⟩
abbrev main_v495 : Ref sig .tc := ⟨.hbm, 1185, rfl⟩
abbrev main_v496 : Ref sig .tc := ⟨.hbm, 1186, rfl⟩
abbrev main_cst_138 : Ref sig .tc := ⟨.hbm, 1187, rfl⟩
abbrev main_v497 : Ref sig .tc := ⟨.hbm, 1188, rfl⟩
abbrev main_v498 : Ref sig .tc := ⟨.hbm, 1189, rfl⟩
abbrev main_cst_139 : Ref sig .tc := ⟨.hbm, 1190, rfl⟩
abbrev main_call68_v0 : Ref sig .tc := ⟨.hbm, 1191, rfl⟩
abbrev main_call68_v1 : Ref sig .tc := ⟨.hbm, 1192, rfl⟩
abbrev main_v499 : Ref sig .tc := ⟨.hbm, 1193, rfl⟩
abbrev main_v500 : Ref sig .tc := ⟨.hbm, 1194, rfl⟩
abbrev main_c_140 : Ref sig .tc := ⟨.hbm, 1195, rfl⟩
abbrev main_v501 : Ref sig .tc := ⟨.hbm, 1196, rfl⟩
abbrev main_v502 : Ref sig .tc := ⟨.hbm, 1197, rfl⟩
abbrev main_c_141 : Ref sig .tc := ⟨.hbm, 1198, rfl⟩
abbrev main_call69_v0 : Ref sig .tc := ⟨.hbm, 1199, rfl⟩
abbrev main_call69_v1 : Ref sig .tc := ⟨.hbm, 1200, rfl⟩
abbrev main_v503 : Ref sig .tc := ⟨.hbm, 1201, rfl⟩
abbrev main_c_142 : Ref sig .tc := ⟨.hbm, 1202, rfl⟩
abbrev main_v504 : Ref sig .tc := ⟨.hbm, 1203, rfl⟩
abbrev main_v505 : Ref sig .tc := ⟨.hbm, 1204, rfl⟩
abbrev main_v506 : Ref sig .tc := ⟨.hbm, 1205, rfl⟩
abbrev main_v507 : Ref sig .tc := ⟨.hbm, 1206, rfl⟩
abbrev main_call70_c : Ref sig .tc := ⟨.hbm, 1207, rfl⟩
abbrev main_call70_v0 : Ref sig .tc := ⟨.hbm, 1208, rfl⟩
abbrev main_call70_v1 : Ref sig .tc := ⟨.hbm, 1209, rfl⟩
abbrev main_call70_c_0 : Ref sig .tc := ⟨.hbm, 1210, rfl⟩
abbrev main_call70_v2 : Ref sig .tc := ⟨.hbm, 1211, rfl⟩
abbrev main_call70_v3 : Ref sig .tc := ⟨.hbm, 1212, rfl⟩
abbrev main_call70_v4 : Ref sig .tc := ⟨.hbm, 1213, rfl⟩
abbrev main_call70_v5 : Ref sig .tc := ⟨.hbm, 1214, rfl⟩
abbrev main_call70_c_1 : Ref sig .tc := ⟨.hbm, 1215, rfl⟩
abbrev main_call70_c_2 : Ref sig .tc := ⟨.hbm, 1216, rfl⟩
abbrev main_call70_v6 : Ref sig .tc := ⟨.hbm, 1217, rfl⟩
abbrev main_call70_v7 : Ref sig .tc := ⟨.hbm, 1218, rfl⟩
abbrev main_call70_v8 : Ref sig .tc := ⟨.hbm, 1219, rfl⟩
abbrev main_call70_v9 : Ref sig .tc := ⟨.hbm, 1220, rfl⟩
abbrev main_call70_v10 : Ref sig .tc := ⟨.hbm, 1221, rfl⟩
abbrev main_call70_v11 : Ref sig .tc := ⟨.hbm, 1222, rfl⟩
abbrev main_call70_c_3 : Ref sig .tc := ⟨.hbm, 1223, rfl⟩
abbrev main_call70_v12 : Ref sig .tc := ⟨.hbm, 1224, rfl⟩
abbrev main_call70_v13 : Ref sig .tc := ⟨.hbm, 1225, rfl⟩
abbrev main_call70_v14 : Ref sig .tc := ⟨.hbm, 1226, rfl⟩
abbrev main_call70_cst : Ref sig .tc := ⟨.hbm, 1227, rfl⟩
abbrev main_call70_v15 : Ref sig .tc := ⟨.hbm, 1228, rfl⟩
abbrev main_v508 : Ref sig .tc := ⟨.hbm, 1229, rfl⟩
abbrev main_v509 : Ref sig .tc := ⟨.hbm, 1230, rfl⟩
abbrev main_v510 : Ref sig .tc := ⟨.hbm, 1231, rfl⟩
abbrev main_v511 : Ref sig .tc := ⟨.hbm, 1232, rfl⟩
abbrev main_v512 : Ref sig .tc := ⟨.hbm, 1233, rfl⟩
abbrev main_v513 : Ref sig .tc := ⟨.hbm, 1234, rfl⟩
abbrev main_v514 : Ref sig .tc := ⟨.hbm, 1235, rfl⟩
abbrev main_cst_143 : Ref sig .tc := ⟨.hbm, 1236, rfl⟩
abbrev main_v515 : Ref sig .tc := ⟨.hbm, 1237, rfl⟩
abbrev main_v516 : Ref sig .tc := ⟨.hbm, 1238, rfl⟩
abbrev main_cst_144 : Ref sig .tc := ⟨.hbm, 1239, rfl⟩
abbrev main_v517 : Ref sig .tc := ⟨.hbm, 1240, rfl⟩
abbrev main_v518 : Ref sig .tc := ⟨.hbm, 1241, rfl⟩
abbrev main_v519 : Ref sig .tc := ⟨.hbm, 1242, rfl⟩
abbrev main_v520 : Ref sig .tc := ⟨.hbm, 1243, rfl⟩
abbrev main_v521 : Ref sig .tc := ⟨.hbm, 1244, rfl⟩
abbrev main_cst_145 : Ref sig .tc := ⟨.hbm, 1245, rfl⟩
abbrev main_v522 : Ref sig .tc := ⟨.hbm, 1246, rfl⟩
abbrev main_v523 : Ref sig .tc := ⟨.hbm, 1247, rfl⟩
abbrev main_cst_146 : Ref sig .tc := ⟨.hbm, 1248, rfl⟩
abbrev main_v524 : Ref sig .tc := ⟨.hbm, 1249, rfl⟩
abbrev main_v525 : Ref sig .tc := ⟨.hbm, 1250, rfl⟩
abbrev main_v526 : Ref sig .tc := ⟨.hbm, 1251, rfl⟩
abbrev main_v527 : Ref sig .tc := ⟨.hbm, 1252, rfl⟩
abbrev main_cst_147 : Ref sig .tc := ⟨.hbm, 1253, rfl⟩
abbrev main_v528 : Ref sig .tc := ⟨.hbm, 1254, rfl⟩
abbrev main_v529 : Ref sig .tc := ⟨.hbm, 1255, rfl⟩
abbrev main_v530 : Ref sig .tc := ⟨.hbm, 1256, rfl⟩
abbrev main_v531 : Ref sig .tc := ⟨.hbm, 1257, rfl⟩
abbrev main_v532 : Ref sig .tc := ⟨.hbm, 1258, rfl⟩
abbrev main_v533 : Ref sig .tc := ⟨.hbm, 1259, rfl⟩
abbrev main_v534 : Ref sig .tc := ⟨.hbm, 1260, rfl⟩
abbrev main_v535 : Ref sig .tc := ⟨.hbm, 1261, rfl⟩
abbrev main_v536 : Ref sig .tc := ⟨.hbm, 1262, rfl⟩
abbrev main_v537 : Ref sig .tc := ⟨.hbm, 1263, rfl⟩
abbrev main_v538 : Ref sig .tc := ⟨.hbm, 1264, rfl⟩
abbrev main_cst_148 : Ref sig .tc := ⟨.hbm, 1265, rfl⟩
abbrev main_v539 : Ref sig .tc := ⟨.hbm, 1266, rfl⟩
abbrev main_v540 : Ref sig .tc := ⟨.hbm, 1267, rfl⟩
abbrev main_cst_149 : Ref sig .tc := ⟨.hbm, 1268, rfl⟩
abbrev main_v541 : Ref sig .tc := ⟨.hbm, 1269, rfl⟩
abbrev main_v542 : Ref sig .tc := ⟨.hbm, 1270, rfl⟩
abbrev main_v543 : Ref sig .tc := ⟨.hbm, 1271, rfl⟩
abbrev main_v544 : Ref sig .tc := ⟨.hbm, 1272, rfl⟩
abbrev main_v545 : Ref sig .tc := ⟨.hbm, 1273, rfl⟩
abbrev main_cst_150 : Ref sig .tc := ⟨.hbm, 1274, rfl⟩
abbrev main_v546 : Ref sig .tc := ⟨.hbm, 1275, rfl⟩
abbrev main_v547 : Ref sig .tc := ⟨.hbm, 1276, rfl⟩
abbrev main_cst_151 : Ref sig .tc := ⟨.hbm, 1277, rfl⟩
abbrev main_call72_v0 : Ref sig .tc := ⟨.hbm, 1278, rfl⟩
abbrev main_call72_v1 : Ref sig .tc := ⟨.hbm, 1279, rfl⟩
abbrev main_v548 : Ref sig .tc := ⟨.hbm, 1280, rfl⟩
abbrev main_v549 : Ref sig .tc := ⟨.hbm, 1281, rfl⟩
abbrev main_c_152 : Ref sig .tc := ⟨.hbm, 1282, rfl⟩
abbrev main_v550 : Ref sig .tc := ⟨.hbm, 1283, rfl⟩
abbrev main_v551 : Ref sig .tc := ⟨.hbm, 1284, rfl⟩
abbrev main_c_153 : Ref sig .tc := ⟨.hbm, 1285, rfl⟩
abbrev main_call73_v0 : Ref sig .tc := ⟨.hbm, 1286, rfl⟩
abbrev main_call73_v1 : Ref sig .tc := ⟨.hbm, 1287, rfl⟩
abbrev main_v552 : Ref sig .tc := ⟨.hbm, 1288, rfl⟩
abbrev main_c_154 : Ref sig .tc := ⟨.hbm, 1289, rfl⟩
abbrev main_v553 : Ref sig .tc := ⟨.hbm, 1290, rfl⟩
abbrev main_v554 : Ref sig .tc := ⟨.hbm, 1291, rfl⟩
abbrev main_v555 : Ref sig .tc := ⟨.hbm, 1292, rfl⟩
abbrev main_v556 : Ref sig .tc := ⟨.hbm, 1293, rfl⟩
abbrev main_call74_c : Ref sig .tc := ⟨.hbm, 1294, rfl⟩
abbrev main_call74_v0 : Ref sig .tc := ⟨.hbm, 1295, rfl⟩
abbrev main_call74_v1 : Ref sig .tc := ⟨.hbm, 1296, rfl⟩
abbrev main_call74_c_0 : Ref sig .tc := ⟨.hbm, 1297, rfl⟩
abbrev main_call74_v2 : Ref sig .tc := ⟨.hbm, 1298, rfl⟩
abbrev main_call74_v3 : Ref sig .tc := ⟨.hbm, 1299, rfl⟩
abbrev main_call74_v4 : Ref sig .tc := ⟨.hbm, 1300, rfl⟩
abbrev main_call74_v5 : Ref sig .tc := ⟨.hbm, 1301, rfl⟩
abbrev main_call74_c_1 : Ref sig .tc := ⟨.hbm, 1302, rfl⟩
abbrev main_call74_c_2 : Ref sig .tc := ⟨.hbm, 1303, rfl⟩
abbrev main_call74_v6 : Ref sig .tc := ⟨.hbm, 1304, rfl⟩
abbrev main_call74_v7 : Ref sig .tc := ⟨.hbm, 1305, rfl⟩
abbrev main_call74_v8 : Ref sig .tc := ⟨.hbm, 1306, rfl⟩
abbrev main_call74_v9 : Ref sig .tc := ⟨.hbm, 1307, rfl⟩
abbrev main_call74_v10 : Ref sig .tc := ⟨.hbm, 1308, rfl⟩
abbrev main_call74_v11 : Ref sig .tc := ⟨.hbm, 1309, rfl⟩
abbrev main_call74_c_3 : Ref sig .tc := ⟨.hbm, 1310, rfl⟩
abbrev main_call74_v12 : Ref sig .tc := ⟨.hbm, 1311, rfl⟩
abbrev main_call74_v13 : Ref sig .tc := ⟨.hbm, 1312, rfl⟩
abbrev main_call74_v14 : Ref sig .tc := ⟨.hbm, 1313, rfl⟩
abbrev main_call74_cst : Ref sig .tc := ⟨.hbm, 1314, rfl⟩
abbrev main_call74_v15 : Ref sig .tc := ⟨.hbm, 1315, rfl⟩
abbrev main_v557 : Ref sig .tc := ⟨.hbm, 1316, rfl⟩
abbrev main_v558 : Ref sig .tc := ⟨.hbm, 1317, rfl⟩
abbrev main_v559 : Ref sig .tc := ⟨.hbm, 1318, rfl⟩
abbrev main_v560 : Ref sig .tc := ⟨.hbm, 1319, rfl⟩
abbrev main_cst_155 : Ref sig .tc := ⟨.hbm, 1320, rfl⟩
abbrev main_v561 : Ref sig .tc := ⟨.hbm, 1321, rfl⟩
abbrev main_v562 : Ref sig .tc := ⟨.hbm, 1322, rfl⟩
abbrev main_cst_156 : Ref sig .tc := ⟨.hbm, 1323, rfl⟩
abbrev main_call75_v0 : Ref sig .tc := ⟨.hbm, 1324, rfl⟩
abbrev main_call75_v1 : Ref sig .tc := ⟨.hbm, 1325, rfl⟩
abbrev main_v563 : Ref sig .tc := ⟨.hbm, 1326, rfl⟩
abbrev main_v564 : Ref sig .tc := ⟨.hbm, 1327, rfl⟩
abbrev main_c_157 : Ref sig .tc := ⟨.hbm, 1328, rfl⟩
abbrev main_v565 : Ref sig .tc := ⟨.hbm, 1329, rfl⟩
abbrev main_v566 : Ref sig .tc := ⟨.hbm, 1330, rfl⟩
abbrev main_c_158 : Ref sig .tc := ⟨.hbm, 1331, rfl⟩
abbrev main_call76_v0 : Ref sig .tc := ⟨.hbm, 1332, rfl⟩
abbrev main_call76_v1 : Ref sig .tc := ⟨.hbm, 1333, rfl⟩
abbrev main_v567 : Ref sig .tc := ⟨.hbm, 1334, rfl⟩
abbrev main_c_159 : Ref sig .tc := ⟨.hbm, 1335, rfl⟩
abbrev main_v568 : Ref sig .tc := ⟨.hbm, 1336, rfl⟩
abbrev main_v569 : Ref sig .tc := ⟨.hbm, 1337, rfl⟩
abbrev main_v570 : Ref sig .tc := ⟨.hbm, 1338, rfl⟩
abbrev main_v571 : Ref sig .tc := ⟨.hbm, 1339, rfl⟩
abbrev main_call77_c : Ref sig .tc := ⟨.hbm, 1340, rfl⟩
abbrev main_call77_v0 : Ref sig .tc := ⟨.hbm, 1341, rfl⟩
abbrev main_call77_v1 : Ref sig .tc := ⟨.hbm, 1342, rfl⟩
abbrev main_call77_c_0 : Ref sig .tc := ⟨.hbm, 1343, rfl⟩
abbrev main_call77_v2 : Ref sig .tc := ⟨.hbm, 1344, rfl⟩
abbrev main_call77_v3 : Ref sig .tc := ⟨.hbm, 1345, rfl⟩
abbrev main_call77_v4 : Ref sig .tc := ⟨.hbm, 1346, rfl⟩
abbrev main_call77_v5 : Ref sig .tc := ⟨.hbm, 1347, rfl⟩
abbrev main_call77_c_1 : Ref sig .tc := ⟨.hbm, 1348, rfl⟩
abbrev main_call77_c_2 : Ref sig .tc := ⟨.hbm, 1349, rfl⟩
abbrev main_call77_v6 : Ref sig .tc := ⟨.hbm, 1350, rfl⟩
abbrev main_call77_v7 : Ref sig .tc := ⟨.hbm, 1351, rfl⟩
abbrev main_call77_v8 : Ref sig .tc := ⟨.hbm, 1352, rfl⟩
abbrev main_call77_v9 : Ref sig .tc := ⟨.hbm, 1353, rfl⟩
abbrev main_call77_v10 : Ref sig .tc := ⟨.hbm, 1354, rfl⟩
abbrev main_call77_v11 : Ref sig .tc := ⟨.hbm, 1355, rfl⟩
abbrev main_call77_c_3 : Ref sig .tc := ⟨.hbm, 1356, rfl⟩
abbrev main_call77_v12 : Ref sig .tc := ⟨.hbm, 1357, rfl⟩
abbrev main_call77_v13 : Ref sig .tc := ⟨.hbm, 1358, rfl⟩
abbrev main_call77_v14 : Ref sig .tc := ⟨.hbm, 1359, rfl⟩
abbrev main_call77_cst : Ref sig .tc := ⟨.hbm, 1360, rfl⟩
abbrev main_call77_v15 : Ref sig .tc := ⟨.hbm, 1361, rfl⟩
abbrev main_v572 : Ref sig .tc := ⟨.hbm, 1362, rfl⟩
abbrev main_v573 : Ref sig .tc := ⟨.hbm, 1363, rfl⟩
abbrev main_v574 : Ref sig .tc := ⟨.hbm, 1364, rfl⟩
abbrev main_v575 : Ref sig .tc := ⟨.hbm, 1365, rfl⟩
abbrev main_v576 : Ref sig .tc := ⟨.hbm, 1366, rfl⟩
abbrev main_cst_160 : Ref sig .tc := ⟨.hbm, 1367, rfl⟩
abbrev main_v577 : Ref sig .tc := ⟨.hbm, 1368, rfl⟩
abbrev main_v578 : Ref sig .tc := ⟨.hbm, 1369, rfl⟩
abbrev main_cst_161 : Ref sig .tc := ⟨.hbm, 1370, rfl⟩
abbrev main_call78_v0 : Ref sig .tc := ⟨.hbm, 1371, rfl⟩
abbrev main_call78_v1 : Ref sig .tc := ⟨.hbm, 1372, rfl⟩
abbrev main_v579 : Ref sig .tc := ⟨.hbm, 1373, rfl⟩
abbrev main_v580 : Ref sig .tc := ⟨.hbm, 1374, rfl⟩
abbrev main_c_162 : Ref sig .tc := ⟨.hbm, 1375, rfl⟩
abbrev main_v581 : Ref sig .tc := ⟨.hbm, 1376, rfl⟩
abbrev main_v582 : Ref sig .tc := ⟨.hbm, 1377, rfl⟩
abbrev main_c_163 : Ref sig .tc := ⟨.hbm, 1378, rfl⟩
abbrev main_call79_v0 : Ref sig .tc := ⟨.hbm, 1379, rfl⟩
abbrev main_call79_v1 : Ref sig .tc := ⟨.hbm, 1380, rfl⟩
abbrev main_v583 : Ref sig .tc := ⟨.hbm, 1381, rfl⟩
abbrev main_c_164 : Ref sig .tc := ⟨.hbm, 1382, rfl⟩
abbrev main_v584 : Ref sig .tc := ⟨.hbm, 1383, rfl⟩
abbrev main_v585 : Ref sig .tc := ⟨.hbm, 1384, rfl⟩
abbrev main_v586 : Ref sig .tc := ⟨.hbm, 1385, rfl⟩
abbrev main_v587 : Ref sig .tc := ⟨.hbm, 1386, rfl⟩
abbrev main_call80_c : Ref sig .tc := ⟨.hbm, 1387, rfl⟩
abbrev main_call80_v0 : Ref sig .tc := ⟨.hbm, 1388, rfl⟩
abbrev main_call80_v1 : Ref sig .tc := ⟨.hbm, 1389, rfl⟩
abbrev main_call80_c_0 : Ref sig .tc := ⟨.hbm, 1390, rfl⟩
abbrev main_call80_v2 : Ref sig .tc := ⟨.hbm, 1391, rfl⟩
abbrev main_call80_v3 : Ref sig .tc := ⟨.hbm, 1392, rfl⟩
abbrev main_call80_v4 : Ref sig .tc := ⟨.hbm, 1393, rfl⟩
abbrev main_call80_v5 : Ref sig .tc := ⟨.hbm, 1394, rfl⟩
abbrev main_call80_c_1 : Ref sig .tc := ⟨.hbm, 1395, rfl⟩
abbrev main_call80_c_2 : Ref sig .tc := ⟨.hbm, 1396, rfl⟩
abbrev main_call80_v6 : Ref sig .tc := ⟨.hbm, 1397, rfl⟩
abbrev main_call80_v7 : Ref sig .tc := ⟨.hbm, 1398, rfl⟩
abbrev main_call80_v8 : Ref sig .tc := ⟨.hbm, 1399, rfl⟩
abbrev main_call80_v9 : Ref sig .tc := ⟨.hbm, 1400, rfl⟩
abbrev main_call80_v10 : Ref sig .tc := ⟨.hbm, 1401, rfl⟩
abbrev main_call80_v11 : Ref sig .tc := ⟨.hbm, 1402, rfl⟩
abbrev main_call80_c_3 : Ref sig .tc := ⟨.hbm, 1403, rfl⟩
abbrev main_call80_v12 : Ref sig .tc := ⟨.hbm, 1404, rfl⟩
abbrev main_call80_v13 : Ref sig .tc := ⟨.hbm, 1405, rfl⟩
abbrev main_call80_v14 : Ref sig .tc := ⟨.hbm, 1406, rfl⟩
abbrev main_call80_cst : Ref sig .tc := ⟨.hbm, 1407, rfl⟩
abbrev main_call80_v15 : Ref sig .tc := ⟨.hbm, 1408, rfl⟩
abbrev main_v588 : Ref sig .tc := ⟨.hbm, 1409, rfl⟩
abbrev main_v589 : Ref sig .tc := ⟨.hbm, 1410, rfl⟩
abbrev main_v590 : Ref sig .tc := ⟨.hbm, 1411, rfl⟩
abbrev main_v591 : Ref sig .tc := ⟨.hbm, 1412, rfl⟩
abbrev main_v592 : Ref sig .tc := ⟨.hbm, 1413, rfl⟩
abbrev main_cst_165 : Ref sig .tc := ⟨.hbm, 1414, rfl⟩
abbrev main_v593 : Ref sig .tc := ⟨.hbm, 1415, rfl⟩
abbrev main_v594 : Ref sig .tc := ⟨.hbm, 1416, rfl⟩
abbrev main_cst_166 : Ref sig .tc := ⟨.hbm, 1417, rfl⟩
abbrev main_call81_v0 : Ref sig .tc := ⟨.hbm, 1418, rfl⟩
abbrev main_call81_v1 : Ref sig .tc := ⟨.hbm, 1419, rfl⟩
abbrev main_v595 : Ref sig .tc := ⟨.hbm, 1420, rfl⟩
abbrev main_v596 : Ref sig .tc := ⟨.hbm, 1421, rfl⟩
abbrev main_c_167 : Ref sig .tc := ⟨.hbm, 1422, rfl⟩
abbrev main_v597 : Ref sig .tc := ⟨.hbm, 1423, rfl⟩
abbrev main_v598 : Ref sig .tc := ⟨.hbm, 1424, rfl⟩
abbrev main_c_168 : Ref sig .tc := ⟨.hbm, 1425, rfl⟩
abbrev main_call82_v0 : Ref sig .tc := ⟨.hbm, 1426, rfl⟩
abbrev main_call82_v1 : Ref sig .tc := ⟨.hbm, 1427, rfl⟩
abbrev main_v599 : Ref sig .tc := ⟨.hbm, 1428, rfl⟩
abbrev main_c_169 : Ref sig .tc := ⟨.hbm, 1429, rfl⟩
abbrev main_v600 : Ref sig .tc := ⟨.hbm, 1430, rfl⟩
abbrev main_v601 : Ref sig .tc := ⟨.hbm, 1431, rfl⟩
abbrev main_v602 : Ref sig .tc := ⟨.hbm, 1432, rfl⟩
abbrev main_v603 : Ref sig .tc := ⟨.hbm, 1433, rfl⟩
abbrev main_call83_c : Ref sig .tc := ⟨.hbm, 1434, rfl⟩
abbrev main_call83_v0 : Ref sig .tc := ⟨.hbm, 1435, rfl⟩
abbrev main_call83_v1 : Ref sig .tc := ⟨.hbm, 1436, rfl⟩
abbrev main_call83_c_0 : Ref sig .tc := ⟨.hbm, 1437, rfl⟩
abbrev main_call83_v2 : Ref sig .tc := ⟨.hbm, 1438, rfl⟩
abbrev main_call83_v3 : Ref sig .tc := ⟨.hbm, 1439, rfl⟩
abbrev main_call83_v4 : Ref sig .tc := ⟨.hbm, 1440, rfl⟩
abbrev main_call83_v5 : Ref sig .tc := ⟨.hbm, 1441, rfl⟩
abbrev main_call83_c_1 : Ref sig .tc := ⟨.hbm, 1442, rfl⟩
abbrev main_call83_c_2 : Ref sig .tc := ⟨.hbm, 1443, rfl⟩
abbrev main_call83_v6 : Ref sig .tc := ⟨.hbm, 1444, rfl⟩
abbrev main_call83_v7 : Ref sig .tc := ⟨.hbm, 1445, rfl⟩
abbrev main_call83_v8 : Ref sig .tc := ⟨.hbm, 1446, rfl⟩
abbrev main_call83_v9 : Ref sig .tc := ⟨.hbm, 1447, rfl⟩
abbrev main_call83_v10 : Ref sig .tc := ⟨.hbm, 1448, rfl⟩
abbrev main_call83_v11 : Ref sig .tc := ⟨.hbm, 1449, rfl⟩
abbrev main_call83_c_3 : Ref sig .tc := ⟨.hbm, 1450, rfl⟩
abbrev main_call83_v12 : Ref sig .tc := ⟨.hbm, 1451, rfl⟩
abbrev main_call83_v13 : Ref sig .tc := ⟨.hbm, 1452, rfl⟩
abbrev main_call83_v14 : Ref sig .tc := ⟨.hbm, 1453, rfl⟩
abbrev main_call83_cst : Ref sig .tc := ⟨.hbm, 1454, rfl⟩
abbrev main_call83_v15 : Ref sig .tc := ⟨.hbm, 1455, rfl⟩
abbrev main_v604 : Ref sig .tc := ⟨.hbm, 1456, rfl⟩
abbrev main_v605 : Ref sig .tc := ⟨.hbm, 1457, rfl⟩
abbrev main_v606 : Ref sig .tc := ⟨.hbm, 1458, rfl⟩
abbrev main_v607 : Ref sig .tc := ⟨.hbm, 1459, rfl⟩
abbrev main_v608 : Ref sig .tc := ⟨.hbm, 1460, rfl⟩
abbrev main_v609 : Ref sig .tc := ⟨.hbm, 1461, rfl⟩
abbrev main_v610 : Ref sig .tc := ⟨.hbm, 1462, rfl⟩
abbrev main_cst_170 : Ref sig .tc := ⟨.hbm, 1463, rfl⟩
abbrev main_v611 : Ref sig .tc := ⟨.hbm, 1464, rfl⟩
abbrev main_v612 : Ref sig .tc := ⟨.hbm, 1465, rfl⟩
abbrev main_cst_171 : Ref sig .tc := ⟨.hbm, 1466, rfl⟩
abbrev main_v613 : Ref sig .tc := ⟨.hbm, 1467, rfl⟩
abbrev main_v614 : Ref sig .tc := ⟨.hbm, 1468, rfl⟩
abbrev main_v615 : Ref sig .tc := ⟨.hbm, 1469, rfl⟩
abbrev main_v616 : Ref sig .tc := ⟨.hbm, 1470, rfl⟩
abbrev main_v617 : Ref sig .tc := ⟨.hbm, 1471, rfl⟩
abbrev main_cst_172 : Ref sig .tc := ⟨.hbm, 1472, rfl⟩
abbrev main_v618 : Ref sig .tc := ⟨.hbm, 1473, rfl⟩
abbrev main_v619 : Ref sig .tc := ⟨.hbm, 1474, rfl⟩
abbrev main_cst_173 : Ref sig .tc := ⟨.hbm, 1475, rfl⟩
abbrev main_v620 : Ref sig .tc := ⟨.hbm, 1476, rfl⟩
abbrev main_v621 : Ref sig .tc := ⟨.hbm, 1477, rfl⟩
abbrev main_v622 : Ref sig .tc := ⟨.hbm, 1478, rfl⟩
abbrev main_v623 : Ref sig .tc := ⟨.hbm, 1479, rfl⟩
abbrev main_cst_174 : Ref sig .tc := ⟨.hbm, 1480, rfl⟩
abbrev main_v624 : Ref sig .tc := ⟨.hbm, 1481, rfl⟩
abbrev main_v625 : Ref sig .tc := ⟨.hbm, 1482, rfl⟩
abbrev main_v626 : Ref sig .tc := ⟨.hbm, 1483, rfl⟩
abbrev main_v627 : Ref sig .tc := ⟨.hbm, 1484, rfl⟩
abbrev main_v628 : Ref sig .tc := ⟨.hbm, 1485, rfl⟩
abbrev main_v629 : Ref sig .tc := ⟨.hbm, 1486, rfl⟩
abbrev main_v630 : Ref sig .tc := ⟨.hbm, 1487, rfl⟩
abbrev main_v631 : Ref sig .tc := ⟨.hbm, 1488, rfl⟩
abbrev main_v632 : Ref sig .tc := ⟨.hbm, 1489, rfl⟩
abbrev main_v633 : Ref sig .tc := ⟨.hbm, 1490, rfl⟩
abbrev main_v634 : Ref sig .tc := ⟨.hbm, 1491, rfl⟩
abbrev main_cst_175 : Ref sig .tc := ⟨.hbm, 1492, rfl⟩
abbrev main_v635 : Ref sig .tc := ⟨.hbm, 1493, rfl⟩
abbrev main_v636 : Ref sig .tc := ⟨.hbm, 1494, rfl⟩
abbrev main_cst_176 : Ref sig .tc := ⟨.hbm, 1495, rfl⟩
abbrev main_v637 : Ref sig .tc := ⟨.hbm, 1496, rfl⟩
abbrev main_v638 : Ref sig .tc := ⟨.hbm, 1497, rfl⟩
abbrev main_v639 : Ref sig .tc := ⟨.hbm, 1498, rfl⟩
abbrev main_v640 : Ref sig .tc := ⟨.hbm, 1499, rfl⟩
abbrev main_v641 : Ref sig .tc := ⟨.hbm, 1500, rfl⟩
abbrev main_cst_177 : Ref sig .tc := ⟨.hbm, 1501, rfl⟩
abbrev main_v642 : Ref sig .tc := ⟨.hbm, 1502, rfl⟩
abbrev main_v643 : Ref sig .tc := ⟨.hbm, 1503, rfl⟩
abbrev main_cst_178 : Ref sig .tc := ⟨.hbm, 1504, rfl⟩
abbrev main_call85_v0 : Ref sig .tc := ⟨.hbm, 1505, rfl⟩
abbrev main_call85_v1 : Ref sig .tc := ⟨.hbm, 1506, rfl⟩
abbrev main_v644 : Ref sig .tc := ⟨.hbm, 1507, rfl⟩
abbrev main_v645 : Ref sig .tc := ⟨.hbm, 1508, rfl⟩
abbrev main_c_179 : Ref sig .tc := ⟨.hbm, 1509, rfl⟩
abbrev main_v646 : Ref sig .tc := ⟨.hbm, 1510, rfl⟩
abbrev main_v647 : Ref sig .tc := ⟨.hbm, 1511, rfl⟩
abbrev main_c_180 : Ref sig .tc := ⟨.hbm, 1512, rfl⟩
abbrev main_call86_v0 : Ref sig .tc := ⟨.hbm, 1513, rfl⟩
abbrev main_call86_v1 : Ref sig .tc := ⟨.hbm, 1514, rfl⟩
abbrev main_v648 : Ref sig .tc := ⟨.hbm, 1515, rfl⟩
abbrev main_c_181 : Ref sig .tc := ⟨.hbm, 1516, rfl⟩
abbrev main_v649 : Ref sig .tc := ⟨.hbm, 1517, rfl⟩
abbrev main_v650 : Ref sig .tc := ⟨.hbm, 1518, rfl⟩
abbrev main_v651 : Ref sig .tc := ⟨.hbm, 1519, rfl⟩
abbrev main_v652 : Ref sig .tc := ⟨.hbm, 1520, rfl⟩
abbrev main_call87_c : Ref sig .tc := ⟨.hbm, 1521, rfl⟩
abbrev main_call87_v0 : Ref sig .tc := ⟨.hbm, 1522, rfl⟩
abbrev main_call87_v1 : Ref sig .tc := ⟨.hbm, 1523, rfl⟩
abbrev main_call87_c_0 : Ref sig .tc := ⟨.hbm, 1524, rfl⟩
abbrev main_call87_v2 : Ref sig .tc := ⟨.hbm, 1525, rfl⟩
abbrev main_call87_v3 : Ref sig .tc := ⟨.hbm, 1526, rfl⟩
abbrev main_call87_v4 : Ref sig .tc := ⟨.hbm, 1527, rfl⟩
abbrev main_call87_v5 : Ref sig .tc := ⟨.hbm, 1528, rfl⟩
abbrev main_call87_c_1 : Ref sig .tc := ⟨.hbm, 1529, rfl⟩
abbrev main_call87_c_2 : Ref sig .tc := ⟨.hbm, 1530, rfl⟩
abbrev main_call87_v6 : Ref sig .tc := ⟨.hbm, 1531, rfl⟩
abbrev main_call87_v7 : Ref sig .tc := ⟨.hbm, 1532, rfl⟩
abbrev main_call87_v8 : Ref sig .tc := ⟨.hbm, 1533, rfl⟩
abbrev main_call87_v9 : Ref sig .tc := ⟨.hbm, 1534, rfl⟩
abbrev main_call87_v10 : Ref sig .tc := ⟨.hbm, 1535, rfl⟩
abbrev main_call87_v11 : Ref sig .tc := ⟨.hbm, 1536, rfl⟩
abbrev main_call87_c_3 : Ref sig .tc := ⟨.hbm, 1537, rfl⟩
abbrev main_call87_v12 : Ref sig .tc := ⟨.hbm, 1538, rfl⟩
abbrev main_call87_v13 : Ref sig .tc := ⟨.hbm, 1539, rfl⟩
abbrev main_call87_v14 : Ref sig .tc := ⟨.hbm, 1540, rfl⟩
abbrev main_call87_cst : Ref sig .tc := ⟨.hbm, 1541, rfl⟩
abbrev main_call87_v15 : Ref sig .tc := ⟨.hbm, 1542, rfl⟩
abbrev main_v653 : Ref sig .tc := ⟨.hbm, 1543, rfl⟩
abbrev main_v654 : Ref sig .tc := ⟨.hbm, 1544, rfl⟩
abbrev main_v655 : Ref sig .tc := ⟨.hbm, 1545, rfl⟩
abbrev main_v656 : Ref sig .tc := ⟨.hbm, 1546, rfl⟩
abbrev main_cst_182 : Ref sig .tc := ⟨.hbm, 1547, rfl⟩
abbrev main_v657 : Ref sig .tc := ⟨.hbm, 1548, rfl⟩
abbrev main_v658 : Ref sig .tc := ⟨.hbm, 1549, rfl⟩
abbrev main_cst_183 : Ref sig .tc := ⟨.hbm, 1550, rfl⟩
abbrev main_call88_v0 : Ref sig .tc := ⟨.hbm, 1551, rfl⟩
abbrev main_call88_v1 : Ref sig .tc := ⟨.hbm, 1552, rfl⟩
abbrev main_v659 : Ref sig .tc := ⟨.hbm, 1553, rfl⟩
abbrev main_v660 : Ref sig .tc := ⟨.hbm, 1554, rfl⟩
abbrev main_c_184 : Ref sig .tc := ⟨.hbm, 1555, rfl⟩
abbrev main_v661 : Ref sig .tc := ⟨.hbm, 1556, rfl⟩
abbrev main_v662 : Ref sig .tc := ⟨.hbm, 1557, rfl⟩
abbrev main_c_185 : Ref sig .tc := ⟨.hbm, 1558, rfl⟩
abbrev main_call89_v0 : Ref sig .tc := ⟨.hbm, 1559, rfl⟩
abbrev main_call89_v1 : Ref sig .tc := ⟨.hbm, 1560, rfl⟩
abbrev main_v663 : Ref sig .tc := ⟨.hbm, 1561, rfl⟩
abbrev main_c_186 : Ref sig .tc := ⟨.hbm, 1562, rfl⟩
abbrev main_v664 : Ref sig .tc := ⟨.hbm, 1563, rfl⟩
abbrev main_v665 : Ref sig .tc := ⟨.hbm, 1564, rfl⟩
abbrev main_v666 : Ref sig .tc := ⟨.hbm, 1565, rfl⟩
abbrev main_v667 : Ref sig .tc := ⟨.hbm, 1566, rfl⟩
abbrev main_call90_c : Ref sig .tc := ⟨.hbm, 1567, rfl⟩
abbrev main_call90_v0 : Ref sig .tc := ⟨.hbm, 1568, rfl⟩
abbrev main_call90_v1 : Ref sig .tc := ⟨.hbm, 1569, rfl⟩
abbrev main_call90_c_0 : Ref sig .tc := ⟨.hbm, 1570, rfl⟩
abbrev main_call90_v2 : Ref sig .tc := ⟨.hbm, 1571, rfl⟩
abbrev main_call90_v3 : Ref sig .tc := ⟨.hbm, 1572, rfl⟩
abbrev main_call90_v4 : Ref sig .tc := ⟨.hbm, 1573, rfl⟩
abbrev main_call90_v5 : Ref sig .tc := ⟨.hbm, 1574, rfl⟩
abbrev main_call90_c_1 : Ref sig .tc := ⟨.hbm, 1575, rfl⟩
abbrev main_call90_c_2 : Ref sig .tc := ⟨.hbm, 1576, rfl⟩
abbrev main_call90_v6 : Ref sig .tc := ⟨.hbm, 1577, rfl⟩
abbrev main_call90_v7 : Ref sig .tc := ⟨.hbm, 1578, rfl⟩
abbrev main_call90_v8 : Ref sig .tc := ⟨.hbm, 1579, rfl⟩
abbrev main_call90_v9 : Ref sig .tc := ⟨.hbm, 1580, rfl⟩
abbrev main_call90_v10 : Ref sig .tc := ⟨.hbm, 1581, rfl⟩
abbrev main_call90_v11 : Ref sig .tc := ⟨.hbm, 1582, rfl⟩
abbrev main_call90_c_3 : Ref sig .tc := ⟨.hbm, 1583, rfl⟩
abbrev main_call90_v12 : Ref sig .tc := ⟨.hbm, 1584, rfl⟩
abbrev main_call90_v13 : Ref sig .tc := ⟨.hbm, 1585, rfl⟩
abbrev main_call90_v14 : Ref sig .tc := ⟨.hbm, 1586, rfl⟩
abbrev main_call90_cst : Ref sig .tc := ⟨.hbm, 1587, rfl⟩
abbrev main_call90_v15 : Ref sig .tc := ⟨.hbm, 1588, rfl⟩
abbrev main_v668 : Ref sig .tc := ⟨.hbm, 1589, rfl⟩
abbrev main_v669 : Ref sig .tc := ⟨.hbm, 1590, rfl⟩
abbrev main_v670 : Ref sig .tc := ⟨.hbm, 1591, rfl⟩
abbrev main_v671 : Ref sig .tc := ⟨.hbm, 1592, rfl⟩
abbrev main_v672 : Ref sig .tc := ⟨.hbm, 1593, rfl⟩
abbrev main_cst_187 : Ref sig .tc := ⟨.hbm, 1594, rfl⟩
abbrev main_v673 : Ref sig .tc := ⟨.hbm, 1595, rfl⟩
abbrev main_v674 : Ref sig .tc := ⟨.hbm, 1596, rfl⟩
abbrev main_cst_188 : Ref sig .tc := ⟨.hbm, 1597, rfl⟩
abbrev main_call91_v0 : Ref sig .tc := ⟨.hbm, 1598, rfl⟩
abbrev main_call91_v1 : Ref sig .tc := ⟨.hbm, 1599, rfl⟩
abbrev main_v675 : Ref sig .tc := ⟨.hbm, 1600, rfl⟩
abbrev main_v676 : Ref sig .tc := ⟨.hbm, 1601, rfl⟩
abbrev main_c_189 : Ref sig .tc := ⟨.hbm, 1602, rfl⟩
abbrev main_v677 : Ref sig .tc := ⟨.hbm, 1603, rfl⟩
abbrev main_v678 : Ref sig .tc := ⟨.hbm, 1604, rfl⟩
abbrev main_c_190 : Ref sig .tc := ⟨.hbm, 1605, rfl⟩
abbrev main_call92_v0 : Ref sig .tc := ⟨.hbm, 1606, rfl⟩
abbrev main_call92_v1 : Ref sig .tc := ⟨.hbm, 1607, rfl⟩
abbrev main_v679 : Ref sig .tc := ⟨.hbm, 1608, rfl⟩
abbrev main_c_191 : Ref sig .tc := ⟨.hbm, 1609, rfl⟩
abbrev main_v680 : Ref sig .tc := ⟨.hbm, 1610, rfl⟩
abbrev main_v681 : Ref sig .tc := ⟨.hbm, 1611, rfl⟩
abbrev main_v682 : Ref sig .tc := ⟨.hbm, 1612, rfl⟩
abbrev main_v683 : Ref sig .tc := ⟨.hbm, 1613, rfl⟩
abbrev main_call93_c : Ref sig .tc := ⟨.hbm, 1614, rfl⟩
abbrev main_call93_v0 : Ref sig .tc := ⟨.hbm, 1615, rfl⟩
abbrev main_call93_v1 : Ref sig .tc := ⟨.hbm, 1616, rfl⟩
abbrev main_call93_c_0 : Ref sig .tc := ⟨.hbm, 1617, rfl⟩
abbrev main_call93_v2 : Ref sig .tc := ⟨.hbm, 1618, rfl⟩
abbrev main_call93_v3 : Ref sig .tc := ⟨.hbm, 1619, rfl⟩
abbrev main_call93_v4 : Ref sig .tc := ⟨.hbm, 1620, rfl⟩
abbrev main_call93_v5 : Ref sig .tc := ⟨.hbm, 1621, rfl⟩
abbrev main_call93_c_1 : Ref sig .tc := ⟨.hbm, 1622, rfl⟩
abbrev main_call93_c_2 : Ref sig .tc := ⟨.hbm, 1623, rfl⟩
abbrev main_call93_v6 : Ref sig .tc := ⟨.hbm, 1624, rfl⟩
abbrev main_call93_v7 : Ref sig .tc := ⟨.hbm, 1625, rfl⟩
abbrev main_call93_v8 : Ref sig .tc := ⟨.hbm, 1626, rfl⟩
abbrev main_call93_v9 : Ref sig .tc := ⟨.hbm, 1627, rfl⟩
abbrev main_call93_v10 : Ref sig .tc := ⟨.hbm, 1628, rfl⟩
abbrev main_call93_v11 : Ref sig .tc := ⟨.hbm, 1629, rfl⟩
abbrev main_call93_c_3 : Ref sig .tc := ⟨.hbm, 1630, rfl⟩
abbrev main_call93_v12 : Ref sig .tc := ⟨.hbm, 1631, rfl⟩
abbrev main_call93_v13 : Ref sig .tc := ⟨.hbm, 1632, rfl⟩
abbrev main_call93_v14 : Ref sig .tc := ⟨.hbm, 1633, rfl⟩
abbrev main_call93_cst : Ref sig .tc := ⟨.hbm, 1634, rfl⟩
abbrev main_call93_v15 : Ref sig .tc := ⟨.hbm, 1635, rfl⟩
abbrev main_v684 : Ref sig .tc := ⟨.hbm, 1636, rfl⟩
abbrev main_v685 : Ref sig .tc := ⟨.hbm, 1637, rfl⟩
abbrev main_v686 : Ref sig .tc := ⟨.hbm, 1638, rfl⟩
abbrev main_v687 : Ref sig .tc := ⟨.hbm, 1639, rfl⟩
abbrev main_v688 : Ref sig .tc := ⟨.hbm, 1640, rfl⟩
abbrev main_cst_192 : Ref sig .tc := ⟨.hbm, 1641, rfl⟩
abbrev main_v689 : Ref sig .tc := ⟨.hbm, 1642, rfl⟩
abbrev main_v690 : Ref sig .tc := ⟨.hbm, 1643, rfl⟩
abbrev main_cst_193 : Ref sig .tc := ⟨.hbm, 1644, rfl⟩
abbrev main_call94_v0 : Ref sig .tc := ⟨.hbm, 1645, rfl⟩
abbrev main_call94_v1 : Ref sig .tc := ⟨.hbm, 1646, rfl⟩
abbrev main_v691 : Ref sig .tc := ⟨.hbm, 1647, rfl⟩
abbrev main_v692 : Ref sig .tc := ⟨.hbm, 1648, rfl⟩
abbrev main_c_194 : Ref sig .tc := ⟨.hbm, 1649, rfl⟩
abbrev main_v693 : Ref sig .tc := ⟨.hbm, 1650, rfl⟩
abbrev main_v694 : Ref sig .tc := ⟨.hbm, 1651, rfl⟩
abbrev main_c_195 : Ref sig .tc := ⟨.hbm, 1652, rfl⟩
abbrev main_call95_v0 : Ref sig .tc := ⟨.hbm, 1653, rfl⟩
abbrev main_call95_v1 : Ref sig .tc := ⟨.hbm, 1654, rfl⟩
abbrev main_v695 : Ref sig .tc := ⟨.hbm, 1655, rfl⟩
abbrev main_c_196 : Ref sig .tc := ⟨.hbm, 1656, rfl⟩
abbrev main_v696 : Ref sig .tc := ⟨.hbm, 1657, rfl⟩
abbrev main_v697 : Ref sig .tc := ⟨.hbm, 1658, rfl⟩
abbrev main_v698 : Ref sig .tc := ⟨.hbm, 1659, rfl⟩
abbrev main_v699 : Ref sig .tc := ⟨.hbm, 1660, rfl⟩
abbrev main_call96_c : Ref sig .tc := ⟨.hbm, 1661, rfl⟩
abbrev main_call96_v0 : Ref sig .tc := ⟨.hbm, 1662, rfl⟩
abbrev main_call96_v1 : Ref sig .tc := ⟨.hbm, 1663, rfl⟩
abbrev main_call96_c_0 : Ref sig .tc := ⟨.hbm, 1664, rfl⟩
abbrev main_call96_v2 : Ref sig .tc := ⟨.hbm, 1665, rfl⟩
abbrev main_call96_v3 : Ref sig .tc := ⟨.hbm, 1666, rfl⟩
abbrev main_call96_v4 : Ref sig .tc := ⟨.hbm, 1667, rfl⟩
abbrev main_call96_v5 : Ref sig .tc := ⟨.hbm, 1668, rfl⟩
abbrev main_call96_c_1 : Ref sig .tc := ⟨.hbm, 1669, rfl⟩
abbrev main_call96_c_2 : Ref sig .tc := ⟨.hbm, 1670, rfl⟩
abbrev main_call96_v6 : Ref sig .tc := ⟨.hbm, 1671, rfl⟩
abbrev main_call96_v7 : Ref sig .tc := ⟨.hbm, 1672, rfl⟩
abbrev main_call96_v8 : Ref sig .tc := ⟨.hbm, 1673, rfl⟩
abbrev main_call96_v9 : Ref sig .tc := ⟨.hbm, 1674, rfl⟩
abbrev main_call96_v10 : Ref sig .tc := ⟨.hbm, 1675, rfl⟩
abbrev main_call96_v11 : Ref sig .tc := ⟨.hbm, 1676, rfl⟩
abbrev main_call96_c_3 : Ref sig .tc := ⟨.hbm, 1677, rfl⟩
abbrev main_call96_v12 : Ref sig .tc := ⟨.hbm, 1678, rfl⟩
abbrev main_call96_v13 : Ref sig .tc := ⟨.hbm, 1679, rfl⟩
abbrev main_call96_v14 : Ref sig .tc := ⟨.hbm, 1680, rfl⟩
abbrev main_call96_cst : Ref sig .tc := ⟨.hbm, 1681, rfl⟩
abbrev main_call96_v15 : Ref sig .tc := ⟨.hbm, 1682, rfl⟩
abbrev main_v700 : Ref sig .tc := ⟨.hbm, 1683, rfl⟩
abbrev main_v701 : Ref sig .tc := ⟨.hbm, 1684, rfl⟩
abbrev main_v702 : Ref sig .tc := ⟨.hbm, 1685, rfl⟩
abbrev main_v703 : Ref sig .tc := ⟨.hbm, 1686, rfl⟩
abbrev main_v704 : Ref sig .tc := ⟨.hbm, 1687, rfl⟩
abbrev main_v705 : Ref sig .tc := ⟨.hbm, 1688, rfl⟩
abbrev main_v706 : Ref sig .tc := ⟨.hbm, 1689, rfl⟩
abbrev main_cst_197 : Ref sig .tc := ⟨.hbm, 1690, rfl⟩
abbrev main_v707 : Ref sig .tc := ⟨.hbm, 1691, rfl⟩
abbrev main_v708 : Ref sig .tc := ⟨.hbm, 1692, rfl⟩
abbrev main_cst_198 : Ref sig .tc := ⟨.hbm, 1693, rfl⟩
abbrev main_v709 : Ref sig .tc := ⟨.hbm, 1694, rfl⟩
abbrev main_v710 : Ref sig .tc := ⟨.hbm, 1695, rfl⟩
abbrev main_v711 : Ref sig .tc := ⟨.hbm, 1696, rfl⟩
abbrev main_v712 : Ref sig .tc := ⟨.hbm, 1697, rfl⟩
abbrev main_v713 : Ref sig .tc := ⟨.hbm, 1698, rfl⟩
abbrev main_cst_199 : Ref sig .tc := ⟨.hbm, 1699, rfl⟩
abbrev main_v714 : Ref sig .tc := ⟨.hbm, 1700, rfl⟩
abbrev main_v715 : Ref sig .tc := ⟨.hbm, 1701, rfl⟩
abbrev main_cst_200 : Ref sig .tc := ⟨.hbm, 1702, rfl⟩
abbrev main_v716 : Ref sig .tc := ⟨.hbm, 1703, rfl⟩
abbrev main_v717 : Ref sig .tc := ⟨.hbm, 1704, rfl⟩
abbrev main_v718 : Ref sig .tc := ⟨.hbm, 1705, rfl⟩
abbrev main_v719 : Ref sig .tc := ⟨.hbm, 1706, rfl⟩
abbrev main_cst_201 : Ref sig .tc := ⟨.hbm, 1707, rfl⟩
abbrev main_v720 : Ref sig .tc := ⟨.hbm, 1708, rfl⟩
abbrev main_v721 : Ref sig .tc := ⟨.hbm, 1709, rfl⟩
abbrev main_v722 : Ref sig .tc := ⟨.hbm, 1710, rfl⟩
abbrev main_v723 : Ref sig .tc := ⟨.hbm, 1711, rfl⟩
abbrev main_v724 : Ref sig .tc := ⟨.hbm, 1712, rfl⟩
abbrev main_v725 : Ref sig .tc := ⟨.hbm, 1713, rfl⟩
abbrev main_v726 : Ref sig .tc := ⟨.hbm, 1714, rfl⟩
abbrev main_v727 : Ref sig .tc := ⟨.hbm, 1715, rfl⟩
abbrev main_v728 : Ref sig .tc := ⟨.hbm, 1716, rfl⟩
abbrev main_v729 : Ref sig .tc := ⟨.hbm, 1717, rfl⟩
abbrev main_v730 : Ref sig .tc := ⟨.hbm, 1718, rfl⟩
abbrev main_cst_202 : Ref sig .tc := ⟨.hbm, 1719, rfl⟩
abbrev main_v731 : Ref sig .tc := ⟨.hbm, 1720, rfl⟩
abbrev main_v732 : Ref sig .tc := ⟨.hbm, 1721, rfl⟩
abbrev main_cst_203 : Ref sig .tc := ⟨.hbm, 1722, rfl⟩
abbrev main_v733 : Ref sig .tc := ⟨.hbm, 1723, rfl⟩
abbrev main_v734 : Ref sig .tc := ⟨.hbm, 1724, rfl⟩
abbrev main_v735 : Ref sig .tc := ⟨.hbm, 1725, rfl⟩
abbrev main_v736 : Ref sig .tc := ⟨.hbm, 1726, rfl⟩
abbrev main_v737 : Ref sig .tc := ⟨.hbm, 1727, rfl⟩
abbrev main_cst_204 : Ref sig .tc := ⟨.hbm, 1728, rfl⟩
abbrev main_v738 : Ref sig .tc := ⟨.hbm, 1729, rfl⟩
abbrev main_v739 : Ref sig .tc := ⟨.hbm, 1730, rfl⟩
abbrev main_cst_205 : Ref sig .tc := ⟨.hbm, 1731, rfl⟩
abbrev main_call98_v0 : Ref sig .tc := ⟨.hbm, 1732, rfl⟩
abbrev main_call98_v1 : Ref sig .tc := ⟨.hbm, 1733, rfl⟩
abbrev main_v740 : Ref sig .tc := ⟨.hbm, 1734, rfl⟩
abbrev main_v741 : Ref sig .tc := ⟨.hbm, 1735, rfl⟩
abbrev main_c_206 : Ref sig .tc := ⟨.hbm, 1736, rfl⟩
abbrev main_v742 : Ref sig .tc := ⟨.hbm, 1737, rfl⟩
abbrev main_v743 : Ref sig .tc := ⟨.hbm, 1738, rfl⟩
abbrev main_c_207 : Ref sig .tc := ⟨.hbm, 1739, rfl⟩
abbrev main_call99_v0 : Ref sig .tc := ⟨.hbm, 1740, rfl⟩
abbrev main_call99_v1 : Ref sig .tc := ⟨.hbm, 1741, rfl⟩
abbrev main_v744 : Ref sig .tc := ⟨.hbm, 1742, rfl⟩
abbrev main_c_208 : Ref sig .tc := ⟨.hbm, 1743, rfl⟩
abbrev main_v745 : Ref sig .tc := ⟨.hbm, 1744, rfl⟩
abbrev main_v746 : Ref sig .tc := ⟨.hbm, 1745, rfl⟩
abbrev main_v747 : Ref sig .tc := ⟨.hbm, 1746, rfl⟩
abbrev main_v748 : Ref sig .tc := ⟨.hbm, 1747, rfl⟩
abbrev main_call100_c : Ref sig .tc := ⟨.hbm, 1748, rfl⟩
abbrev main_call100_v0 : Ref sig .tc := ⟨.hbm, 1749, rfl⟩
abbrev main_call100_v1 : Ref sig .tc := ⟨.hbm, 1750, rfl⟩
abbrev main_call100_c_0 : Ref sig .tc := ⟨.hbm, 1751, rfl⟩
abbrev main_call100_v2 : Ref sig .tc := ⟨.hbm, 1752, rfl⟩
abbrev main_call100_v3 : Ref sig .tc := ⟨.hbm, 1753, rfl⟩
abbrev main_call100_v4 : Ref sig .tc := ⟨.hbm, 1754, rfl⟩
abbrev main_call100_v5 : Ref sig .tc := ⟨.hbm, 1755, rfl⟩
abbrev main_call100_c_1 : Ref sig .tc := ⟨.hbm, 1756, rfl⟩
abbrev main_call100_c_2 : Ref sig .tc := ⟨.hbm, 1757, rfl⟩
abbrev main_call100_v6 : Ref sig .tc := ⟨.hbm, 1758, rfl⟩
abbrev main_call100_v7 : Ref sig .tc := ⟨.hbm, 1759, rfl⟩
abbrev main_call100_v8 : Ref sig .tc := ⟨.hbm, 1760, rfl⟩
abbrev main_call100_v9 : Ref sig .tc := ⟨.hbm, 1761, rfl⟩
abbrev main_call100_v10 : Ref sig .tc := ⟨.hbm, 1762, rfl⟩
abbrev main_call100_v11 : Ref sig .tc := ⟨.hbm, 1763, rfl⟩
abbrev main_call100_c_3 : Ref sig .tc := ⟨.hbm, 1764, rfl⟩
abbrev main_call100_v12 : Ref sig .tc := ⟨.hbm, 1765, rfl⟩
abbrev main_call100_v13 : Ref sig .tc := ⟨.hbm, 1766, rfl⟩
abbrev main_call100_v14 : Ref sig .tc := ⟨.hbm, 1767, rfl⟩
abbrev main_call100_cst : Ref sig .tc := ⟨.hbm, 1768, rfl⟩
abbrev main_call100_v15 : Ref sig .tc := ⟨.hbm, 1769, rfl⟩
abbrev main_v749 : Ref sig .tc := ⟨.hbm, 1770, rfl⟩
abbrev main_v750 : Ref sig .tc := ⟨.hbm, 1771, rfl⟩
abbrev main_v751 : Ref sig .tc := ⟨.hbm, 1772, rfl⟩
abbrev main_v752 : Ref sig .tc := ⟨.hbm, 1773, rfl⟩
abbrev main_cst_209 : Ref sig .tc := ⟨.hbm, 1774, rfl⟩
abbrev main_v753 : Ref sig .tc := ⟨.hbm, 1775, rfl⟩
abbrev main_v754 : Ref sig .tc := ⟨.hbm, 1776, rfl⟩
abbrev main_cst_210 : Ref sig .tc := ⟨.hbm, 1777, rfl⟩
abbrev main_call101_v0 : Ref sig .tc := ⟨.hbm, 1778, rfl⟩
abbrev main_call101_v1 : Ref sig .tc := ⟨.hbm, 1779, rfl⟩
abbrev main_v755 : Ref sig .tc := ⟨.hbm, 1780, rfl⟩
abbrev main_v756 : Ref sig .tc := ⟨.hbm, 1781, rfl⟩
abbrev main_c_211 : Ref sig .tc := ⟨.hbm, 1782, rfl⟩
abbrev main_v757 : Ref sig .tc := ⟨.hbm, 1783, rfl⟩
abbrev main_v758 : Ref sig .tc := ⟨.hbm, 1784, rfl⟩
abbrev main_c_212 : Ref sig .tc := ⟨.hbm, 1785, rfl⟩
abbrev main_call102_v0 : Ref sig .tc := ⟨.hbm, 1786, rfl⟩
abbrev main_call102_v1 : Ref sig .tc := ⟨.hbm, 1787, rfl⟩
abbrev main_v759 : Ref sig .tc := ⟨.hbm, 1788, rfl⟩
abbrev main_c_213 : Ref sig .tc := ⟨.hbm, 1789, rfl⟩
abbrev main_v760 : Ref sig .tc := ⟨.hbm, 1790, rfl⟩
abbrev main_v761 : Ref sig .tc := ⟨.hbm, 1791, rfl⟩
abbrev main_v762 : Ref sig .tc := ⟨.hbm, 1792, rfl⟩
abbrev main_v763 : Ref sig .tc := ⟨.hbm, 1793, rfl⟩
abbrev main_call103_c : Ref sig .tc := ⟨.hbm, 1794, rfl⟩
abbrev main_call103_v0 : Ref sig .tc := ⟨.hbm, 1795, rfl⟩
abbrev main_call103_v1 : Ref sig .tc := ⟨.hbm, 1796, rfl⟩
abbrev main_call103_c_0 : Ref sig .tc := ⟨.hbm, 1797, rfl⟩
abbrev main_call103_v2 : Ref sig .tc := ⟨.hbm, 1798, rfl⟩
abbrev main_call103_v3 : Ref sig .tc := ⟨.hbm, 1799, rfl⟩
abbrev main_call103_v4 : Ref sig .tc := ⟨.hbm, 1800, rfl⟩
abbrev main_call103_v5 : Ref sig .tc := ⟨.hbm, 1801, rfl⟩
abbrev main_call103_c_1 : Ref sig .tc := ⟨.hbm, 1802, rfl⟩
abbrev main_call103_c_2 : Ref sig .tc := ⟨.hbm, 1803, rfl⟩
abbrev main_call103_v6 : Ref sig .tc := ⟨.hbm, 1804, rfl⟩
abbrev main_call103_v7 : Ref sig .tc := ⟨.hbm, 1805, rfl⟩
abbrev main_call103_v8 : Ref sig .tc := ⟨.hbm, 1806, rfl⟩
abbrev main_call103_v9 : Ref sig .tc := ⟨.hbm, 1807, rfl⟩
abbrev main_call103_v10 : Ref sig .tc := ⟨.hbm, 1808, rfl⟩
abbrev main_call103_v11 : Ref sig .tc := ⟨.hbm, 1809, rfl⟩
abbrev main_call103_c_3 : Ref sig .tc := ⟨.hbm, 1810, rfl⟩
abbrev main_call103_v12 : Ref sig .tc := ⟨.hbm, 1811, rfl⟩
abbrev main_call103_v13 : Ref sig .tc := ⟨.hbm, 1812, rfl⟩
abbrev main_call103_v14 : Ref sig .tc := ⟨.hbm, 1813, rfl⟩
abbrev main_call103_cst : Ref sig .tc := ⟨.hbm, 1814, rfl⟩
abbrev main_call103_v15 : Ref sig .tc := ⟨.hbm, 1815, rfl⟩
abbrev main_v764 : Ref sig .tc := ⟨.hbm, 1816, rfl⟩
abbrev main_v765 : Ref sig .tc := ⟨.hbm, 1817, rfl⟩
abbrev main_v766 : Ref sig .tc := ⟨.hbm, 1818, rfl⟩
abbrev main_v767 : Ref sig .tc := ⟨.hbm, 1819, rfl⟩
abbrev main_v768 : Ref sig .tc := ⟨.hbm, 1820, rfl⟩
abbrev main_cst_214 : Ref sig .tc := ⟨.hbm, 1821, rfl⟩
abbrev main_v769 : Ref sig .tc := ⟨.hbm, 1822, rfl⟩
abbrev main_v770 : Ref sig .tc := ⟨.hbm, 1823, rfl⟩
abbrev main_cst_215 : Ref sig .tc := ⟨.hbm, 1824, rfl⟩
abbrev main_call104_v0 : Ref sig .tc := ⟨.hbm, 1825, rfl⟩
abbrev main_call104_v1 : Ref sig .tc := ⟨.hbm, 1826, rfl⟩
abbrev main_v771 : Ref sig .tc := ⟨.hbm, 1827, rfl⟩
abbrev main_v772 : Ref sig .tc := ⟨.hbm, 1828, rfl⟩
abbrev main_c_216 : Ref sig .tc := ⟨.hbm, 1829, rfl⟩
abbrev main_v773 : Ref sig .tc := ⟨.hbm, 1830, rfl⟩
abbrev main_v774 : Ref sig .tc := ⟨.hbm, 1831, rfl⟩
abbrev main_c_217 : Ref sig .tc := ⟨.hbm, 1832, rfl⟩
abbrev main_call105_v0 : Ref sig .tc := ⟨.hbm, 1833, rfl⟩
abbrev main_call105_v1 : Ref sig .tc := ⟨.hbm, 1834, rfl⟩
abbrev main_v775 : Ref sig .tc := ⟨.hbm, 1835, rfl⟩
abbrev main_c_218 : Ref sig .tc := ⟨.hbm, 1836, rfl⟩
abbrev main_v776 : Ref sig .tc := ⟨.hbm, 1837, rfl⟩
abbrev main_v777 : Ref sig .tc := ⟨.hbm, 1838, rfl⟩
abbrev main_v778 : Ref sig .tc := ⟨.hbm, 1839, rfl⟩
abbrev main_v779 : Ref sig .tc := ⟨.hbm, 1840, rfl⟩
abbrev main_call106_c : Ref sig .tc := ⟨.hbm, 1841, rfl⟩
abbrev main_call106_v0 : Ref sig .tc := ⟨.hbm, 1842, rfl⟩
abbrev main_call106_v1 : Ref sig .tc := ⟨.hbm, 1843, rfl⟩
abbrev main_call106_c_0 : Ref sig .tc := ⟨.hbm, 1844, rfl⟩
abbrev main_call106_v2 : Ref sig .tc := ⟨.hbm, 1845, rfl⟩
abbrev main_call106_v3 : Ref sig .tc := ⟨.hbm, 1846, rfl⟩
abbrev main_call106_v4 : Ref sig .tc := ⟨.hbm, 1847, rfl⟩
abbrev main_call106_v5 : Ref sig .tc := ⟨.hbm, 1848, rfl⟩
abbrev main_call106_c_1 : Ref sig .tc := ⟨.hbm, 1849, rfl⟩
abbrev main_call106_c_2 : Ref sig .tc := ⟨.hbm, 1850, rfl⟩
abbrev main_call106_v6 : Ref sig .tc := ⟨.hbm, 1851, rfl⟩
abbrev main_call106_v7 : Ref sig .tc := ⟨.hbm, 1852, rfl⟩
abbrev main_call106_v8 : Ref sig .tc := ⟨.hbm, 1853, rfl⟩
abbrev main_call106_v9 : Ref sig .tc := ⟨.hbm, 1854, rfl⟩
abbrev main_call106_v10 : Ref sig .tc := ⟨.hbm, 1855, rfl⟩
abbrev main_call106_v11 : Ref sig .tc := ⟨.hbm, 1856, rfl⟩
abbrev main_call106_c_3 : Ref sig .tc := ⟨.hbm, 1857, rfl⟩
abbrev main_call106_v12 : Ref sig .tc := ⟨.hbm, 1858, rfl⟩
abbrev main_call106_v13 : Ref sig .tc := ⟨.hbm, 1859, rfl⟩
abbrev main_call106_v14 : Ref sig .tc := ⟨.hbm, 1860, rfl⟩
abbrev main_call106_cst : Ref sig .tc := ⟨.hbm, 1861, rfl⟩
abbrev main_call106_v15 : Ref sig .tc := ⟨.hbm, 1862, rfl⟩
abbrev main_v780 : Ref sig .tc := ⟨.hbm, 1863, rfl⟩
abbrev main_v781 : Ref sig .tc := ⟨.hbm, 1864, rfl⟩
abbrev main_v782 : Ref sig .tc := ⟨.hbm, 1865, rfl⟩
abbrev main_v783 : Ref sig .tc := ⟨.hbm, 1866, rfl⟩
abbrev main_v784 : Ref sig .tc := ⟨.hbm, 1867, rfl⟩
abbrev main_cst_219 : Ref sig .tc := ⟨.hbm, 1868, rfl⟩
abbrev main_v785 : Ref sig .tc := ⟨.hbm, 1869, rfl⟩
abbrev main_v786 : Ref sig .tc := ⟨.hbm, 1870, rfl⟩
abbrev main_cst_220 : Ref sig .tc := ⟨.hbm, 1871, rfl⟩
abbrev main_call107_v0 : Ref sig .tc := ⟨.hbm, 1872, rfl⟩
abbrev main_call107_v1 : Ref sig .tc := ⟨.hbm, 1873, rfl⟩
abbrev main_v787 : Ref sig .tc := ⟨.hbm, 1874, rfl⟩
abbrev main_v788 : Ref sig .tc := ⟨.hbm, 1875, rfl⟩
abbrev main_c_221 : Ref sig .tc := ⟨.hbm, 1876, rfl⟩
abbrev main_v789 : Ref sig .tc := ⟨.hbm, 1877, rfl⟩
abbrev main_v790 : Ref sig .tc := ⟨.hbm, 1878, rfl⟩
abbrev main_c_222 : Ref sig .tc := ⟨.hbm, 1879, rfl⟩
abbrev main_call108_v0 : Ref sig .tc := ⟨.hbm, 1880, rfl⟩
abbrev main_call108_v1 : Ref sig .tc := ⟨.hbm, 1881, rfl⟩
abbrev main_v791 : Ref sig .tc := ⟨.hbm, 1882, rfl⟩
abbrev main_c_223 : Ref sig .tc := ⟨.hbm, 1883, rfl⟩
abbrev main_v792 : Ref sig .tc := ⟨.hbm, 1884, rfl⟩
abbrev main_v793 : Ref sig .tc := ⟨.hbm, 1885, rfl⟩
abbrev main_v794 : Ref sig .tc := ⟨.hbm, 1886, rfl⟩
abbrev main_v795 : Ref sig .tc := ⟨.hbm, 1887, rfl⟩
abbrev main_call109_c : Ref sig .tc := ⟨.hbm, 1888, rfl⟩
abbrev main_call109_v0 : Ref sig .tc := ⟨.hbm, 1889, rfl⟩
abbrev main_call109_v1 : Ref sig .tc := ⟨.hbm, 1890, rfl⟩
abbrev main_call109_c_0 : Ref sig .tc := ⟨.hbm, 1891, rfl⟩
abbrev main_call109_v2 : Ref sig .tc := ⟨.hbm, 1892, rfl⟩
abbrev main_call109_v3 : Ref sig .tc := ⟨.hbm, 1893, rfl⟩
abbrev main_call109_v4 : Ref sig .tc := ⟨.hbm, 1894, rfl⟩
abbrev main_call109_v5 : Ref sig .tc := ⟨.hbm, 1895, rfl⟩
abbrev main_call109_c_1 : Ref sig .tc := ⟨.hbm, 1896, rfl⟩
abbrev main_call109_c_2 : Ref sig .tc := ⟨.hbm, 1897, rfl⟩
abbrev main_call109_v6 : Ref sig .tc := ⟨.hbm, 1898, rfl⟩
abbrev main_call109_v7 : Ref sig .tc := ⟨.hbm, 1899, rfl⟩
abbrev main_call109_v8 : Ref sig .tc := ⟨.hbm, 1900, rfl⟩
abbrev main_call109_v9 : Ref sig .tc := ⟨.hbm, 1901, rfl⟩
abbrev main_call109_v10 : Ref sig .tc := ⟨.hbm, 1902, rfl⟩
abbrev main_call109_v11 : Ref sig .tc := ⟨.hbm, 1903, rfl⟩
abbrev main_call109_c_3 : Ref sig .tc := ⟨.hbm, 1904, rfl⟩
abbrev main_call109_v12 : Ref sig .tc := ⟨.hbm, 1905, rfl⟩
abbrev main_call109_v13 : Ref sig .tc := ⟨.hbm, 1906, rfl⟩
abbrev main_call109_v14 : Ref sig .tc := ⟨.hbm, 1907, rfl⟩
abbrev main_call109_cst : Ref sig .tc := ⟨.hbm, 1908, rfl⟩
abbrev main_call109_v15 : Ref sig .tc := ⟨.hbm, 1909, rfl⟩
abbrev main_v796 : Ref sig .tc := ⟨.hbm, 1910, rfl⟩
abbrev main_v797 : Ref sig .tc := ⟨.hbm, 1911, rfl⟩
abbrev main_v798 : Ref sig .tc := ⟨.hbm, 1912, rfl⟩
abbrev main_v799 : Ref sig .tc := ⟨.hbm, 1913, rfl⟩
abbrev main_v800 : Ref sig .tc := ⟨.hbm, 1914, rfl⟩
abbrev main_cst_224 : Ref sig .tc := ⟨.hbm, 1915, rfl⟩
abbrev main_v801 : Ref sig .tc := ⟨.hbm, 1916, rfl⟩
abbrev main_v802 : Ref sig .tc := ⟨.hbm, 1917, rfl⟩
abbrev main_cst_225 : Ref sig .tc := ⟨.hbm, 1918, rfl⟩
abbrev main_call110_v0 : Ref sig .tc := ⟨.hbm, 1919, rfl⟩
abbrev main_call110_v1 : Ref sig .tc := ⟨.hbm, 1920, rfl⟩
abbrev main_v803 : Ref sig .tc := ⟨.hbm, 1921, rfl⟩
abbrev main_v804 : Ref sig .tc := ⟨.hbm, 1922, rfl⟩
abbrev main_c_226 : Ref sig .tc := ⟨.hbm, 1923, rfl⟩
abbrev main_v805 : Ref sig .tc := ⟨.hbm, 1924, rfl⟩
abbrev main_v806 : Ref sig .tc := ⟨.hbm, 1925, rfl⟩
abbrev main_c_227 : Ref sig .tc := ⟨.hbm, 1926, rfl⟩
abbrev main_call111_v0 : Ref sig .tc := ⟨.hbm, 1927, rfl⟩
abbrev main_call111_v1 : Ref sig .tc := ⟨.hbm, 1928, rfl⟩
abbrev main_v807 : Ref sig .tc := ⟨.hbm, 1929, rfl⟩
abbrev main_c_228 : Ref sig .tc := ⟨.hbm, 1930, rfl⟩
abbrev main_v808 : Ref sig .tc := ⟨.hbm, 1931, rfl⟩
abbrev main_v809 : Ref sig .tc := ⟨.hbm, 1932, rfl⟩
abbrev main_v810 : Ref sig .tc := ⟨.hbm, 1933, rfl⟩
abbrev main_v811 : Ref sig .tc := ⟨.hbm, 1934, rfl⟩
abbrev main_call112_c : Ref sig .tc := ⟨.hbm, 1935, rfl⟩
abbrev main_call112_v0 : Ref sig .tc := ⟨.hbm, 1936, rfl⟩
abbrev main_call112_v1 : Ref sig .tc := ⟨.hbm, 1937, rfl⟩
abbrev main_call112_c_0 : Ref sig .tc := ⟨.hbm, 1938, rfl⟩
abbrev main_call112_v2 : Ref sig .tc := ⟨.hbm, 1939, rfl⟩
abbrev main_call112_v3 : Ref sig .tc := ⟨.hbm, 1940, rfl⟩
abbrev main_call112_v4 : Ref sig .tc := ⟨.hbm, 1941, rfl⟩
abbrev main_call112_v5 : Ref sig .tc := ⟨.hbm, 1942, rfl⟩
abbrev main_call112_c_1 : Ref sig .tc := ⟨.hbm, 1943, rfl⟩
abbrev main_call112_c_2 : Ref sig .tc := ⟨.hbm, 1944, rfl⟩
abbrev main_call112_v6 : Ref sig .tc := ⟨.hbm, 1945, rfl⟩
abbrev main_call112_v7 : Ref sig .tc := ⟨.hbm, 1946, rfl⟩
abbrev main_call112_v8 : Ref sig .tc := ⟨.hbm, 1947, rfl⟩
abbrev main_call112_v9 : Ref sig .tc := ⟨.hbm, 1948, rfl⟩
abbrev main_call112_v10 : Ref sig .tc := ⟨.hbm, 1949, rfl⟩
abbrev main_call112_v11 : Ref sig .tc := ⟨.hbm, 1950, rfl⟩
abbrev main_call112_c_3 : Ref sig .tc := ⟨.hbm, 1951, rfl⟩
abbrev main_call112_v12 : Ref sig .tc := ⟨.hbm, 1952, rfl⟩
abbrev main_call112_v13 : Ref sig .tc := ⟨.hbm, 1953, rfl⟩
abbrev main_call112_v14 : Ref sig .tc := ⟨.hbm, 1954, rfl⟩
abbrev main_call112_cst : Ref sig .tc := ⟨.hbm, 1955, rfl⟩
abbrev main_call112_v15 : Ref sig .tc := ⟨.hbm, 1956, rfl⟩
abbrev main_v812 : Ref sig .tc := ⟨.hbm, 1957, rfl⟩
abbrev main_v813 : Ref sig .tc := ⟨.hbm, 1958, rfl⟩
abbrev main_v814 : Ref sig .tc := ⟨.hbm, 1959, rfl⟩
abbrev main_v815 : Ref sig .tc := ⟨.hbm, 1960, rfl⟩
abbrev main_v816 : Ref sig .tc := ⟨.hbm, 1961, rfl⟩
abbrev main_cst_229 : Ref sig .tc := ⟨.hbm, 1962, rfl⟩
abbrev main_v817 : Ref sig .tc := ⟨.hbm, 1963, rfl⟩
abbrev main_v818 : Ref sig .tc := ⟨.hbm, 1964, rfl⟩
abbrev main_cst_230 : Ref sig .tc := ⟨.hbm, 1965, rfl⟩
abbrev main_call113_v0 : Ref sig .tc := ⟨.hbm, 1966, rfl⟩
abbrev main_call113_v1 : Ref sig .tc := ⟨.hbm, 1967, rfl⟩
abbrev main_v819 : Ref sig .tc := ⟨.hbm, 1968, rfl⟩
abbrev main_v820 : Ref sig .tc := ⟨.hbm, 1969, rfl⟩
abbrev main_c_231 : Ref sig .tc := ⟨.hbm, 1970, rfl⟩
abbrev main_v821 : Ref sig .tc := ⟨.hbm, 1971, rfl⟩
abbrev main_v822 : Ref sig .tc := ⟨.hbm, 1972, rfl⟩
abbrev main_c_232 : Ref sig .tc := ⟨.hbm, 1973, rfl⟩
abbrev main_call114_v0 : Ref sig .tc := ⟨.hbm, 1974, rfl⟩
abbrev main_call114_v1 : Ref sig .tc := ⟨.hbm, 1975, rfl⟩
abbrev main_v823 : Ref sig .tc := ⟨.hbm, 1976, rfl⟩
abbrev main_c_233 : Ref sig .tc := ⟨.hbm, 1977, rfl⟩
abbrev main_v824 : Ref sig .tc := ⟨.hbm, 1978, rfl⟩
abbrev main_v825 : Ref sig .tc := ⟨.hbm, 1979, rfl⟩
abbrev main_v826 : Ref sig .tc := ⟨.hbm, 1980, rfl⟩
abbrev main_v827 : Ref sig .tc := ⟨.hbm, 1981, rfl⟩
abbrev main_call115_c : Ref sig .tc := ⟨.hbm, 1982, rfl⟩
abbrev main_call115_v0 : Ref sig .tc := ⟨.hbm, 1983, rfl⟩
abbrev main_call115_v1 : Ref sig .tc := ⟨.hbm, 1984, rfl⟩
abbrev main_call115_c_0 : Ref sig .tc := ⟨.hbm, 1985, rfl⟩
abbrev main_call115_v2 : Ref sig .tc := ⟨.hbm, 1986, rfl⟩
abbrev main_call115_v3 : Ref sig .tc := ⟨.hbm, 1987, rfl⟩
abbrev main_call115_v4 : Ref sig .tc := ⟨.hbm, 1988, rfl⟩
abbrev main_call115_v5 : Ref sig .tc := ⟨.hbm, 1989, rfl⟩
abbrev main_call115_c_1 : Ref sig .tc := ⟨.hbm, 1990, rfl⟩
abbrev main_call115_c_2 : Ref sig .tc := ⟨.hbm, 1991, rfl⟩
abbrev main_call115_v6 : Ref sig .tc := ⟨.hbm, 1992, rfl⟩
abbrev main_call115_v7 : Ref sig .tc := ⟨.hbm, 1993, rfl⟩
abbrev main_call115_v8 : Ref sig .tc := ⟨.hbm, 1994, rfl⟩
abbrev main_call115_v9 : Ref sig .tc := ⟨.hbm, 1995, rfl⟩
abbrev main_call115_v10 : Ref sig .tc := ⟨.hbm, 1996, rfl⟩
abbrev main_call115_v11 : Ref sig .tc := ⟨.hbm, 1997, rfl⟩
abbrev main_call115_c_3 : Ref sig .tc := ⟨.hbm, 1998, rfl⟩
abbrev main_call115_v12 : Ref sig .tc := ⟨.hbm, 1999, rfl⟩
abbrev main_call115_v13 : Ref sig .tc := ⟨.hbm, 2000, rfl⟩
abbrev main_call115_v14 : Ref sig .tc := ⟨.hbm, 2001, rfl⟩
abbrev main_call115_cst : Ref sig .tc := ⟨.hbm, 2002, rfl⟩
abbrev main_call115_v15 : Ref sig .tc := ⟨.hbm, 2003, rfl⟩
abbrev main_v828 : Ref sig .tc := ⟨.hbm, 2004, rfl⟩
abbrev main_v829 : Ref sig .tc := ⟨.hbm, 2005, rfl⟩
abbrev main_v830 : Ref sig .tc := ⟨.hbm, 2006, rfl⟩
abbrev main_v831 : Ref sig .tc := ⟨.hbm, 2007, rfl⟩
abbrev main_v832 : Ref sig .tc := ⟨.hbm, 2008, rfl⟩
abbrev main_cst_234 : Ref sig .tc := ⟨.hbm, 2009, rfl⟩
abbrev main_v833 : Ref sig .tc := ⟨.hbm, 2010, rfl⟩
abbrev main_v834 : Ref sig .tc := ⟨.hbm, 2011, rfl⟩
abbrev main_cst_235 : Ref sig .tc := ⟨.hbm, 2012, rfl⟩
abbrev main_call116_v0 : Ref sig .tc := ⟨.hbm, 2013, rfl⟩
abbrev main_call116_v1 : Ref sig .tc := ⟨.hbm, 2014, rfl⟩
abbrev main_v835 : Ref sig .tc := ⟨.hbm, 2015, rfl⟩
abbrev main_v836 : Ref sig .tc := ⟨.hbm, 2016, rfl⟩
abbrev main_c_236 : Ref sig .tc := ⟨.hbm, 2017, rfl⟩
abbrev main_v837 : Ref sig .tc := ⟨.hbm, 2018, rfl⟩
abbrev main_v838 : Ref sig .tc := ⟨.hbm, 2019, rfl⟩
abbrev main_c_237 : Ref sig .tc := ⟨.hbm, 2020, rfl⟩
abbrev main_call117_v0 : Ref sig .tc := ⟨.hbm, 2021, rfl⟩
abbrev main_call117_v1 : Ref sig .tc := ⟨.hbm, 2022, rfl⟩
abbrev main_v839 : Ref sig .tc := ⟨.hbm, 2023, rfl⟩
abbrev main_c_238 : Ref sig .tc := ⟨.hbm, 2024, rfl⟩
abbrev main_v840 : Ref sig .tc := ⟨.hbm, 2025, rfl⟩
abbrev main_v841 : Ref sig .tc := ⟨.hbm, 2026, rfl⟩
abbrev main_v842 : Ref sig .tc := ⟨.hbm, 2027, rfl⟩
abbrev main_v843 : Ref sig .tc := ⟨.hbm, 2028, rfl⟩
abbrev main_call118_c : Ref sig .tc := ⟨.hbm, 2029, rfl⟩
abbrev main_call118_v0 : Ref sig .tc := ⟨.hbm, 2030, rfl⟩
abbrev main_call118_v1 : Ref sig .tc := ⟨.hbm, 2031, rfl⟩
abbrev main_call118_c_0 : Ref sig .tc := ⟨.hbm, 2032, rfl⟩
abbrev main_call118_v2 : Ref sig .tc := ⟨.hbm, 2033, rfl⟩
abbrev main_call118_v3 : Ref sig .tc := ⟨.hbm, 2034, rfl⟩
abbrev main_call118_v4 : Ref sig .tc := ⟨.hbm, 2035, rfl⟩
abbrev main_call118_v5 : Ref sig .tc := ⟨.hbm, 2036, rfl⟩
abbrev main_call118_c_1 : Ref sig .tc := ⟨.hbm, 2037, rfl⟩
abbrev main_call118_c_2 : Ref sig .tc := ⟨.hbm, 2038, rfl⟩
abbrev main_call118_v6 : Ref sig .tc := ⟨.hbm, 2039, rfl⟩
abbrev main_call118_v7 : Ref sig .tc := ⟨.hbm, 2040, rfl⟩
abbrev main_call118_v8 : Ref sig .tc := ⟨.hbm, 2041, rfl⟩
abbrev main_call118_v9 : Ref sig .tc := ⟨.hbm, 2042, rfl⟩
abbrev main_call118_v10 : Ref sig .tc := ⟨.hbm, 2043, rfl⟩
abbrev main_call118_v11 : Ref sig .tc := ⟨.hbm, 2044, rfl⟩
abbrev main_call118_c_3 : Ref sig .tc := ⟨.hbm, 2045, rfl⟩
abbrev main_call118_v12 : Ref sig .tc := ⟨.hbm, 2046, rfl⟩
abbrev main_call118_v13 : Ref sig .tc := ⟨.hbm, 2047, rfl⟩
abbrev main_call118_v14 : Ref sig .tc := ⟨.hbm, 2048, rfl⟩
abbrev main_call118_cst : Ref sig .tc := ⟨.hbm, 2049, rfl⟩
abbrev main_call118_v15 : Ref sig .tc := ⟨.hbm, 2050, rfl⟩
abbrev main_v844 : Ref sig .tc := ⟨.hbm, 2051, rfl⟩
abbrev main_v845 : Ref sig .tc := ⟨.hbm, 2052, rfl⟩
abbrev main_v846 : Ref sig .tc := ⟨.hbm, 2053, rfl⟩
abbrev main_v847 : Ref sig .tc := ⟨.hbm, 2054, rfl⟩
abbrev main_v848 : Ref sig .tc := ⟨.hbm, 2055, rfl⟩
abbrev main_cst_239 : Ref sig .tc := ⟨.hbm, 2056, rfl⟩
abbrev main_v849 : Ref sig .tc := ⟨.hbm, 2057, rfl⟩
abbrev main_v850 : Ref sig .tc := ⟨.hbm, 2058, rfl⟩
abbrev main_cst_240 : Ref sig .tc := ⟨.hbm, 2059, rfl⟩
abbrev main_call119_v0 : Ref sig .tc := ⟨.hbm, 2060, rfl⟩
abbrev main_call119_v1 : Ref sig .tc := ⟨.hbm, 2061, rfl⟩
abbrev main_v851 : Ref sig .tc := ⟨.hbm, 2062, rfl⟩
abbrev main_v852 : Ref sig .tc := ⟨.hbm, 2063, rfl⟩
abbrev main_c_241 : Ref sig .tc := ⟨.hbm, 2064, rfl⟩
abbrev main_v853 : Ref sig .tc := ⟨.hbm, 2065, rfl⟩
abbrev main_v854 : Ref sig .tc := ⟨.hbm, 2066, rfl⟩
abbrev main_c_242 : Ref sig .tc := ⟨.hbm, 2067, rfl⟩
abbrev main_call120_v0 : Ref sig .tc := ⟨.hbm, 2068, rfl⟩
abbrev main_call120_v1 : Ref sig .tc := ⟨.hbm, 2069, rfl⟩
abbrev main_v855 : Ref sig .tc := ⟨.hbm, 2070, rfl⟩
abbrev main_c_243 : Ref sig .tc := ⟨.hbm, 2071, rfl⟩
abbrev main_v856 : Ref sig .tc := ⟨.hbm, 2072, rfl⟩
abbrev main_v857 : Ref sig .tc := ⟨.hbm, 2073, rfl⟩
abbrev main_v858 : Ref sig .tc := ⟨.hbm, 2074, rfl⟩
abbrev main_v859 : Ref sig .tc := ⟨.hbm, 2075, rfl⟩
abbrev main_call121_c : Ref sig .tc := ⟨.hbm, 2076, rfl⟩
abbrev main_call121_v0 : Ref sig .tc := ⟨.hbm, 2077, rfl⟩
abbrev main_call121_v1 : Ref sig .tc := ⟨.hbm, 2078, rfl⟩
abbrev main_call121_c_0 : Ref sig .tc := ⟨.hbm, 2079, rfl⟩
abbrev main_call121_v2 : Ref sig .tc := ⟨.hbm, 2080, rfl⟩
abbrev main_call121_v3 : Ref sig .tc := ⟨.hbm, 2081, rfl⟩
abbrev main_call121_v4 : Ref sig .tc := ⟨.hbm, 2082, rfl⟩
abbrev main_call121_v5 : Ref sig .tc := ⟨.hbm, 2083, rfl⟩
abbrev main_call121_c_1 : Ref sig .tc := ⟨.hbm, 2084, rfl⟩
abbrev main_call121_c_2 : Ref sig .tc := ⟨.hbm, 2085, rfl⟩
abbrev main_call121_v6 : Ref sig .tc := ⟨.hbm, 2086, rfl⟩
abbrev main_call121_v7 : Ref sig .tc := ⟨.hbm, 2087, rfl⟩
abbrev main_call121_v8 : Ref sig .tc := ⟨.hbm, 2088, rfl⟩
abbrev main_call121_v9 : Ref sig .tc := ⟨.hbm, 2089, rfl⟩
abbrev main_call121_v10 : Ref sig .tc := ⟨.hbm, 2090, rfl⟩
abbrev main_call121_v11 : Ref sig .tc := ⟨.hbm, 2091, rfl⟩
abbrev main_call121_c_3 : Ref sig .tc := ⟨.hbm, 2092, rfl⟩
abbrev main_call121_v12 : Ref sig .tc := ⟨.hbm, 2093, rfl⟩
abbrev main_call121_v13 : Ref sig .tc := ⟨.hbm, 2094, rfl⟩
abbrev main_call121_v14 : Ref sig .tc := ⟨.hbm, 2095, rfl⟩
abbrev main_call121_cst : Ref sig .tc := ⟨.hbm, 2096, rfl⟩
abbrev main_call121_v15 : Ref sig .tc := ⟨.hbm, 2097, rfl⟩
abbrev main_v860 : Ref sig .tc := ⟨.hbm, 2098, rfl⟩
abbrev main_v861 : Ref sig .tc := ⟨.hbm, 2099, rfl⟩
abbrev main_v862 : Ref sig .tc := ⟨.hbm, 2100, rfl⟩
abbrev main_v863 : Ref sig .tc := ⟨.hbm, 2101, rfl⟩
abbrev main_v864 : Ref sig .tc := ⟨.hbm, 2102, rfl⟩
abbrev main_cst_244 : Ref sig .tc := ⟨.hbm, 2103, rfl⟩
abbrev main_v865 : Ref sig .tc := ⟨.hbm, 2104, rfl⟩
abbrev main_v866 : Ref sig .tc := ⟨.hbm, 2105, rfl⟩
abbrev main_cst_245 : Ref sig .tc := ⟨.hbm, 2106, rfl⟩
abbrev main_call122_v0 : Ref sig .tc := ⟨.hbm, 2107, rfl⟩
abbrev main_call122_v1 : Ref sig .tc := ⟨.hbm, 2108, rfl⟩
abbrev main_v867 : Ref sig .tc := ⟨.hbm, 2109, rfl⟩
abbrev main_v868 : Ref sig .tc := ⟨.hbm, 2110, rfl⟩
abbrev main_c_246 : Ref sig .tc := ⟨.hbm, 2111, rfl⟩
abbrev main_v869 : Ref sig .tc := ⟨.hbm, 2112, rfl⟩
abbrev main_v870 : Ref sig .tc := ⟨.hbm, 2113, rfl⟩
abbrev main_c_247 : Ref sig .tc := ⟨.hbm, 2114, rfl⟩
abbrev main_call123_v0 : Ref sig .tc := ⟨.hbm, 2115, rfl⟩
abbrev main_call123_v1 : Ref sig .tc := ⟨.hbm, 2116, rfl⟩
abbrev main_v871 : Ref sig .tc := ⟨.hbm, 2117, rfl⟩
abbrev main_c_248 : Ref sig .tc := ⟨.hbm, 2118, rfl⟩
abbrev main_v872 : Ref sig .tc := ⟨.hbm, 2119, rfl⟩
abbrev main_v873 : Ref sig .tc := ⟨.hbm, 2120, rfl⟩
abbrev main_v874 : Ref sig .tc := ⟨.hbm, 2121, rfl⟩
abbrev main_v875 : Ref sig .tc := ⟨.hbm, 2122, rfl⟩
abbrev main_call124_c : Ref sig .tc := ⟨.hbm, 2123, rfl⟩
abbrev main_call124_v0 : Ref sig .tc := ⟨.hbm, 2124, rfl⟩
abbrev main_call124_v1 : Ref sig .tc := ⟨.hbm, 2125, rfl⟩
abbrev main_call124_c_0 : Ref sig .tc := ⟨.hbm, 2126, rfl⟩
abbrev main_call124_v2 : Ref sig .tc := ⟨.hbm, 2127, rfl⟩
abbrev main_call124_v3 : Ref sig .tc := ⟨.hbm, 2128, rfl⟩
abbrev main_call124_v4 : Ref sig .tc := ⟨.hbm, 2129, rfl⟩
abbrev main_call124_v5 : Ref sig .tc := ⟨.hbm, 2130, rfl⟩
abbrev main_call124_c_1 : Ref sig .tc := ⟨.hbm, 2131, rfl⟩
abbrev main_call124_c_2 : Ref sig .tc := ⟨.hbm, 2132, rfl⟩
abbrev main_call124_v6 : Ref sig .tc := ⟨.hbm, 2133, rfl⟩
abbrev main_call124_v7 : Ref sig .tc := ⟨.hbm, 2134, rfl⟩
abbrev main_call124_v8 : Ref sig .tc := ⟨.hbm, 2135, rfl⟩
abbrev main_call124_v9 : Ref sig .tc := ⟨.hbm, 2136, rfl⟩
abbrev main_call124_v10 : Ref sig .tc := ⟨.hbm, 2137, rfl⟩
abbrev main_call124_v11 : Ref sig .tc := ⟨.hbm, 2138, rfl⟩
abbrev main_call124_c_3 : Ref sig .tc := ⟨.hbm, 2139, rfl⟩
abbrev main_call124_v12 : Ref sig .tc := ⟨.hbm, 2140, rfl⟩
abbrev main_call124_v13 : Ref sig .tc := ⟨.hbm, 2141, rfl⟩
abbrev main_call124_v14 : Ref sig .tc := ⟨.hbm, 2142, rfl⟩
abbrev main_call124_cst : Ref sig .tc := ⟨.hbm, 2143, rfl⟩
abbrev main_call124_v15 : Ref sig .tc := ⟨.hbm, 2144, rfl⟩
abbrev main_v876 : Ref sig .tc := ⟨.hbm, 2145, rfl⟩
abbrev main_v877 : Ref sig .tc := ⟨.hbm, 2146, rfl⟩
abbrev main_v878 : Ref sig .tc := ⟨.hbm, 2147, rfl⟩
abbrev main_v879 : Ref sig .tc := ⟨.hbm, 2148, rfl⟩
abbrev main_v880 : Ref sig .tc := ⟨.hbm, 2149, rfl⟩
abbrev main_v881 : Ref sig .tc := ⟨.hbm, 2150, rfl⟩
abbrev main_v882 : Ref sig .tc := ⟨.hbm, 2151, rfl⟩
abbrev main_cst_249 : Ref sig .tc := ⟨.hbm, 2152, rfl⟩
abbrev main_v883 : Ref sig .tc := ⟨.hbm, 2153, rfl⟩
abbrev main_v884 : Ref sig .tc := ⟨.hbm, 2154, rfl⟩
abbrev main_cst_250 : Ref sig .tc := ⟨.hbm, 2155, rfl⟩
abbrev main_v885 : Ref sig .tc := ⟨.hbm, 2156, rfl⟩
abbrev main_v886 : Ref sig .tc := ⟨.hbm, 2157, rfl⟩
abbrev main_v887 : Ref sig .tc := ⟨.hbm, 2158, rfl⟩
abbrev main_v888 : Ref sig .tc := ⟨.hbm, 2159, rfl⟩
abbrev main_v889 : Ref sig .tc := ⟨.hbm, 2160, rfl⟩
abbrev main_cst_251 : Ref sig .tc := ⟨.hbm, 2161, rfl⟩
abbrev main_v890 : Ref sig .tc := ⟨.hbm, 2162, rfl⟩
abbrev main_v891 : Ref sig .tc := ⟨.hbm, 2163, rfl⟩
abbrev main_cst_252 : Ref sig .tc := ⟨.hbm, 2164, rfl⟩
abbrev main_v892 : Ref sig .tc := ⟨.hbm, 2165, rfl⟩
abbrev main_v893 : Ref sig .tc := ⟨.hbm, 2166, rfl⟩
abbrev main_v894 : Ref sig .tc := ⟨.hbm, 2167, rfl⟩
abbrev main_v895 : Ref sig .tc := ⟨.hbm, 2168, rfl⟩
abbrev main_cst_253 : Ref sig .tc := ⟨.hbm, 2169, rfl⟩
abbrev main_v896 : Ref sig .tc := ⟨.hbm, 2170, rfl⟩
abbrev main_v897 : Ref sig .tc := ⟨.hbm, 2171, rfl⟩
abbrev main_v898 : Ref sig .tc := ⟨.hbm, 2172, rfl⟩
abbrev main_v899 : Ref sig .tc := ⟨.hbm, 2173, rfl⟩
abbrev main_v900 : Ref sig .tc := ⟨.hbm, 2174, rfl⟩
abbrev main_v901 : Ref sig .tc := ⟨.hbm, 2175, rfl⟩
abbrev main_v902 : Ref sig .tc := ⟨.hbm, 2176, rfl⟩
abbrev main_v903 : Ref sig .tc := ⟨.hbm, 2177, rfl⟩
abbrev main_v904 : Ref sig .tc := ⟨.hbm, 2178, rfl⟩
abbrev main_v905 : Ref sig .tc := ⟨.hbm, 2179, rfl⟩
abbrev main_v906 : Ref sig .tc := ⟨.hbm, 2180, rfl⟩
abbrev main_cst_254 : Ref sig .tc := ⟨.hbm, 2181, rfl⟩
abbrev main_v907 : Ref sig .tc := ⟨.hbm, 2182, rfl⟩
abbrev main_v908 : Ref sig .tc := ⟨.hbm, 2183, rfl⟩
abbrev main_cst_255 : Ref sig .tc := ⟨.hbm, 2184, rfl⟩
abbrev main_v909 : Ref sig .tc := ⟨.hbm, 2185, rfl⟩
abbrev main_v910 : Ref sig .tc := ⟨.hbm, 2186, rfl⟩
abbrev main_v911 : Ref sig .tc := ⟨.hbm, 2187, rfl⟩
abbrev main_v912 : Ref sig .tc := ⟨.hbm, 2188, rfl⟩
abbrev main_v913 : Ref sig .tc := ⟨.hbm, 2189, rfl⟩
abbrev main_v914 : Ref sig .tc := ⟨.hbm, 2190, rfl⟩
abbrev main_v915 : Ref sig .tc := ⟨.hbm, 2191, rfl⟩
abbrev main_v916 : Ref sig .tc := ⟨.hbm, 2192, rfl⟩
abbrev main_v917 : Ref sig .tc := ⟨.hbm, 2193, rfl⟩
abbrev main_v918 : Ref sig .tc := ⟨.hbm, 2194, rfl⟩
abbrev main_v919 : Ref sig .tc := ⟨.hbm, 2195, rfl⟩
abbrev main_v920 : Ref sig .tc := ⟨.hbm, 2196, rfl⟩
abbrev main_v921 : Ref sig .tc := ⟨.hbm, 2197, rfl⟩

abbrev nD : Nat := 1
abbrev τ : Topo := Topo.v7x

variable {F : FTy → Type} [FloatOps F]
-- ==== Proof.Spec.lean ====
/-
  The mathematics of one result row, with no program in it: the messages that reach a node, their sum written the
  reference's way (one product per source node) and the kernel's way (sources grouped by root, one long product), and
  the layer norm with the leaky rectifier written both ways. Over finite operands the two ways agree.
-/
module

public import Idealize.ShloMosaic.Lib.Pointwise

@[expose] public section

noncomputable section

namespace Cert.Vortex

open Idealize.ShloMosaic
open scoped BigOperators

/-! ## Finite extended reals -/

/-- An extended real is finite when it is a real number. -/
def IsReal (v : EReal) : Prop := ∃ r : ℝ, v = (r : EReal)

/-- An extended real whose absolute value is below `⊤` is finite. -/
theorem isReal_of_abs_lt (v : EReal) (h : max v (-v) < ⊤) : IsReal v := by
  induction v with
  | bot => simp at h
  | coe r => exact ⟨r, rfl⟩
  | top => simp at h

/-- A finite sum of real numbers, taken among the extended reals, is the real sum. -/
theorem coe_sum {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The sum along a list of real numbers, taken among the extended reals, is the real sum. -/
theorem coe_list_sum {ι : Type} (l : List ι) (f : ι → ℝ) : (l.map fun k => ((f k : ℝ) : EReal)).sum = (((l.map f).sum : ℝ) : EReal) := by
  induction l with
  | nil => simp
  | cons a l ih => simp [ih]

/-! ## The sum of the messages -/

/-- The nodes whose features reach node `i`, itself first. -/
def sources : Fin 9 → List (Fin 9) :=
  ![[0, 4, 7, 8], [1, 0, 6, 8], [2, 5, 8], [3, 1, 4, 8], [4, 3, 6, 8], [5, 2, 8], [6, 1, 7, 8], [7, 0, 3, 8],
    [8, 0, 1, 2, 3, 4, 5, 6, 7]]

/-- The root a position of the 1152-long contraction axis belongs to. -/
def hi (k : Fin 1152) : Fin 9 := ⟨k.val / 128, by omega⟩

/-- The feature a position of the 1152-long contraction axis belongs to. -/
def lo (k : Fin 1152) : Fin 128 := ⟨k.val % 128, by omega⟩

/-- A sum over the 1152-long axis is a sum over roots of sums over features. -/
theorem sum_hi_lo (f : Fin 9 → Fin 128 → ℝ) : ∑ k : Fin 1152, f (hi k) (lo k) = ∑ a, ∑ d, f a d := by
  rw [← Fintype.sum_prod_type' f]
  exact Equiv.sum_comp (finProdFinEquiv (m := 9) (n := 128)).symm fun p => f p.1 p.2

/-- The messages to a node summed the reference's way: each source's features times the matrix of its root. -/
def bySource (js : List (Fin 9)) (ρ : Fin 9 → Fin 9) (x : Fin 9 → Fin 128 → EReal)
    (t : Fin 9 → Fin 128 → Fin 128 → EReal) (e : Fin 128) : EReal :=
  (js.map fun j => ∑ d, x j d * t (ρ j) d e).sum

/-- The messages to a node summed the kernel's way: per root, the features of the sources of that root are added first,
    and one product over all roots and features follows. -/
def byRoot (js : List (Fin 9)) (ρ : Fin 9 → Fin 9) (x : Fin 9 → Fin 128 → EReal)
    (t : Fin 9 → Fin 128 → Fin 128 → EReal) (e : Fin 128) : EReal :=
  ∑ k : Fin 1152, (js.map fun j => if ρ j = hi k then x j (lo k) else 0).sum * t (hi k) (lo k) e

/-- Over the reals the two ways of summing agree: the product distributes over the sources, and of the roots only a
    source's own contributes. -/
theorem byRoot_real (js : List (Fin 9)) (ρ : Fin 9 → Fin 9) (x : Fin 9 → Fin 128 → ℝ)
    (t : Fin 9 → Fin 128 → Fin 128 → ℝ) (e : Fin 128) :
    ∑ k : Fin 1152, (js.map fun j => if ρ j = hi k then x j (lo k) else 0).sum * t (hi k) (lo k) e
      = (js.map fun j => ∑ d, x j d * t (ρ j) d e).sum := by
  induction js with
  | nil => simp
  | cons j js ih =>
    simp only [List.map_cons, List.sum_cons, add_mul, Finset.sum_add_distrib, ih]
    congr 1
    rw [sum_hi_lo fun a d => (if ρ j = a then x j d else 0) * t a d e, Finset.sum_comm]
    exact Finset.sum_congr rfl fun d _ => by simp

/-- Over finite features and transforms the two ways of summing agree. -/
theorem byRoot_eq_bySource (js : List (Fin 9)) (ρ : Fin 9 → Fin 9) (x : Fin 9 → Fin 128 → EReal)
    (t : Fin 9 → Fin 128 → Fin 128 → EReal) (hx : ∀ j d, IsReal (x j d)) (ht : ∀ a d e, IsReal (t a d e)) (e : Fin 128) :
    byRoot js ρ x t e = bySource js ρ x t e := by
  choose x' hx using hx
  choose t' ht using ht
  obtain rfl : x = fun j d => (x' j d : EReal) := funext fun j => funext fun d => hx j d
  obtain rfl : t = fun a d e => (t' a d e : EReal) := funext fun a => funext fun d => funext fun e => ht a d e
  unfold byRoot bySource
  have hif : ∀ (j : Fin 9) (k : Fin 1152), (if ρ j = hi k then (x' j (lo k) : EReal) else 0)
      = ((if ρ j = hi k then x' j (lo k) else 0 : ℝ) : EReal) := fun j k => by split <;> simp
  simp only [hif, coe_list_sum, ← EReal.coe_mul, coe_sum]
  rw [byRoot_real]

/-- The sum of the messages over finite features and transforms is finite. -/
theorem isReal_bySource (js : List (Fin 9)) (ρ : Fin 9 → Fin 9) (x : Fin 9 → Fin 128 → EReal)
    (t : Fin 9 → Fin 128 → Fin 128 → EReal) (hx : ∀ j d, IsReal (x j d)) (ht : ∀ a d e, IsReal (t a d e)) (e : Fin 128) :
    IsReal (bySource js ρ x t e) := by
  choose x' hx using hx
  choose t' ht using ht
  refine ⟨(js.map fun j => ∑ d, x' j d * t' (ρ j) d e).sum, ?_⟩
  unfold bySource
  simp only [hx, ht, ← EReal.coe_mul, coe_sum, coe_list_sum]

/-! ## The layer norm and the leaky rectifier -/

/-- The word of 128 is the real 128. -/
theorem ofBits_128 : Ideal.ofBits .f32 0x43000000#32 = ((128 : ℝ) : EReal) := by
  simp [Ideal.ofBits, Ideal.ieee, -EReal.coe_mul]; norm_num

/-- The word of nine is the real 9. -/
theorem ofBits_9 : Ideal.ofBits .f32 0x41100000#32 = ((9 : ℝ) : EReal) := by
  simp [Ideal.ofBits, Ideal.ieee, -EReal.coe_mul]; norm_num

/-- The word added to the variance is a positive real. -/
theorem ofBits_eps : ∃ r : ℝ, 0 < r ∧ Ideal.ofBits .f32 0x3727C5AC#32 = (r : EReal) := by
  refine ⟨_, ?_, by simp [Ideal.ofBits, Ideal.ieee, -EReal.coe_mul]; rfl⟩
  norm_num

/-- The word of the rectifier's slope is a real between 0 and 1. -/
theorem ofBits_slope : ∃ r : ℝ, (0 ≤ r ∧ r ≤ 1) ∧ Ideal.ofBits .f32 0x3C23D70A#32 = (r : EReal) := by
  refine ⟨_, ?_, by simp [Ideal.ofBits, Ideal.ieee, -EReal.coe_mul]; rfl⟩
  norm_num

/-- The mean of a row of 128. -/
def mean (y : Fin 128 → EReal) : EReal := Ideal.div (∑ d, y d) (Ideal.ofBits .f32 0x43000000#32)

/-- A row less its mean. -/
def dev (y : Fin 128 → EReal) (e : Fin 128) : EReal := y e - mean y

/-- The variance of a row plus the small constant. -/
def spread (y : Fin 128 → EReal) : EReal := mean (fun d => dev y d * dev y d) + Ideal.ofBits .f32 0x3727C5AC#32

/-- The row normalized the kernel's way: times the reciprocal square root, then the larger of it and a hundredth of it. -/
def outByRsqrt (y : Fin 128 → EReal) (e : Fin 128) : EReal :=
  max (dev y e * Ideal.rsqrt (spread y)) (Ideal.ofBits .f32 0x3C23D70A#32 * (dev y e * Ideal.rsqrt (spread y)))

/-- The row normalized the reference's way: over the square root, scaled and shifted. -/
def affine (y : Fin 128 → EReal) (g b : EReal) (e : Fin 128) : EReal := Ideal.div (dev y e) (Ideal.sqrt (spread y)) * g + b

/-- The leaky rectifier the reference's way: a choice by sign. -/
def leaky (n : EReal) : EReal :=
  Scalar.select (Ideal.cmp .oge n (Ideal.ofBits .f32 0x00000000#32)) n (Ideal.ofBits .f32 0x3C23D70A#32 * n)

/-- The mean of a row of reals is the real mean. -/
theorem mean_coe (y : Fin 128 → ℝ) : mean (fun d => (y d : EReal)) = (((∑ d, y d) / 128 : ℝ) : EReal) := by
  unfold mean
  rw [ofBits_128, coe_sum, Ideal.div_coe (by norm_num), ← EReal.coe_mul]
  congr 1; ring

/-- At a real the choice by sign is the larger of the number and a hundredth of it. -/
theorem leaky_coe (n : ℝ) : leaky (n : EReal) = max (n : EReal) (Ideal.ofBits .f32 0x3C23D70A#32 * n) := by
  obtain ⟨c, ⟨h0, h1⟩, hc⟩ := ofBits_slope
  unfold leaky
  rw [hc, Ideal.ofBits_zero_f32, ← EReal.coe_mul]
  by_cases h : 0 ≤ n
  · have : c * n ≤ n := by nlinarith
    rw [max_eq_left (by exact_mod_cast this)]
    simp [Ideal.cmp, Scalar.select, h]
  · have : n ≤ c * n := by nlinarith
    rw [max_eq_right (by exact_mod_cast this)]
    simp [Ideal.cmp, Scalar.select, h]

/-- On a row of finite numbers, with scale 1 and shift 0, the reference's layer norm and rectifier are the kernel's. -/
theorem leaky_affine_eq (y : Fin 128 → EReal) (hy : ∀ d, IsReal (y d)) (e : Fin 128) :
    leaky (affine y 1 0 e) = outByRsqrt y e := by
  choose y' hy using hy
  obtain rfl : y = fun d => (y' d : EReal) := funext hy
  obtain ⟨ε, hε, he⟩ := ofBits_eps
  have hd : ∀ d, dev (fun d => (y' d : EReal)) d = ((y' d - (∑ d, y' d) / 128 : ℝ) : EReal) := fun d => by
    unfold dev; rw [mean_coe, EReal.coe_sub]
  obtain ⟨v, hv, hs⟩ : ∃ v : ℝ, 0 < v ∧ spread (fun d => (y' d : EReal)) = (v : EReal) := by
    unfold spread
    simp only [hd, ← EReal.coe_mul]
    rw [mean_coe, he, ← EReal.coe_add]
    refine ⟨_, ?_, rfl⟩
    have : 0 ≤ ∑ d : Fin 128, (y' d - (∑ d, y' d) / 128) * (y' d - (∑ d, y' d) / 128) :=
      Finset.sum_nonneg fun d _ => mul_self_nonneg _
    positivity
  have hq : Real.sqrt v ≠ 0 := (Real.sqrt_pos.mpr hv).ne'
  have hn : affine (fun d => (y' d : EReal)) 1 0 e = dev (fun d => (y' d : EReal)) e * Ideal.rsqrt (spread fun d => (y' d : EReal)) := by
    unfold affine
    rw [hs, Ideal.sqrt_coe, if_neg (not_lt.mpr hv.le), Ideal.rsqrt_coe, if_neg (not_lt.mpr hv.le), if_neg hv.ne',
      Ideal.div_coe hq, mul_one, add_zero, one_div]
  unfold outByRsqrt
  rw [hn, hd, hs, Ideal.rsqrt_coe, if_neg (not_lt.mpr hv.le), if_neg hv.ne', ← EReal.coe_mul]
  exact leaky_coe _

end Cert.Vortex

end
-- ==== Proof.Root.lean ====
/-
  The digital root of a row sum, as both programs compute it: the absolute value modulo nine, truncated to a word, zero
  replaced by nine, less one. Of a finite sum it is one of 0 … 8.
-/
module

public import proofs.«01_k».proof.Proof.Spec

@[expose] public section

noncomputable section

namespace Cert.Vortex

open Idealize.ShloMosaic
open scoped BigOperators

/-- The word of the remainder modulo nine. -/
def residue (s : EReal) : BitVec 32 := Ideal.fptosi 32 (Ideal.remf (max s (-s)) (Ideal.ofBits .f32 0x41100000#32))

/-- The root's word: the remainder, nine in place of zero, less one. -/
def rootWord (s : EReal) : BitVec 32 := Scalar.select (IntOp.cmpi .eq (residue s) 0#32) 9#32 (residue s) - 1#32

/-- The root as a position among nine. -/
def root (s : EReal) : Fin 9 := ⟨min (rootWord s).toInt.toNat 8, by omega⟩

/-- The remainder of a finite sum modulo nine is one of 0 … 8. -/
theorem residue_lt (s : EReal) (hs : IsReal s) : ∃ n : ℕ, n < 9 ∧ residue s = BitVec.ofNat 32 n := by
  obtain ⟨r, rfl⟩ := hs
  have ha : max (r : EReal) (-(r : EReal)) = ((|r| : ℝ) : EReal) := by
    rw [← EReal.coe_neg, abs_eq_max_neg]
    exact (EReal.coe_strictMono.monotone.map_max).symm
  have h0 : 0 ≤ |r| / 9 := by positivity
  have hq := Int.floor_le (|r| / 9)
  have hq' := Int.lt_floor_add_one (|r| / 9)
  set q : ℤ := ⌊|r| / 9⌋ with hqd
  have hv0 : 0 ≤ |r| - 9 * (q : ℝ) := by linarith
  have hv9 : |r| - 9 * (q : ℝ) < 9 := by linarith
  have hf0 : 0 ≤ ⌊|r| - 9 * (q : ℝ)⌋ := Int.floor_nonneg.mpr hv0
  have hf9 : ⌊|r| - 9 * (q : ℝ)⌋ < 9 := Int.floor_lt.mpr (by exact_mod_cast hv9)
  refine ⟨⌊|r| - 9 * (q : ℝ)⌋.toNat, by omega, ?_⟩
  unfold residue
  rw [ha, ofBits_9, Ideal.remf_coe, if_neg (by norm_num), Ideal.truncInt, if_pos h0, ← hqd, Ideal.fptosi,
    Ideal.toIntClamped_coe, if_pos hv0]
  have : max (-(2 ^ (32 - 1) : Nat) : Int) (min ((2 ^ (32 - 1) : Nat) - 1) ⌊|r| - 9 * (q : ℝ)⌋) = ⌊|r| - 9 * (q : ℝ)⌋ := by
    norm_num; omega
  rw [this]
  obtain ⟨n, hn⟩ := Int.eq_ofNat_of_zero_le hf0
  rw [hn]
  simp

/-- The root's word of a finite sum is the word of its root. -/
theorem rootWord_eq (s : EReal) (hs : IsReal s) : rootWord s = BitVec.ofNat 32 (root s).val := by
  obtain ⟨n, hn, h⟩ := residue_lt s hs
  show rootWord s = BitVec.ofNat 32 (min (rootWord s).toInt.toNat 8)
  rw [rootWord, h]
  interval_cases n <;> rfl

/-- The root's word of a finite sum, read as a signed number, is its root. -/
theorem rootWord_toInt (s : EReal) (hs : IsReal s) : (rootWord s).toInt = ((root s).val : Int) := by
  rw [rootWord_eq s hs]
  generalize root s = a
  fin_cases a <;> rfl

/-- The roots of a row's nodes: each node's features summed, and the root of the sum. -/
def roots (x : Fin 9 → Fin 128 → EReal) (j : Fin 9) : Fin 9 := root (∑ d, x j d)

/-- The result for one row: node `i`'s messages summed grouped by root, normalized and rectified. -/
def vortex (x : Fin 9 → Fin 128 → EReal) (t : Fin 9 → Fin 9 → Fin 128 → Fin 128 → EReal) (i : Fin 9) (e : Fin 128) : EReal :=
  outByRsqrt (byRoot (sources i) (roots x) x (t i)) e

end Cert.Vortex

end
-- ==== Proof.Entry.lean ====
/-
  The arrays the region starts with, from the kernel's arguments: the features laid end to end, the transforms stacked,
  and for every row and node the number of the root of the row's sum.
-/
module

public import proofs.«01_k».proof.Proof.Root
public import proofs.«01_k».proof.Proof.Gen.KernelIdeal.Frame
public import Idealize.ShloMosaic.Lib.StableHlo.Run

@[expose] public section

set_option maxRecDepth 16384

noncomputable section

namespace Cert.KernelIdeal.Block

open Idealize.ShloMosaic Idealize.ShloMosaic.Pointwise Idealize.ShloMosaic.TcCoe Cert.KernelIdeal.Gen Cert.Vortex
open scoped BigOperators

variable (m : (ℓ : Loc nD τ sig) → Buf (Elt Ideal) ℓ)

/-- The nine columns of a matrix side by side, as numbers. -/
def beside (u : Fin 9 → Vec Ideal S4096x1 .i32) : FVec Ideal S4096x9 .bf16 :=
  sitofp .bf16 (concatenate S4096x9 1 [⟨S4096x1, u 0⟩, ⟨S4096x1, u 1⟩, ⟨S4096x1, u 2⟩, ⟨S4096x1, u 3⟩, ⟨S4096x1, u 4⟩, ⟨S4096x1, u 5⟩, ⟨S4096x1, u 6⟩, ⟨S4096x1, u 7⟩, ⟨S4096x1, u 8⟩]
    concatenates_S4096x1_S4096x1_S4096x1_S4096x1_S4096x1_S4096x1_S4096x1_S4096x1_S4096x1_S4096x9_d1)

/-- The sums of the rows of one node. -/
def rowSum (x : FVec Ideal S4096x9x128 .f32) (off : Fin 3 → Nat) (h : S4096x9x128.Slices off S4096x1x128) : FVec Ideal S4096 .f32 :=
  Host.reduceAdd (shapeCast S4096x128 (extractStridedSlice S4096x1x128 off x h) shapeCasts_S4096x1x128_S4096x128)
    (constant S_ .f32 0x00000000#32) reducesTo_S4096x128_S4096_d1 h_S_

/-- The words of the roots of sums. -/
def words (s : FVec Ideal S4096 .f32) : Vec Ideal S4096 .i32 :=
  let r : Vec Ideal S4096 .i32 := fptosi 32 (Host.remf (Host.absf s) (broadcastInDim S4096 ![] bcast_S_S4096 (constant S_ .f32 0x41100000#32)))
  subi (select (cmpi .eq r (broadcastInDim S4096 ![] bcast_S_S4096 (constantI S_ 32 0#32)))
    (broadcastInDim S4096 ![] bcast_S_S4096 (constantI S_ 32 9#32)) r) (broadcastInDim S4096 ![] bcast_S_S4096 (constantI S_ 32 1#32))

/-- The column of one node's roots. -/
def rootColumn (x : FVec Ideal S4096x9x128 .f32) (off : Fin 3 → Nat) (h : S4096x9x128.Slices off S4096x1x128) : Vec Ideal S4096x1 .i32 :=
  broadcastInDim S4096x1 ![0] bcast_S4096_S4096x1_0 (words (rowSum x off h))

/-- The operations before the nine columns are set side by side. -/
abbrev columns : List (HloOp τ sig (Elt Ideal)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35] ++ hostOps0_36.take 12

/-- The arrays the region starts with are those after the columns, then set side by side. -/
theorem after_columns (c : Dev nD) :
    V0 m c = StableHlo.after (hostOps0_36.drop 12) (StableHlo.after columns fun b => m (c, b)) := by
  rw [← StableHlo.after_append]
  rfl

/-- The roots the region starts with, from the nine columns. -/
theorem beside109 (W : Valuation τ sig (Elt Ideal)) :
    StableHlo.after (hostOps0_36.drop 12) W (Proc.devRef .tc main_v109) = beside ![W (Proc.devRef .tc main_v99), W (Proc.devRef .tc main_v100), W (Proc.devRef .tc main_v101), W (Proc.devRef .tc main_v102), W (Proc.devRef .tc main_v103), W (Proc.devRef .tc main_v104), W (Proc.devRef .tc main_v105), W (Proc.devRef .tc main_v106), W (Proc.devRef .tc main_v107)] := by
  rw [show hostOps0_36.drop 12 = [_,_,_,_,_] from rfl]
  after_results
  rfl

/-- Each column holds the roots of one node's rows. -/
theorem columns_eq (M : Valuation τ sig (Elt Ideal)) :
    StableHlo.after columns M (Proc.devRef .tc main_v99) = rootColumn (M (Proc.devRef .tc main_arg0)) ![0, 0, 0] slices_S4096x9x128_S4096x1x128_0_0_0 ∧
    StableHlo.after columns M (Proc.devRef .tc main_v100) = rootColumn (M (Proc.devRef .tc main_arg0)) ![0, 1, 0] slices_S4096x9x128_S4096x1x128_0_1_0 ∧
    StableHlo.after columns M (Proc.devRef .tc main_v101) = rootColumn (M (Proc.devRef .tc main_arg0)) ![0, 2, 0] slices_S4096x9x128_S4096x1x128_0_2_0 ∧
    StableHlo.after columns M (Proc.devRef .tc main_v102) = rootColumn (M (Proc.devRef .tc main_arg0)) ![0, 3, 0] slices_S4096x9x128_S4096x1x128_0_3_0 ∧
    StableHlo.after columns M (Proc.devRef .tc main_v103) = rootColumn (M (Proc.devRef .tc main_arg0)) ![0, 4, 0] slices_S4096x9x128_S4096x1x128_0_4_0 ∧
    StableHlo.after columns M (Proc.devRef .tc main_v104) = rootColumn (M (Proc.devRef .tc main_arg0)) ![0, 5, 0] slices_S4096x9x128_S4096x1x128_0_5_0 ∧
    StableHlo.after columns M (Proc.devRef .tc main_v105) = rootColumn (M (Proc.devRef .tc main_arg0)) ![0, 6, 0] slices_S4096x9x128_S4096x1x128_0_6_0 ∧
    StableHlo.after columns M (Proc.devRef .tc main_v106) = rootColumn (M (Proc.devRef .tc main_arg0)) ![0, 7, 0] slices_S4096x9x128_S4096x1x128_0_7_0 ∧
    StableHlo.after columns M (Proc.devRef .tc main_v107) = rootColumn (M (Proc.devRef .tc main_arg0)) ![0, 8, 0] slices_S4096x9x128_S4096x1x128_0_8_0 := by
  refine ⟨?_, ?_, ?_, ?_, ?_, ?_, ?_, ?_, ?_⟩ <;>
  · show StableHlo.after (List.flatten _ ++ List.take 12 _) _ _ = _
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, List.take_succ_cons, List.take_zero, List.flatten_cons, List.flatten_nil, List.append_nil,
      List.cons_append, List.nil_append, StableHlo.TRef.unary, StableHlo.TRef.binary, StableHlo.TRef.ternary,
      StableHlo.TRef.toBuf, StableHlo.TRef.ofBuf, cast_eq]
    after_results_simp
    rfl

variable (c : Dev nD)

/-- The features as the region finds them: the argument, its rows laid end to end. -/
theorem features_eq : V m c main_v112 =
    shapeCast S4096x1152 (m ((c : Thread nD τ).loc main_arg0)) shapeCasts_S4096x9x128_S4096x1152 := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, List.flatten_cons, List.flatten_nil, List.append_nil, List.cons_append, List.nil_append]
  after_results_simp
  rfl

/-- The transforms as the region finds them: the argument narrowed, a node's nine matrices one above the other. -/
theorem transforms_eq : V m c main_v111 =
    shapeCast S9x1152x128 (truncf .bf16 (m ((c : Thread nD τ).loc main_arg1)) bitsLt_bf16_f32 : FVec Ideal S9x9x128x128 .bf16)
      shapeCasts_S9x9x128x128_S9x1152x128 := by
  show StableHlo.after _ _ _ = _
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, List.flatten_cons, List.flatten_nil, List.append_nil, List.cons_append, List.nil_append]
  after_results_simp
  rfl

/-- The sum of a row of one node. -/
theorem rowSum_apply (x : FVec Ideal S4096x9x128 .f32) (j : Fin 9) (h : S4096x9x128.Slices ![0, j.val, 0] S4096x1x128) (b : Fin 4096) :
    rowSum x ![0, j.val, 0] h (ix1 b) = ∑ d : Fin 128, x (ix3 b j d) := by
  pointwise [rowSum]

/-- The word of the root of a sum. -/
theorem words_apply (s : FVec Ideal S4096 .f32) (b : Fin 4096) : words s (ix1 b) = rootWord (s (ix1 b)) := by
  pointwise [words, rootWord, residue]
  rfl

/-- The roots' numbers, read in their column. -/
theorem beside_apply (u : Fin 9 → Vec Ideal S4096x1 .i32) (b : Fin 4096) (j : Fin 9) :
    beside u (ix2 b j) = (((u j (ix2 b 0)).toInt : ℝ) : EReal) := by
  have h := concatenate_ofFn_apply (t := S4096x9) (s₁ := S4096x1) 1 u
    concatenates_S4096x1_S4096x1_S4096x1_S4096x1_S4096x1_S4096x1_S4096x1_S4096x1_S4096x1_S4096x9_d1 rfl 1 rfl (ix2 b j) j
    (by show j.val / 1 = j.val; omega) (ix2 b 0) (by show 0 = j.val % 1; omega) (by
      intro b hb
      fin_cases b
      · rfl
      · exact absurd rfl hb)
  exact congrArg (fun w : BitVec 32 => FloatOps.sitofp (F := Ideal) .bf16 w) h

/-- The column of roots, read at a row. -/
theorem rootColumn_apply (x : FVec Ideal S4096x9x128 .f32) (j : Fin 9) (h : S4096x9x128.Slices ![0, j.val, 0] S4096x1x128) (b : Fin 4096) :
    rootColumn x ![0, j.val, 0] h (ix2 b 0) = rootWord (∑ d : Fin 128, x (ix3 b j d)) := by
  pointwise [rootColumn]
  rw [words_apply, rowSum_apply]

/-- The roots as the region finds them: of a node whose row has a finite sum, the number of the root of that sum. -/
theorem roots_eq (hx : ∀ b j, IsReal (∑ d : Fin 128, m ((c : Thread nD τ).loc main_arg0) (ix3 b j d))) (b : Fin 4096) (j : Fin 9) :
    V m c main_v109 (ix2 b j) = (((root (∑ d : Fin 128, m ((c : Thread nD τ).loc main_arg0) (ix3 b j d))).val : ℝ) : EReal) := by
  have h : V m c main_v109 = _ := (congrFun (after_columns m c) _).trans (beside109 _)
  obtain ⟨h0, h1, h2, h3, h4, h5, h6, h7, h8⟩ := columns_eq (fun b => m (c, b))
  rw [h, h0, h1, h2, h3, h4, h5, h6, h7, h8, beside_apply]
  have e : ∀ w : BitVec 32, w = rootWord (∑ d : Fin 128, m ((c : Thread nD τ).loc main_arg0) (ix3 b j d)) →
      ((w.toInt : ℝ) : EReal) = (((root (∑ d : Fin 128, m ((c : Thread nD τ).loc main_arg0) (ix3 b j d))).val : ℝ) : EReal) := by
    rintro w rfl
    rw [rootWord_toInt _ (hx b j)]
    rfl
  apply e
  fin_cases j
  · exact rootColumn_apply _ 0 _ b
  · exact rootColumn_apply _ 1 _ b
  · exact rootColumn_apply _ 2 _ b
  · exact rootColumn_apply _ 3 _ b
  · exact rootColumn_apply _ 4 _ b
  · exact rootColumn_apply _ 5 _ b
  · exact rootColumn_apply _ 6 _ b
  · exact rootColumn_apply _ 7 _ b
  · exact rootColumn_apply _ 8 _ b

/-- The features read at an index of the long axis. -/
theorem features_apply (b : Fin 4096) (j : Fin 9) (d : Fin 128) (h : j.val * 128 + d.val < 1152) :
    V m c main_v112 (ix2 b ⟨j.val * 128 + d.val, h⟩) = m ((c : Thread nD τ).loc main_arg0) (ix3 b j d) := by
  rw [features_eq]
  generalize m ((c : Thread nD τ).loc main_arg0) = x
  pointwise

/-- The transforms read at an index of the long axis. -/
theorem transforms_apply (i a : Fin 9) (d e : Fin 128) (h : a.val * 128 + d.val < 1152) :
    V m c main_v111 (ix3 i ⟨a.val * 128 + d.val, h⟩ e) = m ((c : Thread nD τ).loc main_arg1) (ix4 i a d e) := by
  rw [transforms_eq]
  generalize m ((c : Thread nD τ).loc main_arg1) = x
  pointwise

end Cert.KernelIdeal.Block

end
-- ==== Proof.Block.lean ====
/-
  One grid point of the kernel, as one term: what its nine stores leave in the output block, written with each
  repeated pattern — a source's features where its root is the given one, the sums over a node's sources, the product
  and the layer norm — named once.
-/
module

public import proofs.«01_k».proof.Proof.Spec
public import proofs.«01_k».proof.Proof.Gen.KernelIdeal.Frame

@[expose] public section

set_option maxRecDepth 16384

noncomputable section

namespace Cert.KernelIdeal.Block

open Idealize.ShloMosaic Cert.KernelIdeal.Gen

variable {F : FTy → Type} [FloatOps F]

/-- Column `j` of the roots' block lies inside it. -/
theorem inb_column (j : Fin 9) : ∀ a, (![0, j.val] : Fin 2 → Nat) a + S512x1.size a ≤ S512x9.size a := by
  revert j; decide +kernel

/-- Slab `i` of the transforms lies inside them. -/
theorem inb_slab (i : Fin 9) : ∀ a, (![i.val, 0, 0] : Fin 3 → Nat) a + S1x1152x128.size a ≤ S9x1152x128.size a := by
  revert i; decide +kernel

/-- The columns of node `i` lie inside the output block. -/
theorem inb_node (i : Fin 9) : ∀ a, (![0, i.val * 128] : Fin 2 → Nat) a + S512x128.size a ≤ S512x1152.size a := by
  revert i; decide +kernel

/-- The features of one source node, narrowed. -/
def feat (x : Vec F S512x128 .f32) : FVec F S512x128 .bf16 :=
  truncf .bf16 (shapeCast S512x128 (View.ld x (Rect.unit (s := S512x128) ![0, 0] S512x128.size inb_S512x128_S512x128_0_0)) shapeCasts_S512x128_S512x128) bitsLt_bf16_f32

/-- The roots of source node `j`, repeated along the features. -/
def column (x0 : Vec F S512x9 .bf16) (j : Fin 9) : FVec F S512x128 .bf16 :=
  broadcastTo S512x128 (shapeCast S512x1 (shapeCast S512x1 (View.ld x0 (Rect.unit (s := S512x9) ![0, j.val] S512x1.size (inb_column j))) shapeCasts_S512x1_S512x1) shapeCasts_S512x1_S512x1) broadcasts_S512x1_S512x128

/-- The words of the nine roots. -/
def word : Fin 9 → BitVec 16 := ![0x0000#16, 0x3F80#16, 0x4000#16, 0x4040#16, 0x4080#16, 0x40A0#16, 0x40C0#16, 0x40E0#16, 0x4100#16]

/-- A source's features where its root is the given one, zero elsewhere. -/
def lane (c x : FVec F S512x128 .bf16) (w : BitVec 16) : FVec F S512x128 .bf16 :=
  select (cmpf .oeq c (broadcast S512x128 (Scalar.ofBits .bf16 w))) x (broadcast S512x128 (Scalar.ofBits .bf16 0x0000#16))

/-- The sum over node `i`'s sources, in the kernel's order. -/
def gathered (i : Fin 9) (l : Fin 9 → FVec F S512x128 .bf16) : FVec F S512x128 .bf16 :=
  match i with
  | 0 => addf (addf (addf (l 0) (l 7)) (l 4)) (l 8)
  | 1 => addf (addf (addf (l 1) (l 6)) (l 0)) (l 8)
  | 2 => addf (addf (l 2) (l 5)) (l 8)
  | 3 => addf (addf (addf (l 3) (l 4)) (l 1)) (l 8)
  | 4 => addf (addf (addf (l 3) (l 4)) (l 6)) (l 8)
  | 5 => addf (addf (l 2) (l 5)) (l 8)
  | 6 => addf (addf (addf (l 1) (l 6)) (l 7)) (l 8)
  | 7 => addf (addf (addf (l 0) (l 7)) (l 3)) (l 8)
  | 8 => addf (addf (addf (addf (addf (l 0) (l 7)) (addf (l 1) (l 6))) (addf (l 3) (l 4))) (addf (l 2) (l 5))) (l 8)

/-- Node `i`'s sums over its sources, one part per root, side by side. -/
def grouped (i : Fin 9) (c x : Fin 9 → FVec F S512x128 .bf16) : FVec F S512x1152 .bf16 :=
  let p : Fin 9 → FVec F S512x128 .bf16 := fun a => gathered i fun j => lane (c j) (x j) (word a)
  concatenate S512x1152 1 [⟨S512x128, p 0⟩, ⟨S512x128, p 1⟩, ⟨S512x128, p 2⟩, ⟨S512x128, p 3⟩, ⟨S512x128, p 4⟩, ⟨S512x128, p 5⟩, ⟨S512x128, p 6⟩, ⟨S512x128, p 7⟩, ⟨S512x128, p 8⟩] concatenates_S512x128_S512x128_S512x128_S512x128_S512x128_S512x128_S512x128_S512x128_S512x128_S512x1152_d1

/-- The product with a slab of the transforms. -/
def product (p : FVec F S512x1152 .bf16) (t : Vec F S1x1152x128 .bf16) : FVec F S512x128 .f32 :=
  matmul dot_S512x1152_S1152x128_S512x128_1_0_0_1_n_n none p (shapeCast S1152x128 t shapeCasts_S1x1152x128_S1152x128) (constant S512x128 .f32 0x00000000#32)

/-- The means of the rows, as a column. -/
def means (y : FVec F S512x128 .f32) : FVec F S512x1 .f32 :=
  divf (shapeCast S512x1 (multiReduction .add [1] S512 y 0x00000000#32 reduces_S512x128_S512 (.inl rfl) rfl) shapeCasts_S512_S512x1) (broadcast S512x1 (Scalar.ofBits .f32 0x43000000#32))

/-- The rows less their means. -/
def centred (y : FVec F S512x128 .f32) : FVec F S512x128 .f32 := subf y (broadcastTo S512x128 (means y) broadcasts_S512x1_S512x128)

/-- The rows normalized. -/
def scaled (y : FVec F S512x128 .f32) : FVec F S512x128 .f32 :=
  mulf (centred y) (broadcastTo S512x128 (rsqrt (addf (means (mulf (centred y) (centred y))) (broadcast S512x1 (Scalar.ofBits .f32 0x3727C5AC#32)))) broadcasts_S512x1_S512x128)

/-- The rows normalized and rectified. -/
def rectified (y : FVec F S512x128 .f32) : FVec F S512x128 .f32 :=
  maximumf (scaled y) (mulf (broadcast S512x128 (Scalar.ofBits .f32 0x3C23D70A#32)) (scaled y))

/-- The columns of node `i` in the output block. -/
abbrev nodeRect (i : Fin 9) : Rect S512x1152 := Rect.unit (s := S512x1152) ![0, i.val * 128] S512x128.size (inb_node i)

/-- What is stored for node `i`. -/
def payload (x0 : Vec F S512x9 .bf16) (x : Fin 9 → Vec F S512x128 .f32) (t : Vec F S9x1152x128 .bf16) (i : Fin 9) : FVec F S512x128 .f32 :=
  rectified (product (grouped i (column x0) fun j => feat (x j)) (View.ld t (Rect.unit (s := S9x1152x128) ![i.val, 0, 0] S1x1152x128.size (inb_slab i))))

/-- The output block after the body is what its nine stores leave, the last first. -/
theorem out0_11_eq (x0 : Vec F S512x9 .bf16) (x1 x2 x3 x4 x5 x6 x7 x8 x9 : Vec F S512x128 .f32) (x10 : Vec F S9x1152x128 .bf16) :
    out0_11 x0 x1 x2 x3 x4 x5 x6 x7 x8 x9 x10
      = View.canon [⟨nodeRect 8, payload x0 ![x1, x2, x3, x4, x5, x6, x7, x8, x9] x10 8⟩,
          ⟨nodeRect 7, payload x0 ![x1, x2, x3, x4, x5, x6, x7, x8, x9] x10 7⟩,
          ⟨nodeRect 6, payload x0 ![x1, x2, x3, x4, x5, x6, x7, x8, x9] x10 6⟩,
          ⟨nodeRect 5, payload x0 ![x1, x2, x3, x4, x5, x6, x7, x8, x9] x10 5⟩,
          ⟨nodeRect 4, payload x0 ![x1, x2, x3, x4, x5, x6, x7, x8, x9] x10 4⟩,
          ⟨nodeRect 3, payload x0 ![x1, x2, x3, x4, x5, x6, x7, x8, x9] x10 3⟩,
          ⟨nodeRect 2, payload x0 ![x1, x2, x3, x4, x5, x6, x7, x8, x9] x10 2⟩,
          ⟨nodeRect 1, payload x0 ![x1, x2, x3, x4, x5, x6, x7, x8, x9] x10 1⟩,
          ⟨nodeRect 0, payload x0 ![x1, x2, x3, x4, x5, x6, x7, x8, x9] x10 0⟩] := by
  rfl

end Cert.KernelIdeal.Block

end
-- ==== Proof.BlockAt.lean ====
/-
  The kernel's block read at an index: each named part of a grid point's term, and what the output block holds.
-/
module

public import proofs.«01_k».proof.Proof.Block

@[expose] public section

set_option maxRecDepth 16384

noncomputable section

namespace Cert.KernelIdeal.Block

open Idealize.ShloMosaic Idealize.ShloMosaic.Pointwise Cert.KernelIdeal.Gen Cert.Vortex
open scoped BigOperators

/-- The narrowed features are the features. -/
theorem feat_apply (x : Vec Ideal S512x128 .f32) (r : Fin 512) (d : Fin 128) : feat x (ix2 r d) = x (ix2 r d) := by
  pointwise [feat, View.ld_unit]

/-- The repeated column of roots at a row. -/
theorem column_apply (x0 : Vec Ideal S512x9 .bf16) (j : Fin 9) (r : Fin 512) (d : Fin 128) :
    column x0 j (ix2 r d) = x0 (ix2 r j) := by
  pointwise [column, View.ld_unit]

/-- The word of root `a` is the number `a`. -/
theorem word_eq (a : Fin 9) : Ideal.ofBits .bf16 (word a) = ((a.val : ℝ) : EReal) := by
  fin_cases a <;> simp [word, Ideal.ofBits, Ideal.ieee, -EReal.coe_mul] <;> norm_num

/-- A lane at an index: the features where the root is the given one. -/
theorem lane_apply (c x : FVec Ideal S512x128 .bf16) (w : BitVec 16) (k : S512x128.Idx) :
    lane c x w k = if c k = Ideal.ofBits .bf16 w then x k else 0 := by
  pointwise [lane]

/-- A sum of two arrays at an index. -/
theorem add_apply (x y : FVec Ideal S512x128 .bf16) (k : S512x128.Idx) : addf x y k = (x k + y k : EReal) := rfl

/-- The sum over a node's sources at an index. -/
theorem gathered_apply (i : Fin 9) (l : Fin 9 → FVec Ideal S512x128 .bf16) (k : S512x128.Idx) :
    gathered i l k = ((sources i).map fun j => l j k).sum := by
  fin_cases i <;> simp [gathered, sources, add_apply] <;> ac_rfl

/-- The grouped sums at an index of the long axis. -/
theorem grouped_apply (i : Fin 9) (c x : Fin 9 → FVec Ideal S512x128 .bf16) (r : Fin 512) (k : Fin 1152) :
    grouped i c x (ix2 r k) = gathered i (fun j => lane (c j) (x j) (word (hi k))) (ix2 r (lo k)) := by
  refine concatenate_ofFn_apply (t := S512x1152) (s₁ := S512x128) 1 (fun a : Fin 9 => gathered i fun j => lane (c j) (x j) (word a))
    concatenates_S512x128_S512x128_S512x128_S512x128_S512x128_S512x128_S512x128_S512x128_S512x128_S512x1152_d1 rfl 128 rfl (ix2 r k) (hi k) rfl (ix2 r (lo k)) rfl ?_
  intro b hb
  fin_cases b
  · rfl
  · exact absurd rfl hb

/-- The product at an index. -/
theorem product_apply (p : FVec Ideal S512x1152 .bf16) (t : Vec Ideal S1x1152x128 .bf16) (r : Fin 512) (e : Fin 128) :
    product p t (ix2 r e) = ∑ k : Fin 1152, p (ix2 r k) * t (ix3 0 k e) := by
  pointwise [product]

/-- The means at a row. -/
theorem means_apply (y : FVec Ideal S512x128 .f32) (r : Fin 512) :
    means y (ix2 r 0) = mean fun d => y (ix2 r d) := by
  pointwise [means, mean]

/-- The rows less their means at an index. -/
theorem centred_apply (y : FVec Ideal S512x128 .f32) (r : Fin 512) (e : Fin 128) :
    centred y (ix2 r e) = dev (fun d => y (ix2 r d)) e := by
  pointwise [centred, dev]
  rw [means_apply]

/-- The rectified rows at an index. -/
theorem rectified_apply (y : FVec Ideal S512x128 .f32) (r : Fin 512) (e : Fin 128) :
    rectified y (ix2 r e) = outByRsqrt (fun d => y (ix2 r d)) e := by
  have h : ∀ d, mulf (centred y) (centred y) (ix2 r d) = dev (fun d => y (ix2 r d)) d * dev (fun d => y (ix2 r d)) d := fun d => by
    pointwise
    rw [centred_apply]
  pointwise [rectified, scaled, outByRsqrt, spread]
  simp only [means_apply, centred_apply, h]

/-- What is stored for node `i`, at an index: the normalized and rectified sum of the messages, grouped by root. -/
theorem payload_apply (x0 : Vec Ideal S512x9 .bf16) (x : Fin 9 → Vec Ideal S512x128 .f32) (t : Vec Ideal S9x1152x128 .bf16)
    (i : Fin 9) (r : Fin 512) (e : Fin 128) (ρ : Fin 9 → Fin 9) (hρ : ∀ j, x0 (ix2 r j) = (((ρ j).val : ℝ) : EReal)) :
    payload x0 x t i (ix2 r e)
      = outByRsqrt (byRoot (sources i) ρ (fun j d => x j (ix2 r d)) fun a d e => t (ix3 i ⟨a.val * 128 + d.val, by omega⟩ e)) e := by
  unfold payload
  rw [rectified_apply]
  refine congrArg (fun y => outByRsqrt y e) (funext fun e => ?_)
  rw [product_apply]
  unfold byRoot
  refine Finset.sum_congr rfl fun k _ => ?_
  rw [grouped_apply, gathered_apply]
  simp only [lane_apply, column_apply, feat_apply, word_eq, hρ]
  have hk : (⟨(hi k).val * 128 + (lo k).val, by omega⟩ : Fin 1152) = k := Fin.ext (by simp only [hi, lo]; omega)
  rw [hk]
  congr 1
  · simp only [EReal.coe_eq_coe_iff, Nat.cast_inj, Fin.val_inj]
  · pointwise [View.ld_unit]

/-- The output block as one array: node `hi k`'s value in column `k`. -/
def whole (x0 : Vec Ideal S512x9 .bf16) (x : Fin 9 → Vec Ideal S512x128 .f32) (t : Vec Ideal S9x1152x128 .bf16) : Vec Ideal S512x1152 .f32 :=
  fun y => payload x0 x t (hi (y 1)) (ix2 (y 0) (lo (y 1)))

/-- A node's store holds that node's part of the whole block. -/
theorem payload_eq_whole (x0 : Vec Ideal S512x9 .bf16) (x : Fin 9 → Vec Ideal S512x128 .f32) (t : Vec Ideal S9x1152x128 .bf16)
    (i : Fin 9) (j : S512x128.Idx) : payload x0 x t i j = whole x0 x t ((nodeRect i).emb j) := by
  have h1 : (((nodeRect i).emb j) 1).val = i.val * 128 + (j 1).val := by
    show i.val * 128 + 1 * (j 1).val = _; omega
  have h0 : (((nodeRect i).emb j) 0).val = 0 + (j 0).val := by
    show 0 + 1 * (j 0).val = _; omega
  have hj : (j 1).val < 128 := (j 1).isLt
  have hh : hi (((nodeRect i).emb j) 1) = i := Fin.ext (by simp only [hi, h1]; omega)
  have hl : lo (((nodeRect i).emb j) 1) = j 1 := Fin.ext (by simp only [lo, h1]; omega)
  have hr : ((nodeRect i).emb j) 0 = j 0 := Fin.ext (by omega)
  unfold whole
  rw [hh, hl, hr, eq_ix2 j]
  rfl

/-- The output block after the body is that array. -/
theorem out0_11_whole (x0 : Vec Ideal S512x9 .bf16) (x1 x2 x3 x4 x5 x6 x7 x8 x9 : Vec Ideal S512x128 .f32) (x10 : Vec Ideal S9x1152x128 .bf16) :
    out0_11 x0 x1 x2 x3 x4 x5 x6 x7 x8 x9 x10 = whole x0 ![x1, x2, x3, x4, x5, x6, x7, x8, x9] x10 := by
  rw [out0_11_eq]
  funext y
  refine View.canon_apply_of_pieces (whole x0 ![x1, x2, x3, x4, x5, x6, x7, x8, x9] x10) _ ?_ y (cover0_11 _ _ _ _ _ _ _ _ _ y)
  simp only [List.forall_mem_cons, List.not_mem_nil, false_imp_iff, implies_true, and_true]
  exact ⟨payload_eq_whole _ _ _ 8, payload_eq_whole _ _ _ 7, payload_eq_whole _ _ _ 6, payload_eq_whole _ _ _ 5, payload_eq_whole _ _ _ 4,
    payload_eq_whole _ _ _ 3, payload_eq_whole _ _ _ 2, payload_eq_whole _ _ _ 1, payload_eq_whole _ _ _ 0⟩

end Cert.KernelIdeal.Block

end
-- ==== Proof.Array.lean ====
/-
  The kernel's result array after its eight grid points, from the arrays the region starts with.
-/
module

public import proofs.«01_k».proof.Proof.BlockAt
public import Idealize.ShloMosaic.Lib.Pipeline.ValueKit.Geometry

@[expose] public section

set_option maxRecDepth 16384

noncomputable section

namespace Cert.KernelIdeal.Block

open Idealize.ShloMosaic Idealize.ShloMosaic.Pointwise Idealize.ShloMosaic.TcCoe Cert.KernelIdeal.Gen Cert.Vortex
open scoped BigOperators

variable (m : (ℓ : Loc nD τ sig) → Buf (Elt Ideal) ℓ)

/-- The result array: at row `b`, column `k`, node `hi k`'s normalized sum of messages, read from the feature array
    `X`, the transforms `T` and the rows' roots `ρ`. -/
def rows (X : Vec Ideal S4096x1152 .f32) (T : Vec Ideal S9x1152x128 .bf16) (ρ : Fin 4096 → Fin 9 → Fin 9) : Vec Ideal S4096x1152 .f32 :=
  fun i => outByRsqrt (byRoot (sources (hi (i 1))) (ρ (i 0)) (fun j d => X (ix2 (i 0) ⟨j.val * 128 + d.val, by omega⟩))
    fun a d e => T (ix3 (hi (i 1)) ⟨a.val * 128 + d.val, by omega⟩ e)) (lo (i 1))

/-- Row `r` of grid point `t`'s block, in the whole array. -/
def row (t : Fin cfg0.N) (r : Fin 512) : Fin 4096 := ⟨t.val * 512 + r.val, by have : t.val < 8 := t.isLt; omega⟩

/-- A row's number in the whole array. -/
theorem row_val (t : Fin cfg0.N) (r : Fin 512) : (row t r).val = t.val * 512 + r.val := rfl

/-- Every grid point's block of the roots, of the features of each source, of the transforms and of the result. -/
theorem index_eq : ∀ t : Fin cfg0.N, win0_0.index t = ![t.val, 0] ∧ win0_1.index t = ![t.val, 0] ∧ win0_2.index t = ![t.val, 1]
    ∧ win0_3.index t = ![t.val, 2] ∧ win0_4.index t = ![t.val, 3] ∧ win0_5.index t = ![t.val, 4] ∧ win0_6.index t = ![t.val, 5]
    ∧ win0_7.index t = ![t.val, 6] ∧ win0_8.index t = ![t.val, 7] ∧ win0_9.index t = ![t.val, 8] ∧ win0_10.index t = ![0, 0, 0]
    ∧ win0_11.index t = ![t.val, 0] := by decide +kernel

/-- The roots' block at a grid point. -/
theorem root_block (c : Dev nD) (t : Fin cfg0.N) (r : Fin 512) (j : Fin 9) :
    iblk m c 0 t (ix2 r j) = V m c main_v109 (ix2 (row t r) j) := by
  obtain ⟨e, -⟩ := index_eq t
  blk_simp [iblk]
  refine congrArg _ ?_
  blk_ext [e, row_val]

/-- The transforms' block at a grid point: all of them. -/
theorem transform_block (c : Dev nD) (t : Fin cfg0.N) (i : Fin 9) (k : Fin 1152) (e : Fin 128) :
    iblk m c 10 t (ix3 i k e) = V m c main_v111 (ix3 i k e) := by
  obtain ⟨-, -, -, -, -, -, -, -, -, -, e, -⟩ := index_eq t
  blk_simp [iblk]
  refine congrArg _ ?_
  blk_ext [e, row_val]

set_option maxHeartbeats 4000000 in
/-- The features' blocks at a grid point: nine pieces of the same rows. -/
theorem feature_blocks (c : Dev nD) (t : Fin cfg0.N) (r : Fin 512) (d : Fin 128) :
    (∀ k : Fin 1152, k.val = 0 + d.val → iblk m c 1 t (ix2 r d) = V m c main_v112 (ix2 (row t r) k))
    ∧ (∀ k : Fin 1152, k.val = 128 + d.val → iblk m c 2 t (ix2 r d) = V m c main_v112 (ix2 (row t r) k))
    ∧ (∀ k : Fin 1152, k.val = 256 + d.val → iblk m c 3 t (ix2 r d) = V m c main_v112 (ix2 (row t r) k))
    ∧ (∀ k : Fin 1152, k.val = 384 + d.val → iblk m c 4 t (ix2 r d) = V m c main_v112 (ix2 (row t r) k))
    ∧ (∀ k : Fin 1152, k.val = 512 + d.val → iblk m c 5 t (ix2 r d) = V m c main_v112 (ix2 (row t r) k))
    ∧ (∀ k : Fin 1152, k.val = 640 + d.val → iblk m c 6 t (ix2 r d) = V m c main_v112 (ix2 (row t r) k))
    ∧ (∀ k : Fin 1152, k.val = 768 + d.val → iblk m c 7 t (ix2 r d) = V m c main_v112 (ix2 (row t r) k))
    ∧ (∀ k : Fin 1152, k.val = 896 + d.val → iblk m c 8 t (ix2 r d) = V m c main_v112 (ix2 (row t r) k))
    ∧ (∀ k : Fin 1152, k.val = 1024 + d.val → iblk m c 9 t (ix2 r d) = V m c main_v112 (ix2 (row t r) k)) := by
  obtain ⟨-, e1, e2, e3, e4, e5, e6, e7, e8, e9, -⟩ := index_eq t
  refine ⟨?_, ?_, ?_, ?_, ?_, ?_, ?_, ?_, ?_⟩ <;> intro k hk <;> blk_simp [iblk] <;> generalize V m c main_v112 = X <;>
    refine congrArg X ?_ <;> blk_ext [e1, e2, e3, e4, e5, e6, e7, e8, e9, row_val]

/-- What holds of nine things, each at its place, holds of the list of them at every place. -/
theorem nine {α : Type} (P : Fin 9 → α → Prop) {f0 f1 f2 f3 f4 f5 f6 f7 f8 : α} (h0 : P 0 f0) (h1 : P 1 f1) (h2 : P 2 f2)
    (h3 : P 3 f3) (h4 : P 4 f4) (h5 : P 5 f5) (h6 : P 6 f6) (h7 : P 7 f7) (h8 : P 8 f8) (j : Fin 9) :
    P j ((![f0, f1, f2, f3, f4, f5, f6, f7, f8] : Fin 9 → α) j) := by
  fin_cases j <;> assumption

/-- The features of source `j` at a grid point. -/
theorem feature_block (c : Dev nD) (t : Fin cfg0.N) (r : Fin 512) (j : Fin 9) (d : Fin 128) :
    (![iblk m c 1 t, iblk m c 2 t, iblk m c 3 t, iblk m c 4 t, iblk m c 5 t, iblk m c 6 t, iblk m c 7 t, iblk m c 8 t, iblk m c 9 t] : Fin 9 → Vec Ideal S512x128 .f32) j (ix2 r d)
      = V m c main_v112 (ix2 (row t r) ⟨j.val * 128 + d.val, by omega⟩) := by
  obtain ⟨h0, h1, h2, h3, h4, h5, h6, h7, h8⟩ := feature_blocks m c t r d
  exact nine (fun (j : Fin 9) (f : Vec Ideal S512x128 .f32) => f (ix2 r d) = V m c main_v112 (ix2 (row t r) ⟨j.val * 128 + d.val, by omega⟩))
    (h0 _ rfl) (h1 _ rfl) (h2 _ rfl) (h3 _ rfl) (h4 _ rfl) (h5 _ rfl) (h6 _ rfl) (h7 _ rfl) (h8 _ rfl) j

/-- The result array after the run. -/
theorem arrays (c : Dev nD) (ρ : Fin 4096 → Fin 9 → Fin 9)
    (hρ : ∀ b j, V m c main_v109 (ix2 b j) = (((ρ b j).val : ℝ) : EReal)) :
    (dats m 0 c).arrAt 11 cfg0.N = rows (V m c main_v112) (V m c main_v111) ρ := by
  refine (dats m 0 c).arrAt_eq_of_covers 11 _ (by decide +kernel) fun t hf y => ?_
  obtain ⟨-, -, -, -, -, -, -, -, -, -, -, e⟩ := index_eq t
  blk_simp
  rw [after0_11, out0_11_whole]
  unfold whole rows
  have h0 : ((win0_11.blk t).view.emb y) 0 = row t (y 0) := Fin.ext (by blk_simp [e]; exact (row_val t (y 0)).symm)
  have h1 : ((win0_11.blk t).view.emb y) 1 = y 1 := Fin.ext (by blk_simp [e])
  rw [payload_apply _ _ _ _ _ _ (ρ (row t (y 0))) fun j => (root_block m c t (y 0) j).trans (hρ _ j)]
  rw [h0, h1]
  simp only [transform_block, fun j d => feature_block m c t (y 0) j d]

end Cert.KernelIdeal.Block

end
-- ==== Proof.KernelResult.lean ====
/-
  The kernel's result from its arguments: the normalized and rectified sums of messages, grouped by root.
-/
module

public import proofs.«01_k».proof.Proof.Entry
public import proofs.«01_k».proof.Proof.Array

@[expose] public section

set_option maxRecDepth 16384

noncomputable section

namespace Cert.KernelIdeal.Block

open Idealize.ShloMosaic Idealize.ShloMosaic.Pointwise Idealize.ShloMosaic.TcCoe Cert.KernelIdeal.Gen Cert.Vortex
open scoped BigOperators

variable (m : (ℓ : Loc nD τ sig) → Buf (Elt Ideal) ℓ) (c : Dev nD)

/-- What the result array ends at: the region's array, cut into nodes. -/
theorem tail_eq : Pipeline.afterTail₀ cfgs (dats m) 0 (V0 m) [hostOps1] c main_v114 =
    shapeCast S4096x9x128 ((dats m 0 c).arrAt 11 cfg0.N) shapeCasts_S4096x1152_S4096x9x128 := by
  show StableHlo.after hostOps1 _ _ = _
  rw [show hostOps1 = [_] from rfl]
  after_results
  exact congrArg (fun X => shapeCast S4096x9x128 X shapeCasts_S4096x1152_S4096x9x128)
    (Pipeline.Dat.withArrays_arrAt (dats m 0 c) sharedIn0 (V0 m c) (A_eq m c) 11)

/-- The kernel's arguments, as the specification reads them. -/
def argX (b : Fin 4096) (j : Fin 9) (d : Fin 128) : EReal := m ((c : Thread nD τ).loc main_arg0) (ix3 b j d)
/-- The transforms, as the specification reads them. -/
def argT (i a : Fin 9) (d e : Fin 128) : EReal := m ((c : Thread nD τ).loc main_arg1) (ix4 i a d e)

/-- Column `i * 128 + e` of the region's array belongs to node `i`, place `e`. -/
theorem hi_lo (i : Fin 9) (e : Fin 128) (h : i.val * 128 + e.val < 1152) :
    hi ⟨i.val * 128 + e.val, h⟩ = i ∧ lo ⟨i.val * 128 + e.val, h⟩ = e := by
  constructor
  · apply Fin.ext
    show (i.val * 128 + e.val) / 128 = i.val
    omega
  · apply Fin.ext
    show (i.val * 128 + e.val) % 128 = e.val
    omega

/-- The region's array at a row and a column of node `i`, place `e`. -/
theorem rows_apply (X : Vec Ideal S4096x1152 .f32) (T : Vec Ideal S9x1152x128 .bf16) (ρ : Fin 4096 → Fin 9 → Fin 9) (b : Fin 4096)
    (k : Fin 1152) (i : Fin 9) (e : Fin 128) (hi' : hi k = i) (lo' : lo k = e) :
    rows X T ρ (ix2 b k) = outByRsqrt (byRoot (sources i) (ρ b) (fun j d => X (ix2 b ⟨j.val * 128 + d.val, by omega⟩))
      fun a d e => T (ix3 i ⟨a.val * 128 + d.val, by omega⟩ e)) e := by
  subst hi' lo'
  rfl

/-- The result array cut into nodes, at an index. -/
theorem cut_apply (x : FVec Ideal S4096x1152 .f32) (b : Fin 4096) (i : Fin 9) (e : Fin 128) :
    shapeCast S4096x9x128 x shapeCasts_S4096x1152_S4096x9x128 (ix3 b i e) = x (ix2 b ⟨i.val * 128 + e.val, by omega⟩) := by
  pointwise

/-- The kernel's result at an index, of arguments whose rows have finite sums. -/
theorem result_apply (hx : ∀ b j, IsReal (∑ d : Fin 128, argX m c b j d)) (b : Fin 4096) (i : Fin 9) (e : Fin 128) :
    Pipeline.afterTail₀ cfgs (dats m) 0 (V0 m) [hostOps1] c main_v114 (ix3 b i e) = vortex (argX m c b) (argT m c) i e := by
  rw [tail_eq, cut_apply, arrays m c (fun b => roots (argX m c b)) fun b j => roots_eq m c hx b j]
  obtain ⟨h1, h2⟩ := hi_lo i e (by omega)
  rw [rows_apply _ _ _ b _ i e h1 h2]
  have hX : (fun (j : Fin 9) (d : Fin 128) => V m c main_v112 (ix2 b ⟨j.val * 128 + d.val, by omega⟩)) = argX m c b := by
    funext j d
    exact features_apply m c b j d _
  have hT : (fun (a : Fin 9) (d e : Fin 128) => V m c main_v111 (ix3 i ⟨a.val * 128 + d.val, by omega⟩ e)) = argT m c i := by
    funext a d e
    exact transforms_apply m c i a d e _
  exact congrArg₂ (fun X T => outByRsqrt (byRoot (sources i) (roots (argX m c b)) X T) e) hX hT

/-- A run of the kernel ends with the result of `result_apply` and its arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v114) = Pipeline.afterTail₀ cfgs (dats m) 0 (V0 m) [hostOps1] c main_v114
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v114 (Pipeline.mem_restRefs_of main_v114 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩) (run_main m ρ)

end Cert.KernelIdeal.Block

end
-- ==== Proof.RefParts.lean ====
/-
  The reference's rows: the parts its result is made of, and each part read at an index.
-/
module

public import proofs.«01_k».proof.Proof.Root
public import proofs.«01_k».proof.Proof.Gen.ReferenceIdeal

@[expose] public section

set_option maxRecDepth 16384

noncomputable section

namespace Cert.ReferenceIdeal.Rows

open Idealize.ShloMosaic Idealize.ShloMosaic.Pointwise Cert.ReferenceIdeal Cert.ReferenceIdeal.Gen Cert.Vortex
open scoped BigOperators

/-! ## The parts -/

/-- The features of one node. -/
def node (x : FVec Ideal S4096x9x128 .f32) (off : Fin 3 → Nat) (h : S4096x9x128.Slices off S4096x1x128) : FVec Ideal S4096x128 .f32 :=
  shapeCast S4096x128 (extractStridedSlice S4096x1x128 off x h) shapeCasts_S4096x1x128_S4096x128

/-- The truncated remainder of each row's sum. -/
def remainders (y : FVec Ideal S4096x128 .f32) : Vec Ideal S4096 .i32 :=
  fptosi 32 (Host.remf (Host.absf (Host.reduceAdd y (constant S_ .f32 0x00000000#32) reducesTo_S4096x128_S4096_d1 h_S_))
    (broadcastInDim S4096 ![] bcast_S_S4096 (id (constant S_ .f32 0x41100000#32))))

/-- The word of each row's root. -/
def words (y : FVec Ideal S4096x128 .f32) : Vec Ideal S4096 .i32 :=
  subi (select (cmpi .eq (remainders y) (broadcastInDim S4096 ![] bcast_S_S4096 (constantI S_ 32 0#32)))
    (broadcastInDim S4096 ![] bcast_S_S4096 (id (constantI S_ 32 9#32))) (remainders y)) (broadcastInDim S4096 ![] bcast_S_S4096 (constantI S_ 32 1#32))

/-- The roots as a column of indices, a negative one counted from the end. -/
def column (w : Vec Ideal S4096 .i32) : Vec Ideal S4096x1 .i32 :=
  broadcastInDim S4096x1 ![0] bcast_S4096_S4096x1_0 (select (cmpi .slt w (broadcastInDim S4096 ![] bcast_S_S4096 (constantI S_ 32 0#32)))
    (addi w (broadcastInDim S4096 ![] bcast_S_S4096 (constantI S_ 32 9#32))) w)

/-- One node's nine matrices. -/
def table (t : FVec Ideal S9x9x128x128 .f32) (off : Fin 4 → Nat) (h : S9x9x128x128.Slices off S1x9x128x128) : FVec Ideal S9x128x128 .f32 :=
  shapeCast S9x128x128 (extractStridedSlice S1x9x128x128 off t h) shapeCasts_S1x9x128x128_S9x128x128

/-- Which indices lie in range. -/
def inRange (k : Vec Ideal S4096x1 .i32) : Vec Ideal S4096 .i1 :=
  Host.reduce IntOp.andi (andi (cmpi .sge k (broadcastInDim S4096x1 ![] bcast_S_S4096x1 (constantI S_ 32 0#32)))
    (cmpi .sle k (broadcastInDim S4096x1 ![0, 1] bcast_S1x1_S4096x1_0_1 (broadcastInDim S1x1 ![1] bcast_S1_S1x1_1 (constantI S1 32 8#32)))))
    (constantI S_ 1 1#1) reducesTo_S4096x1_S4096_d1 h_S_

/-- The matrix each row's index picks; outside the range the fill value. -/
def picked (T : FVec Ideal S9x128x128 .f32) (k : Vec Ideal S4096x1 .i32) : FVec Ideal S4096x128x128 .f32 :=
  select (broadcastInDim S4096x128x128 ![0] bcast_S4096_S4096x128x128_0 (inRange k))
    (Host.gather gather_S9x128x128_S4096x1_S4096x128x128_12_0_n_n_0_1_1128128 T k)
    (broadcastInDim S4096x128x128 ![] bcast_S_S4096x128x128 (constant S_ .f32 0x7FC00000#32))

/-- One message: each row's features times the matrix of its root. -/
def message (T : FVec Ideal S9x128x128 .f32) (y : FVec Ideal S4096x128 .f32) : FVec Ideal S4096x128 .f32 :=
  Host.dotGeneral dot_S4096x128_S4096x128x128_S4096x128_1_1_n_2_0_0 none y (picked T (column (words y)))

/-- The rows' means, as a column. -/
def means (y : FVec Ideal S4096x128 .f32) : FVec Ideal S4096x1 .f32 :=
  Host.divf (broadcastInDim S4096x1 ![0] bcast_S4096_S4096x1_0 (Host.reduceAdd y (constant S_ .f32 0x00000000#32) reducesTo_S4096x128_S4096_d1 h_S_))
    (broadcastInDim S4096x1 ![] bcast_S_S4096x1 (constant S_ .f32 0x43000000#32))

/-- The rows less their means. -/
def centred (y : FVec Ideal S4096x128 .f32) : FVec Ideal S4096x128 .f32 :=
  subf y (broadcastInDim S4096x128 ![0, 1] bcast_S4096x1_S4096x128_0_1 (means y))

/-- One node's line of the scale or of the shift, repeated down the rows. -/
def line (g : FVec Ideal S9x128 .f32) (off : Fin 2 → Nat) (h : S9x128.Slices off S1x128) : FVec Ideal S4096x128 .f32 :=
  broadcastInDim S4096x128 ![0, 1] bcast_S1x128_S4096x128_0_1 (broadcastInDim S1x128 ![1] bcast_S128_S1x128_1
    (shapeCast S128 (extractStridedSlice S1x128 off g h) shapeCasts_S1x128_S128))

/-- The rows normalized, scaled by `g` and shifted by `b`. -/
def normalized (y g b : FVec Ideal S4096x128 .f32) : FVec Ideal S4096x128 .f32 :=
  addf (mulf (Host.divf (centred y) (broadcastInDim S4096x128 ![0, 1] bcast_S4096x1_S4096x128_0_1
    (Host.sqrt (addf (means (mulf (centred y) (centred y))) (broadcastInDim S4096x1 ![] bcast_S_S4096x1 (constant S_ .f32 0x3727C5AC#32)))))) g) b

/-- The rows rectified, as one node of the result. -/
def rectified (n : FVec Ideal S4096x128 .f32) : FVec Ideal S4096x1x128 .f32 :=
  broadcastInDim S4096x1x128 ![0, 2] bcast_S4096x128_S4096x1x128_0_2
    (select (cmpf .oge n (broadcastInDim S4096x128 ![] bcast_S_S4096x128 (constant S_ .f32 0x00000000#32))) n
      (mulf (broadcastInDim S4096x128 ![] bcast_S_S4096x128 (constant S_ .f32 0x3C23D70A#32)) n))

/-- The nine nodes of the result put together. -/
def together (u : Fin 9 → FVec Ideal S4096x1x128 .f32) : FVec Ideal S4096x9x128 .f32 :=
  concatenate S4096x9x128 1 [⟨S4096x1x128, u 0⟩, ⟨S4096x1x128, u 1⟩, ⟨S4096x1x128, u 2⟩, ⟨S4096x1x128, u 3⟩, ⟨S4096x1x128, u 4⟩, ⟨S4096x1x128, u 5⟩,
      ⟨S4096x1x128, u 6⟩, ⟨S4096x1x128, u 7⟩, ⟨S4096x1x128, u 8⟩]
    concatenates_S4096x1x128_S4096x1x128_S4096x1x128_S4096x1x128_S4096x1x128_S4096x1x128_S4096x1x128_S4096x1x128_S4096x1x128_S4096x9x128_d1

/-! ## The parts at an index -/

/-- One node's features at an index. -/
theorem node_apply (x : FVec Ideal S4096x9x128 .f32) (j : Fin 9) (h : S4096x9x128.Slices ![0, j.val, 0] S4096x1x128) (b : Fin 4096) (d : Fin 128) :
    node x ![0, j.val, 0] h (ix2 b d) = x (ix3 b j d) := by
  pointwise [node]

/-- The word of a row's root is that of the row's sum. -/
theorem words_apply (y : FVec Ideal S4096x128 .f32) (b : Fin 4096) : words y (ix1 b) = rootWord (∑ d, y (ix2 b d)) := by
  pointwise [words, remainders, rootWord, residue]
  rfl

/-- Of a word that is one of 0 … 8, the column holds it. -/
theorem column_apply (w : Vec Ideal S4096 .i32) (b : Fin 4096) (a : Fin 9) (hw : w (ix1 b) = BitVec.ofNat 32 a.val) :
    column w (ix2 b 0) = BitVec.ofNat 32 a.val := by
  pointwise [column]
  rw [hw]
  fin_cases a <;> rfl

/-- One node's matrices at an index. -/
theorem table_apply (t : FVec Ideal S9x9x128x128 .f32) (i : Fin 9) (h : S9x9x128x128.Slices ![i.val, 0, 0, 0] S1x9x128x128) (a : Fin 9) (d e : Fin 128) :
    table t ![i.val, 0, 0, 0] h (ix3 a d e) = t (ix4 i a d e) := by
  pointwise [table]

/-- An index that is one of 0 … 8 lies in range. -/
theorem inRange_apply (k : Vec Ideal S4096x1 .i32) (ρ : Fin 4096 → Fin 9) (hk : ∀ b, k (ix2 b 0) = BitVec.ofNat 32 (ρ b).val) (b : Fin 4096) :
    inRange k (ix1 b) = 1#1 := by
  have hone : ∀ i : S4096x1.Idx, andi (cmpi .sge k (broadcastInDim S4096x1 ![] bcast_S_S4096x1 (constantI S_ 32 0#32)))
      (cmpi .sle k (broadcastInDim S4096x1 ![0, 1] bcast_S1x1_S4096x1_0_1 (broadcastInDim S1x1 ![1] bcast_S1_S1x1_1 (constantI S1 32 8#32)))) i = 1#1 := by
    intro i
    obtain ⟨r, z, rfl⟩ : ∃ (r : Fin 4096) (z : Fin 1), i = ix2 r z := ⟨i 0, i 1, eq_ix2 i⟩
    obtain rfl : z = 0 := Subsingleton.elim _ _
    pointwise
    rw [hk]
    generalize ρ r = a
    fin_cases a <;> rfl
  have hfold : ∀ (l : List (Fin S4096x1.numel)) (f : Fin S4096x1.numel → BitVec 1), (∀ n, f n = 1#1) →
      l.foldl (fun r n => IntOp.andi r (f n)) 1#1 = 1#1 := by
    intro l f hf
    induction l with
    | nil => rfl
    | cons n l ih => rw [List.foldl_cons, hf, show IntOp.andi 1#1 1#1 = 1#1 from rfl, ih]
  exact hfold _ _ fun n => hone _

/-- The matrix picked by an index that is one of 0 … 8. -/
theorem gather_apply (T : FVec Ideal S9x128x128 .f32) (k : Vec Ideal S4096x1 .i32) (b : Fin 4096) (a : Fin 9) (d e : Fin 128)
    (hk : k (ix2 b 0) = BitVec.ofNat 32 a.val) :
    Host.gather gather_S9x128x128_S4096x1_S4096x128x128_12_0_n_n_0_1_1128128 T k (ix3 b d e) = T (ix3 a d e) := by
  unfold Host.gather
  congr 1
  funext x
  refine Fin.ext ?_
  generalize hG : gather_S9x128x128_S4096x1_S4096x128x128_12_0_n_n_0_1_1128128 = G
  show G.start (ix3 b d e) k x + G.batchCoord (ix3 b d e) x + G.offCoord (ix3 b d e) x = _
  subst hG
  rw [GatherDims.batchCoord_eq_zero _ _ _ List.not_mem_nil]
  have hl : ∀ n : Fin 9, min (BitVec.ofNat 32 n.val).toInt.toNat (9 - 1) = n.val := by
    intro n
    fin_cases n <;> rfl
  have hs : ∀ z : Fin 3, z ≠ 0 → gather_S9x128x128_S4096x1_S4096x128x128_12_0_n_n_0_1_1128128.start (ix3 b d e) k z = 0 := fun z hz =>
    dif_neg fun h => hz (List.mem_singleton.mp h)
  fin_cases x
  · rw [GatherDims.offCoord_eq_zero _ _ _ (fun h => ((GatherDims.mem_sKept _ _).mp h).1 (List.mem_singleton.mpr rfl))]
    show gather_S9x128x128_S4096x1_S4096x128x128_12_0_n_n_0_1_1128128.start (ix3 b d e) k (0 : Fin 3) + 0 + 0 = a.val
    unfold GatherDims.start
    rw [dif_pos (show (0 : Fin 3) ∈ gather_S9x128x128_S4096x1_S4096x128x128_12_0_n_n_0_1_1128128.startIndexMap from List.mem_singleton.mpr rfl)]
    have hsi : gather_S9x128x128_S4096x1_S4096x128x128_12_0_n_n_0_1_1128128.siIdx (ix3 b d e)
        ⟨List.idxOf (0 : Fin 3) gather_S9x128x128_S4096x1_S4096x128x128_12_0_n_n_0_1_1128128.startIndexMap,
          List.idxOf_lt_length_iff.2 (List.mem_singleton.mpr rfl)⟩ = ix2 b 0 := by
      funext z
      refine Fin.ext ?_
      fin_cases z <;> rfl
    rw [hsi, hk]
    exact hl a
  · exact (congrArg₂ (fun p q : Nat => p + 0 + q) (hs 1 (by decide)) (show gather_S9x128x128_S4096x1_S4096x128x128_12_0_n_n_0_1_1128128.offCoord (ix3 b d e) (1 : Fin 3) = d.val from rfl)).trans (by simp)
  · exact (congrArg₂ (fun p q : Nat => p + 0 + q) (hs 2 (by decide)) (show gather_S9x128x128_S4096x1_S4096x128x128_12_0_n_n_0_1_1128128.offCoord (ix3 b d e) (2 : Fin 3) = e.val from rfl)).trans (by simp)

/-- What is picked by indices that are each one of 0 … 8. -/
theorem picked_apply (T : FVec Ideal S9x128x128 .f32) (k : Vec Ideal S4096x1 .i32) (ρ : Fin 4096 → Fin 9)
    (hk : ∀ b, k (ix2 b 0) = BitVec.ofNat 32 (ρ b).val) (b : Fin 4096) (d e : Fin 128) :
    picked T k (ix3 b d e) = T (ix3 (ρ b) d e) := by
  pointwise [picked]
  rw [inRange_apply k ρ hk, gather_apply T k b (ρ b) d e (hk b)]
  rfl

/-- A message at an index, of rows with finite sums. -/
theorem message_apply (T : FVec Ideal S9x128x128 .f32) (y : FVec Ideal S4096x128 .f32) (hy : ∀ b, IsReal (∑ d, y (ix2 b d)))
    (b : Fin 4096) (e : Fin 128) :
    message T y (ix2 b e) = ∑ d, y (ix2 b d) * T (ix3 (root (∑ d, y (ix2 b d))) d e) := by
  have hk : ∀ b, column (words y) (ix2 b 0) = BitVec.ofNat 32 (root (∑ d, y (ix2 b d))).val := fun b =>
    column_apply _ b _ ((words_apply y b).trans (rootWord_eq _ (hy b)))
  pointwise [message]
  exact Finset.sum_congr rfl fun d _ => congrArg (y (ix2 b d) * ·) (picked_apply T _ (fun b => root (∑ d, y (ix2 b d))) hk b d e)

/-- The means at a row. -/
theorem means_apply (y : FVec Ideal S4096x128 .f32) (b : Fin 4096) : means y (ix2 b 0) = mean fun d => y (ix2 b d) := by
  pointwise [means, mean]

/-- The rows less their means at an index. -/
theorem centred_apply (y : FVec Ideal S4096x128 .f32) (b : Fin 4096) (e : Fin 128) :
    centred y (ix2 b e) = dev (fun d => y (ix2 b d)) e := by
  pointwise [centred, dev]
  rw [means_apply]

/-- The repeated line at an index. -/
theorem line_apply (g : FVec Ideal S9x128 .f32) (i : Fin 9) (h : S9x128.Slices ![i.val, 0] S1x128) (b : Fin 4096) (e : Fin 128) :
    line g ![i.val, 0] h (ix2 b e) = g (ix2 i e) := by
  pointwise [line]

/-- The normalized rows at an index. -/
theorem normalized_apply (y g s : FVec Ideal S4096x128 .f32) (b : Fin 4096) (e : Fin 128) :
    normalized y g s (ix2 b e) = affine (fun d => y (ix2 b d)) (g (ix2 b e)) (s (ix2 b e)) e := by
  have h : ∀ d, mulf (centred y) (centred y) (ix2 b d) = dev (fun d => y (ix2 b d)) d * dev (fun d => y (ix2 b d)) d := fun d => by
    pointwise
    rw [centred_apply]
  pointwise [normalized, affine, spread]
  simp only [means_apply, centred_apply, h]

/-- The rectified rows at an index. -/
theorem rectified_apply (n : FVec Ideal S4096x128 .f32) (b : Fin 4096) (z : Fin 1) (e : Fin 128) :
    rectified n (ix3 b z e) = leaky (n (ix2 b e)) := by
  pointwise [rectified, leaky]

/-- The nodes put together at an index. -/
theorem together_apply (u : Fin 9 → FVec Ideal S4096x1x128 .f32) (b : Fin 4096) (i : Fin 9) (e : Fin 128) :
    together u (ix3 b i e) = u i (ix3 b 0 e) :=
  concatenate_ofFn_apply (t := S4096x9x128) (s₁ := S4096x1x128) 1 u
    concatenates_S4096x1x128_S4096x1x128_S4096x1x128_S4096x1x128_S4096x1x128_S4096x1x128_S4096x1x128_S4096x1x128_S4096x1x128_S4096x9x128_d1 rfl 1 rfl
    (ix3 b i e) i (by show i.val / 1 = i.val; omega) (ix3 b 0 e) (by show 0 = i.val % 1; omega) (by
      intro a ha
      fin_cases a
      · rfl
      · exact absurd rfl ha
      · rfl)

end Cert.ReferenceIdeal.Rows

end
-- ==== Proof.RefSum.lean ====
/-
  The reference's result as a function of its arguments, put together from its parts and read at an index.
-/
module

public import proofs.«01_k».proof.Proof.RefParts

@[expose] public section

set_option maxRecDepth 16384

noncomputable section

namespace Cert.ReferenceIdeal.Rows

open Idealize.ShloMosaic Idealize.ShloMosaic.Pointwise Cert.ReferenceIdeal Cert.ReferenceIdeal.Gen Cert.Vortex
open scoped BigOperators

/-- One node may be cut out of the features. -/
theorem slicesX (j : Fin 9) : S4096x9x128.Slices ![0, j.val, 0] S4096x1x128 := by
  fin_cases j
  · exact slices_S4096x9x128_S4096x1x128_0_0_0
  · exact slices_S4096x9x128_S4096x1x128_0_1_0
  · exact slices_S4096x9x128_S4096x1x128_0_2_0
  · exact slices_S4096x9x128_S4096x1x128_0_3_0
  · exact slices_S4096x9x128_S4096x1x128_0_4_0
  · exact slices_S4096x9x128_S4096x1x128_0_5_0
  · exact slices_S4096x9x128_S4096x1x128_0_6_0
  · exact slices_S4096x9x128_S4096x1x128_0_7_0
  · exact slices_S4096x9x128_S4096x1x128_0_8_0

/-- One node may be cut out of the transforms. -/
theorem slicesT (i : Fin 9) : S9x9x128x128.Slices ![i.val, 0, 0, 0] S1x9x128x128 := by
  fin_cases i
  · exact slices_S9x9x128x128_S1x9x128x128_0_0_0_0
  · exact slices_S9x9x128x128_S1x9x128x128_1_0_0_0
  · exact slices_S9x9x128x128_S1x9x128x128_2_0_0_0
  · exact slices_S9x9x128x128_S1x9x128x128_3_0_0_0
  · exact slices_S9x9x128x128_S1x9x128x128_4_0_0_0
  · exact slices_S9x9x128x128_S1x9x128x128_5_0_0_0
  · exact slices_S9x9x128x128_S1x9x128x128_6_0_0_0
  · exact slices_S9x9x128x128_S1x9x128x128_7_0_0_0
  · exact slices_S9x9x128x128_S1x9x128x128_8_0_0_0

/-- One node's line may be cut out of the scale or the shift. -/
theorem slicesG (i : Fin 9) : S9x128.Slices ![i.val, 0] S1x128 := by
  fin_cases i
  · exact slices_S9x128_S1x128_0_0
  · exact slices_S9x128_S1x128_1_0
  · exact slices_S9x128_S1x128_2_0
  · exact slices_S9x128_S1x128_3_0
  · exact slices_S9x128_S1x128_4_0
  · exact slices_S9x128_S1x128_5_0
  · exact slices_S9x128_S1x128_6_0
  · exact slices_S9x128_S1x128_7_0
  · exact slices_S9x128_S1x128_8_0

/-- The message from node `j` to node `i`. -/
def messageFrom (x : FVec Ideal S4096x9x128 .f32) (t : FVec Ideal S9x9x128x128 .f32) (i j : Fin 9) : FVec Ideal S4096x128 .f32 :=
  message (table t ![i.val, 0, 0, 0] (slicesT i)) (node x ![0, j.val, 0] (slicesX j))

/-- The messages to node `i` added up, its own first. -/
def total (x : FVec Ideal S4096x9x128 .f32) (t : FVec Ideal S9x9x128x128 .f32) (i : Fin 9) : FVec Ideal S4096x128 .f32 :=
  (sources i).tail.foldl (fun acc j => addf acc (messageFrom x t i j)) (messageFrom x t i i)

/-- Node `i` of the result before the rectifier. -/
def before (x : FVec Ideal S4096x9x128 .f32) (t : FVec Ideal S9x9x128x128 .f32) (g s : FVec Ideal S9x128 .f32) (i : Fin 9) : FVec Ideal S4096x128 .f32 :=
  normalized (total x t i) (line g ![i.val, 0] (slicesG i)) (line s ![i.val, 0] (slicesG i))

/-- The whole result. -/
def result (x : FVec Ideal S4096x9x128 .f32) (t : FVec Ideal S9x9x128x128 .f32) (g s : FVec Ideal S9x128 .f32) : FVec Ideal S4096x9x128 .f32 :=
  together fun i => rectified (before x t g s i)

/-- A message at an index. -/
theorem messageFrom_apply (x : FVec Ideal S4096x9x128 .f32) (t : FVec Ideal S9x9x128x128 .f32)
    (hx : ∀ b j, IsReal (∑ d : Fin 128, x (ix3 b j d))) (i j : Fin 9) (b : Fin 4096) (e : Fin 128) :
    messageFrom x t i j (ix2 b e) = ∑ d, x (ix3 b j d) * t (ix4 i (roots (fun j d => x (ix3 b j d)) j) d e) := by
  have h := message_apply (table t ![i.val, 0, 0, 0] (slicesT i)) (node x ![0, j.val, 0] (slicesX j))
    (fun b => by simpa only [node_apply] using hx b j) b e
  simp only [node_apply, table_apply] at h
  exact h

/-- Rows added one after another to a first one, at an index. -/
theorem foldl_apply (f : Fin 9 → FVec Ideal S4096x128 .f32) (l : List (Fin 9)) (a : FVec Ideal S4096x128 .f32) (k : S4096x128.Idx) :
    l.foldl (fun acc j => addf acc (f j)) a k = (a k + (l.map fun j => (f j k : EReal)).sum : EReal) := by
  induction l generalizing a with
  | nil => simp
  | cons j l ih =>
    rw [List.foldl_cons, ih, List.map_cons, List.sum_cons, ← add_assoc]
    rfl

/-- The sum of the messages at an index. -/
theorem total_apply (x : FVec Ideal S4096x9x128 .f32) (t : FVec Ideal S9x9x128x128 .f32)
    (hx : ∀ b j, IsReal (∑ d : Fin 128, x (ix3 b j d))) (i : Fin 9) (b : Fin 4096) (e : Fin 128) :
    total x t i (ix2 b e) = bySource (sources i) (roots fun j d => x (ix3 b j d)) (fun j d => x (ix3 b j d)) (fun a d e => t (ix4 i a d e)) e := by
  have hs : sources i = i :: (sources i).tail := by
    fin_cases i <;> rfl
  rw [total, foldl_apply, bySource]
  conv_rhs => rw [hs, List.map_cons, List.sum_cons]
  simp only [messageFrom_apply x t hx]

/-- The result at an index. -/
theorem result_apply (x : FVec Ideal S4096x9x128 .f32) (t : FVec Ideal S9x9x128x128 .f32) (g s : FVec Ideal S9x128 .f32)
    (hx : ∀ b j, IsReal (∑ d : Fin 128, x (ix3 b j d))) (b : Fin 4096) (i : Fin 9) (e : Fin 128) :
    result x t g s (ix3 b i e) = leaky (affine (bySource (sources i) (roots fun j d => x (ix3 b j d)) (fun j d => x (ix3 b j d))
      fun a d e => t (ix4 i a d e)) (g (ix2 i e)) (s (ix2 i e)) e) := by
  rw [result, together_apply, rectified_apply, before, normalized_apply, line_apply, line_apply]
  simp only [total_apply x t hx]

end Cert.ReferenceIdeal.Rows

end
-- ==== Proof.Ref.lean ====
/-
  The reference's run: its result buffer holds the function of its arguments that its parts make up.
-/
module

public import proofs.«01_k».proof.Proof.RefSum
public import proofs.«01_k».proof.Proof.Gen.ReferenceIdeal.Run

@[expose] public section

set_option maxRecDepth 16384

noncomputable section

namespace Cert.ReferenceIdeal.Rows

open Idealize.ShloMosaic Idealize.ShloMosaic.TcCoe Cert.ReferenceIdeal Cert.ReferenceIdeal.Gen Cert.ReferenceIdeal.Value

variable (V : Valuation τ sig (Elt Ideal))

/-- The features among the launch contents. -/
abbrev argX : FVec Ideal S4096x9x128 .f32 := V (Proc.devRef .tc main_arg0)
/-- The transforms among the launch contents. -/
abbrev argT : FVec Ideal S9x9x128x128 .f32 := V (Proc.devRef .tc main_arg1)
/-- The scale among the launch contents. -/
abbrev argG : FVec Ideal S9x128 .f32 := V (Proc.devRef .tc main_arg2)
/-- The shift among the launch contents. -/
abbrev argS : FVec Ideal S9x128 .f32 := V (Proc.devRef .tc main_arg3)

/-- Each node's sum of messages in the run is the one its parts make up. -/
theorem totals_eq :
    res_main_v62 V = total (argX V) (argT V) 0 ∧
    res_main_v158 V = total (argX V) (argT V) 1 ∧
    res_main_v238 V = total (argX V) (argT V) 2 ∧
    res_main_v334 V = total (argX V) (argT V) 3 ∧
    res_main_v430 V = total (argX V) (argT V) 4 ∧
    res_main_v510 V = total (argX V) (argT V) 5 ∧
    res_main_v606 V = total (argX V) (argT V) 6 ∧
    res_main_v702 V = total (argX V) (argT V) 7 ∧
    res_main_v878 V = total (argX V) (argT V) 8 :=
  ⟨rfl, rfl, rfl, rfl, rfl, rfl, rfl, rfl, rfl⟩

/-- Each node before the rectifier is, in the run, the one its parts make up. -/
theorem nodes_eq :
    res_main_v90 V = before (argX V) (argT V) (argG V) (argS V) 0 ∧
    res_main_v186 V = before (argX V) (argT V) (argG V) (argS V) 1 ∧
    res_main_v266 V = before (argX V) (argT V) (argG V) (argS V) 2 ∧
    res_main_v362 V = before (argX V) (argT V) (argG V) (argS V) 3 ∧
    res_main_v458 V = before (argX V) (argT V) (argG V) (argS V) 4 ∧
    res_main_v538 V = before (argX V) (argT V) (argG V) (argS V) 5 ∧
    res_main_v634 V = before (argX V) (argT V) (argG V) (argS V) 6 ∧
    res_main_v730 V = before (argX V) (argT V) (argG V) (argS V) 7 ∧
    res_main_v906 V = before (argX V) (argT V) (argG V) (argS V) 8 := by
  obtain ⟨h0, h1, h2, h3, h4, h5, h6, h7, h8⟩ := totals_eq V
  simp only [before, ← h0, ← h1, ← h2, ← h3, ← h4, ← h5, ← h6, ← h7, ← h8]
  exact ⟨rfl, rfl, rfl, rfl, rfl, rfl, rfl, rfl, rfl⟩

/-- A run of the reference ends with `result` of its arguments in the result buffer and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v921) = result (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2⟩) (Value.run m ρ)
  obtain ⟨h0, h1, h2, h3, h4, h5, h6, h7, h8⟩ := nodes_eq (StableHlo.launchContents m c)
  rw [h0, h1, h2, h3, h4, h5, h6, h7, h8]
  rfl

end Cert.ReferenceIdeal.Rows

end
-- ==== Proof.Agree.lean ====
/-
  The precondition decoded, and the agreement of the reference's and the kernel's row under it.
-/
module

public import proofs.«01_k».proof.Proof.Root
public import Idealize.ShloMosaic.Lib.IdealHost
public import proofs.«01_k».proof.Pre_finite_unit_affine

@[expose] public section

noncomputable section

namespace Cert.Vortex

open Idealize.ShloMosaic Idealize.ShloMosaic.Pointwise Cert.Pre_finite_unit_affine
open scoped BigOperators

/-- The facts the precondition's printed form states: a constant may be repeated over each of its three shapes. -/
theorem preFacts : Cert.Pre_finite_unit_affine.Facts where
  bcast_S_S4096x9x128 := by decide
  bcast_S_S9x9x128x128 := by decide
  bcast_S_S9x128 := by decide

/-- The word of infinity is the top of the extended reals. -/
theorem ofBits_inf : Ideal.ofBits .f32 0x7F800000#32 = ⊤ := by
  simp [Ideal.ofBits, Ideal.ieee]

/-- An entry that compares below infinity in absolute value is finite. -/
theorem isReal_of_cmp (v : EReal) (h : Ideal.cmp .olt (max v (-v)) (Ideal.ofBits .f32 0x7F800000#32) = 1#1) : IsReal v := by
  rw [ofBits_inf] at h
  refine isReal_of_abs_lt v ?_
  by_contra hn
  simp [Ideal.cmp, hn] at h

/-- Values that compare equal are equal. -/
theorem eq_of_cmp (v w : EReal) (h : Ideal.cmp .oeq v w = 1#1) : v = w := by
  by_contra hn
  simp [Ideal.cmp, hn] at h

/-- The reference's row at finite operands, scale 1 and shift 0 is the kernel's. -/
theorem leaky_eq_vortex (x : Fin 9 → Fin 128 → EReal) (t : Fin 9 → Fin 9 → Fin 128 → Fin 128 → EReal)
    (hx : ∀ j d, IsReal (x j d)) (ht : ∀ i a d e, IsReal (t i a d e)) (i : Fin 9) (e : Fin 128) :
    leaky (affine (bySource (sources i) (roots x) x (t i)) 1 0 e) = vortex x t i e := by
  rw [leaky_affine_eq _ (isReal_bySource _ _ _ _ hx (ht i)), vortex]
  exact congrArg (fun y => outByRsqrt y e) (funext fun e => (byRoot_eq_bySource _ _ _ _ hx (ht i) e).symm)

/-- A sum of finite features is finite. -/
theorem isReal_sum (f : Fin 128 → EReal) (hf : ∀ d, IsReal (f d)) : IsReal (∑ d, f d) := by
  choose r hr using hf
  exact ⟨∑ d, r d, by simp only [hr, coe_sum]⟩

section
variable [Cert.Pre_finite_unit_affine.Facts]
variable (x : FVec Ideal S4096x9x128 .f32) (t : FVec Ideal S9x9x128x128 .f32) (g s : FVec Ideal S9x128 .f32)

/-- The precondition's first part: every feature is finite. -/
theorem finite_features (h : (fn (F := Ideal) x t g s).1 = fun _ => 1#1) (k : S4096x9x128.Idx) : IsReal (x k) :=
  isReal_of_cmp _ (congrFun h k)

/-- Its second part: every transform entry is finite. -/
theorem finite_transforms (h : (fn (F := Ideal) x t g s).2.1 = fun _ => 1#1) (k : S9x9x128x128.Idx) : IsReal (t k) :=
  isReal_of_cmp _ (congrFun h k)

/-- Its third part: the scale is one. -/
theorem unit_scale (h : (fn (F := Ideal) x t g s).2.2.1 = fun _ => 1#1) (k : S9x128.Idx) : g k = (1 : EReal) :=
  (eq_of_cmp _ _ (congrFun h k)).trans Ideal.ofBits_one_f32

/-- Its fourth part: the shift is zero. -/
theorem zero_shift (h : (fn (F := Ideal) x t g s).2.2.2 = fun _ => 1#1) (k : S9x128.Idx) : s k = (0 : EReal) :=
  (eq_of_cmp _ _ (congrFun h k)).trans Ideal.ofBits_zero_f32

end

end Cert.Vortex

end
-- ==== Proof.lean ====
/-
  The certificate: the frames of the kernel, of its idealization and of the reference's idealization, and the equality of
  the two idealizations' results under the precondition.
-/
module

public import proofs.«01_k».proof.Defs
public import proofs.«01_k».proof.Proof.Gen.Kernel.Frame
public import proofs.«01_k».proof.Proof.KernelResult
public import proofs.«01_k».proof.Proof.Ref
public import proofs.«01_k».proof.Proof.Agree
public import Idealize.ShloMosaic.Adequacy
public import Idealize.ShloMosaic.Init

@[expose] public section

noncomputable section

namespace Cert.Proof

open Idealize.ShloMosaic Idealize.ShloMosaic.Pointwise Idealize.SL.Sem Cert.Vortex
open scoped BigOperators

/-- The facts the precondition's printed form states. -/
instance pre_facts : Cert.Pre_finite_unit_affine.Facts := preFacts

/-- The kernel runs, leaves its arguments alone and ends with every counter at zero. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- So does the reference's idealization, which declares no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Rows.run m ρ)

/-- The two results agree, entry by entry, on arguments that satisfy the precondition. -/
theorem results_agree (m : (ℓ : Loc Cert.KernelIdeal.nD Cert.KernelIdeal.τ Cert.KernelIdeal.sig) → Buf (Elt Ideal) ℓ)
    (h : Cert.Pre_KernelIdeal_finite_unit_affine m) (c : Dev Cert.KernelIdeal.nD) :
    Cert.ReferenceIdeal.Rows.result (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = Pipeline.afterTail₀ Cert.KernelIdeal.cfgs (Cert.KernelIdeal.Gen.dats m) 0 (Cert.KernelIdeal.Gen.V0 m) [Cert.KernelIdeal.Gen.hostOps1] c Cert.KernelIdeal.main_v114 := by
  obtain ⟨hx, ht, hg, hs⟩ := h c
  have hx := finite_features _ _ _ _ hx
  have ht := finite_transforms _ _ _ _ ht
  have hsum := fun (b : Fin 4096) (j : Fin 9) => isReal_sum (fun d => Cert.KernelIdeal.Block.argX m c b j d) fun d => hx (ix3 b j d)
  funext k
  obtain ⟨b, i, e, rfl⟩ : ∃ (b : Fin 4096) (i : Fin 9) (e : Fin 128), k = ix3 b i e := ⟨k 0, k 1, k 2, eq_ix3 k⟩
  refine (Cert.ReferenceIdeal.Rows.result_apply _ _ _ _ hsum b i e).trans ?_
  rw [unit_scale _ _ _ _ hg, zero_shift _ _ _ _ hs]
  refine (leaky_eq_vortex _ (fun i a d e => m ((c.tc : Thread Cert.KernelIdeal.nD Cert.KernelIdeal.τ).loc Cert.KernelIdeal.main_arg1) (ix4 i a d e))
    (fun j d => hx (ix3 b j d)) (fun i a d e => ht (ix4 i a d e)) i e).trans ?_
  exact (Cert.KernelIdeal.Block.result_apply m c hsum b i e).symm

/-- The kernel's idealization and the reference's compute the same result over the extended reals. -/
theorem algebraic : Cert.algebraic_KernelIdeal_ReferenceIdeal_pre_finite_unit_affine := by
  intro m g m' g' hpre hagree
  refine ⟨_, Cert.KernelIdeal.Block.run m g, (θ_run Cert.ReferenceIdeal.defs _ _).mono (fun r h c => ⟨(h c).1.trans ?_, (h c).2⟩)
    (Cert.ReferenceIdeal.Rows.run m' g')⟩
  obtain ⟨h0, h1, h2, h3⟩ := hagree c
  rw [h0, h1, h2, h3]
  exact results_agree m hpre c

/-- Every claim. -/
theorem claim : Cert.Claim :=
  ⟨Cert.Kernel.Gen.facts, Cert.KernelIdeal.Gen.facts, Cert.ReferenceIdeal.Gen.facts, preFacts, frame_kernel, frame_ideal,
    fun m ρ _ => frame_ideal m ρ trivial, frame_reference, fun m ρ _ => frame_reference m ρ trivial, trivial, algebraic⟩

end Cert.Proof

end
